-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S2048x1024 : Shape := ⟨2, ![2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S1x2048x1024 .f32) (main_arg1 : FVec F S1024x1024 .f32) (main_arg2 : FVec F S2048x1024 .f32) (main_arg3 : FVec F S2048x1024 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x1024 : Shape := ⟨2, ![1024, 1024]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S1x2048x1024 .f32) (main_arg1 : FVec F S1024x1024 .f32) (main_arg2 : FVec F S16384x1024 .f32) (main_arg3 : FVec F S16384x1024 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S2048x1024 : Shape := ⟨2, ![2048, 1024]⟩
abbrev S512x1024 : Shape := ⟨2, ![512, 1024]⟩
abbrev S512x2048 : Shape := ⟨2, ![512, 2048]⟩
abbrev S16 : Shape := ⟨1, ![16]⟩
abbrev S2 : Shape := ⟨1, ![2]⟩
abbrev S_ : Shape := ⟨0, ![]⟩
abbrev S1 : Shape := ⟨1, ![1]⟩
abbrev S256x1024 : Shape := ⟨2, ![256, 1024]⟩
abbrev S1x512x1024 : Shape := ⟨3, ![1, 512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩

abbrev nBuf : Space → Nat
  | .hbm => 6
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2048x1024, .f32⟩
  | .local _ .vmem, ⟨5, _⟩ => ⟨S2048x1024, .f32⟩
  | .local _ .vmem, ⟨6, _⟩ => ⟨S512x1024, .f32⟩
  | .local _ .vmem, ⟨7, _⟩ => ⟨S512x2048, .f32⟩
  | .local _ .vmem, ⟨8, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let v20 : BitVec 1 := Scalar.cmpi .eq v2 c0_i32_26
  let v21 : BitVec 32 := Scalar.extui v20
  let c0_i32_27 : BitVec 32 := 0#32
  let v22 : BitVec 1 := Scalar.cmpi .ne v21 c0_i32_27
  v22

def k0_dev9 : Nat :=
  let c0_i32_179 : BitVec 32 := 0#32
  let c1_i32_177 : BitVec 32 := 1#32
  let c1_i32_178 : BitVec 32 := 1#32
  let v195 : BitVec 32 := Scalar.muli c1_i32_177 c1_i32_178
  let v196 : BitVec 32 := Scalar.addi c0_i32_179 v195
  v196.toNat
def k0_dev10 : Nat :=
  let c0_i32_188 : BitVec 32 := 0#32
  let c3_i32_186 : BitVec 32 := 3#32
  let c1_i32_187 : BitVec 32 := 1#32
  let v203 : BitVec 32 := Scalar.muli c3_i32_186 c1_i32_187
  let v204 : BitVec 32 := Scalar.addi c0_i32_188 v203
  v204.toNat
def k0_dev11 : Nat :=
  let c0_i32_196 : BitVec 32 := 0#32
  let c4_i32_194 : BitVec 32 := 4#32
  let c1_i32_195 : BitVec 32 := 1#32
  let v211 : BitVec 32 := Scalar.muli c4_i32_194 c1_i32_195
  let v212 : BitVec 32 := Scalar.addi c0_i32_196 v211
  v212.toNat
def k0_dev12 : Nat :=
  let c0_i32_204 : BitVec 32 := 0#32
  let c1_i32_202 : BitVec 32 := 1#32
  let c1_i32_203 : BitVec 32 := 1#32
  let v219 : BitVec 32 := Scalar.muli c1_i32_202 c1_i32_203
  let v220 : BitVec 32 := Scalar.addi c0_i32_204 v219
  v220.toNat
def k0_dev13 : Nat :=
  let c0_i32_212 : BitVec 32 := 0#32
  let c3_i32_210 : BitVec 32 := 3#32
  let c1_i32_211 : BitVec 32 := 1#32
  let v227 : BitVec 32 := Scalar.muli c3_i32_210 c1_i32_211
  let v228 : BitVec 32 := Scalar.addi c0_i32_212 v227
  v228.toNat
def k0_dev14 : Nat :=
  let c0_i32_220 : BitVec 32 := 0#32
  let c4_i32_218 : BitVec 32 := 4#32
  let c1_i32_219 : BitVec 32 := 1#32
  let v235 : BitVec 32 := Scalar.muli c4_i32_218 c1_i32_219
  let v236 : BitVec 32 := Scalar.addi c0_i32_220 v235
  v236.toNat
def k0_dev15 : Nat :=
  let c0_i32_228 : BitVec 32 := 0#32
  let c1_i32_226 : BitVec 32 := 1#32
  let c1_i32_227 : BitVec 32 := 1#32
  let v243 : BitVec 32 := Scalar.muli c1_i32_226 c1_i32_227
  let v244 : BitVec 32 := Scalar.addi c0_i32_228 v243
  v244.toNat
def k0_dev16 : Nat :=
  let c0_i32_236 : BitVec 32 := 0#32
  let c3_i32_234 : BitVec 32 := 3#32
  let c1_i32_235 : BitVec 32 := 1#32
  let v251 : BitVec 32 := Scalar.muli c3_i32_234 c1_i32_235
  let v252 : BitVec 32 := Scalar.addi c0_i32_236 v251
  v252.toNat
def k0_dev17 : Nat :=
  let c0_i32_244 : BitVec 32 := 0#32
  let c4_i32_242 : BitVec 32 := 4#32
  let c1_i32_243 : BitVec 32 := 1#32
  let v259 : BitVec 32 := Scalar.muli c4_i32_242 c1_i32_243
  let v260 : BitVec 32 := Scalar.addi c0_i32_244 v259
  v260.toNat
def k0_dev18 : Nat :=
  let c0_i32_252 : BitVec 32 := 0#32
  let c1_i32_250 : BitVec 32 := 1#32
  let c1_i32_251 : BitVec 32 := 1#32
  let v267 : BitVec 32 := Scalar.muli c1_i32_250 c1_i32_251
  let v268 : BitVec 32 := Scalar.addi c0_i32_252 v267
  v268.toNat
def k0_dev19 : Nat :=
  let c0_i32_260 : BitVec 32 := 0#32
  let c3_i32_258 : BitVec 32 := 3#32
  let c1_i32_259 : BitVec 32 := 1#32
  let v275 : BitVec 32 := Scalar.muli c3_i32_258 c1_i32_259
  let v276 : BitVec 32 := Scalar.addi c0_i32_260 v275
  v276.toNat
def k0_dev20 : Nat :=
  let c0_i32_268 : BitVec 32 := 0#32
  let c4_i32_266 : BitVec 32 := 4#32
  let c1_i32_267 : BitVec 32 := 1#32
  let v283 : BitVec 32 := Scalar.muli c4_i32_266 c1_i32_267
  let v284 : BitVec 32 := Scalar.addi c0_i32_268 v283
  v284.toNat
def k0_dev21 : Nat :=
  let c0_i32_276 : BitVec 32 := 0#32
  let c1_i32_274 : BitVec 32 := 1#32
  let c1_i32_275 : BitVec 32 := 1#32
  let v291 : BitVec 32 := Scalar.muli c1_i32_274 c1_i32_275
  let v292 : BitVec 32 := Scalar.addi c0_i32_276 v291
  v292.toNat
def k0_dev22 : Nat :=
  let c0_i32_284 : BitVec 32 := 0#32
  let c3_i32_282 : BitVec 32 := 3#32
  let c1_i32_283 : BitVec 32 := 1#32
  let v299 : BitVec 32 := Scalar.muli c3_i32_282 c1_i32_283
  let v300 : BitVec 32 := Scalar.addi c0_i32_284 v299
  v300.toNat
def k0_dev23 : Nat :=
  let c0_i32_292 : BitVec 32 := 0#32
  let c4_i32_290 : BitVec 32 := 4#32
  let c1_i32_291 : BitVec 32 := 1#32
  let v307 : BitVec 32 := Scalar.muli c4_i32_290 c1_i32_291
  let v308 : BitVec 32 := Scalar.addi c0_i32_292 v307
  v308.toNat
def k0_dev24 : Nat :=
  let c0_i32_300 : BitVec 32 := 0#32
  let c1_i32_298 : BitVec 32 := 1#32
  let c1_i32_299 : BitVec 32 := 1#32
  let v315 : BitVec 32 := Scalar.muli c1_i32_298 c1_i32_299
  let v316 : BitVec 32 := Scalar.addi c0_i32_300 v315
  v316.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v23 : BitVec 1 := Scalar.cmpi .eq v2 c1_i32_28
  let v24 : BitVec 32 := Scalar.extui v23
  let c0_i32_29 : BitVec 32 := 0#32
  let v25 : BitVec 1 := Scalar.cmpi .ne v24 c0_i32_29
  v25

def k0_dev25 : Nat :=
  let c0_i32_188 : BitVec 32 := 0#32
  let c2_i32_186 : BitVec 32 := 2#32
  let c1_i32_187 : BitVec 32 := 1#32
  let v201 : BitVec 32 := Scalar.muli c2_i32_186 c1_i32_187
  let v202 : BitVec 32 := Scalar.addi c0_i32_188 v201
  v202.toNat
def k0_dev26 : Nat :=
  let c0_i32_197 : BitVec 32 := 0#32
  let c5_i32_195 : BitVec 32 := 5#32
  let c1_i32_196 : BitVec 32 := 1#32
  let v209 : BitVec 32 := Scalar.muli c5_i32_195 c1_i32_196
  let v210 : BitVec 32 := Scalar.addi c0_i32_197 v209
  v210.toNat
def k0_dev27 : Nat :=
  let c0_i32_222 : BitVec 32 := 0#32
  let c2_i32_220 : BitVec 32 := 2#32
  let c1_i32_221 : BitVec 32 := 1#32
  let v229 : BitVec 32 := Scalar.muli c2_i32_220 c1_i32_221
  let v230 : BitVec 32 := Scalar.addi c0_i32_222 v229
  v230.toNat
def k0_dev28 : Nat :=
  let c0_i32_231 : BitVec 32 := 0#32
  let c5_i32_229 : BitVec 32 := 5#32
  let c1_i32_230 : BitVec 32 := 1#32
  let v237 : BitVec 32 := Scalar.muli c5_i32_229 c1_i32_230
  let v238 : BitVec 32 := Scalar.addi c0_i32_231 v237
  v238.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_30 : BitVec 32 := 2#32
  let v26 : BitVec 1 := Scalar.cmpi .eq v2 c2_i32_30
  let v27 : BitVec 32 := Scalar.extui v26
  let c0_i32_31 : BitVec 32 := 0#32
  let v28 : BitVec 1 := Scalar.cmpi .ne v27 c0_i32_31
  v28

def k0_dev29 : Nat :=
  let c0_i32_188 : BitVec 32 := 0#32
  let c3_i32_186 : BitVec 32 := 3#32
  let c1_i32_187 : BitVec 32 := 1#32
  let v201 : BitVec 32 := Scalar.muli c3_i32_186 c1_i32_187
  let v202 : BitVec 32 := Scalar.addi c0_i32_188 v201
  v202.toNat
def k0_dev30 : Nat :=
  let c0_i32_197 : BitVec 32 := 0#32
  let c6_i32_195 : BitVec 32 := 6#32
  let c1_i32_196 : BitVec 32 := 1#32
  let v209 : BitVec 32 := Scalar.muli c6_i32_195 c1_i32_196
  let v210 : BitVec 32 := Scalar.addi c0_i32_197 v209
  v210.toNat
def k0_dev31 : Nat :=
  let c0_i32_214 : BitVec 32 := 0#32
  let c1_i32_212 : BitVec 32 := 1#32
  let c1_i32_213 : BitVec 32 := 1#32
  let v223 : BitVec 32 := Scalar.muli c1_i32_212 c1_i32_213
  let v224 : BitVec 32 := Scalar.addi c0_i32_214 v223
  v224.toNat
def k0_dev32 : Nat :=
  let c0_i32_231 : BitVec 32 := 0#32
  let c3_i32_229 : BitVec 32 := 3#32
  let c1_i32_230 : BitVec 32 := 1#32
  let v237 : BitVec 32 := Scalar.muli c3_i32_229 c1_i32_230
  let v238 : BitVec 32 := Scalar.addi c0_i32_231 v237
  v238.toNat
def k0_dev33 : Nat :=
  let c0_i32_240 : BitVec 32 := 0#32
  let c6_i32_238 : BitVec 32 := 6#32
  let c1_i32_239 : BitVec 32 := 1#32
  let v245 : BitVec 32 := Scalar.muli c6_i32_238 c1_i32_239
  let v246 : BitVec 32 := Scalar.addi c0_i32_240 v245
  v246.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v29 : BitVec 1 := Scalar.cmpi .eq v2 c3_i32_32
  let v30 : BitVec 32 := Scalar.extui v29
  let c0_i32_33 : BitVec 32 := 0#32
  let v31 : BitVec 1 := Scalar.cmpi .ne v30 c0_i32_33
  v31

def k0_dev34 : Nat :=
  let c0_i32_187 : BitVec 32 := 0#32
  let c7_i32_185 : BitVec 32 := 7#32
  let c1_i32_186 : BitVec 32 := 1#32
  let v201 : BitVec 32 := Scalar.muli c7_i32_185 c1_i32_186
  let v202 : BitVec 32 := Scalar.addi c0_i32_187 v201
  v202.toNat
def k0_dev35 : Nat :=
  let c0_i32_196 : BitVec 32 := 0#32
  let c2_i32_194 : BitVec 32 := 2#32
  let c1_i32_195 : BitVec 32 := 1#32
  let v209 : BitVec 32 := Scalar.muli c2_i32_194 c1_i32_195
  let v210 : BitVec 32 := Scalar.addi c0_i32_196 v209
  v210.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v32 : BitVec 1 := Scalar.cmpi .eq v2 c4_i32_34
  let v33 : BitVec 32 := Scalar.extui v32
  let c0_i32_35 : BitVec 32 := 0#32
  let v34 : BitVec 1 := Scalar.cmpi .ne v33 c0_i32_35
  v34

def k0_dev36 : Nat :=
  let c0_i32_205 : BitVec 32 := 0#32
  let c5_i32_203 : BitVec 32 := 5#32
  let c1_i32_204 : BitVec 32 := 1#32
  let v213 : BitVec 32 := Scalar.muli c5_i32_203 c1_i32_204
  let v214 : BitVec 32 := Scalar.addi c0_i32_205 v213
  v214.toNat
def k0_dev37 : Nat :=
  let c0_i32_214 : BitVec 32 := 0#32
  let c7_i32_212 : BitVec 32 := 7#32
  let c1_i32_213 : BitVec 32 := 1#32
  let v221 : BitVec 32 := Scalar.muli c7_i32_212 c1_i32_213
  let v222 : BitVec 32 := Scalar.addi c0_i32_214 v221
  v222.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_36 : BitVec 32 := 5#32
  let v35 : BitVec 1 := Scalar.cmpi .eq v2 c5_i32_36
  let v36 : BitVec 32 := Scalar.extui v35
  let c0_i32_37 : BitVec 32 := 0#32
  let v37 : BitVec 1 := Scalar.cmpi .ne v36 c0_i32_37
  v37

def k0_dev38 : Nat :=
  let c0_i32_188 : BitVec 32 := 0#32
  let c4_i32_186 : BitVec 32 := 4#32
  let c1_i32_187 : BitVec 32 := 1#32
  let v201 : BitVec 32 := Scalar.muli c4_i32_186 c1_i32_187
  let v202 : BitVec 32 := Scalar.addi c0_i32_188 v201
  v202.toNat
def k0_dev39 : Nat :=
  let c0_i32_214 : BitVec 32 := 0#32
  let c1_i32_212 : BitVec 32 := 1#32
  let c1_i32_213 : BitVec 32 := 1#32
  let v221 : BitVec 32 := Scalar.muli c1_i32_212 c1_i32_213
  let v222 : BitVec 32 := Scalar.addi c0_i32_214 v221
  v222.toNat
def k0_dev40 : Nat :=
  let c0_i32_223 : BitVec 32 := 0#32
  let c6_i32_221 : BitVec 32 := 6#32
  let c1_i32_222 : BitVec 32 := 1#32
  let v229 : BitVec 32 := Scalar.muli c6_i32_221 c1_i32_222
  let v230 : BitVec 32 := Scalar.addi c0_i32_223 v229
  v230.toNat
def k0_dev41 : Nat :=
  let c0_i32_240 : BitVec 32 := 0#32
  let c4_i32_238 : BitVec 32 := 4#32
  let c1_i32_239 : BitVec 32 := 1#32
  let v243 : BitVec 32 := Scalar.muli c4_i32_238 c1_i32_239
  let v244 : BitVec 32 := Scalar.addi c0_i32_240 v243
  v244.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_38 : BitVec 32 := 6#32
  let v38 : BitVec 1 := Scalar.cmpi .eq v2 c6_i32_38
  let v39 : BitVec 32 := Scalar.extui v38
  let c0_i32_39 : BitVec 32 := 0#32
  let v40 : BitVec 1 := Scalar.cmpi .ne v39 c0_i32_39
  v40

def k0_dev42 : Nat :=
  let c0_i32_188 : BitVec 32 := 0#32
  let c7_i32_186 : BitVec 32 := 7#32
  let c1_i32_187 : BitVec 32 := 1#32
  let v201 : BitVec 32 := Scalar.muli c7_i32_186 c1_i32_187
  let v202 : BitVec 32 := Scalar.addi c0_i32_188 v201
  v202.toNat
def k0_dev43 : Nat :=
  let c0_i32_205 : BitVec 32 := 0#32
  let c5_i32_203 : BitVec 32 := 5#32
  let c1_i32_204 : BitVec 32 := 1#32
  let v215 : BitVec 32 := Scalar.muli c5_i32_203 c1_i32_204
  let v216 : BitVec 32 := Scalar.addi c0_i32_205 v215
  v216.toNat
def k0_dev44 : Nat :=
  let c0_i32_223 : BitVec 32 := 0#32
  let c2_i32_221 : BitVec 32 := 2#32
  let c1_i32_222 : BitVec 32 := 1#32
  let v229 : BitVec 32 := Scalar.muli c2_i32_221 c1_i32_222
  let v230 : BitVec 32 := Scalar.addi c0_i32_223 v229
  v230.toNat
def k0_dev45 : Nat :=
  let c0_i32_240 : BitVec 32 := 0#32
  let c7_i32_238 : BitVec 32 := 7#32
  let c1_i32_239 : BitVec 32 := 1#32
  let v243 : BitVec 32 := Scalar.muli c7_i32_238 c1_i32_239
  let v244 : BitVec 32 := Scalar.addi c0_i32_240 v243
  v244.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_40 : BitVec 32 := 7#32
  let v41 : BitVec 1 := Scalar.cmpi .eq v2 c7_i32_40
  let v42 : BitVec 32 := Scalar.extui v41
  let c0_i32_41 : BitVec 32 := 0#32
  let v43 : BitVec 1 := Scalar.cmpi .ne v42 c0_i32_41
  v43

def k0_dev46 : Nat :=
  let c0_i32_187 : BitVec 32 := 0#32
  let c4_i32_185 : BitVec 32 := 4#32
  let c1_i32_186 : BitVec 32 := 1#32
  let v201 : BitVec 32 := Scalar.muli c4_i32_185 c1_i32_186
  let v202 : BitVec 32 := Scalar.addi c0_i32_187 v201
  v202.toNat
def k0_dev47 : Nat :=
  let c0_i32_196 : BitVec 32 := 0#32
  let c6_i32_194 : BitVec 32 := 6#32
  let c1_i32_195 : BitVec 32 := 1#32
  let v209 : BitVec 32 := Scalar.muli c6_i32_194 c1_i32_195
  let v210 : BitVec 32 := Scalar.addi c0_i32_196 v209
  v210.toNat
def k0_dev48 : Nat :=
  let c0_i32_223 : BitVec 32 := 0#32
  let c3_i32_221 : BitVec 32 := 3#32
  let c1_i32_222 : BitVec 32 := 1#32
  let v229 : BitVec 32 := Scalar.muli c3_i32_221 c1_i32_222
  let v230 : BitVec 32 := Scalar.addi c0_i32_223 v229
  v230.toNat
@[reducible] def k0_t1_loop : Scf.Loop 32 :=
  let c0_i32_48 : BitVec 32 := 0#32
  let c8_i32_49 : BitVec 32 := 8#32
  let v52 : BitVec 32 := Scalar.addi c0_i32_48 c8_i32_49
  let c1_i32_50 : BitVec 32 := 1#32
  ⟨c0_i32_48, v52, c1_i32_50⟩
def k0_off1 (k0_t1 : Fin k0_t1_loop.trips) : Fin 2 → Nat :=
  let c0_175 : Index := 0#32
  let c0_i32_48 : BitVec 32 := 0#32
  let c1_i32_50 : BitVec 32 := 1#32
  let arg15 : BitVec 32 := Scf.iv c0_i32_48 c1_i32_50 k0_t1
  let c128_i32 : BitVec 32 := 128#32
  let v195 : BitVec 32 := Scalar.muli arg15 c128_i32
  let v196 : Index := Scalar.indexCast v195
  ![0, v196.toNat]
def k0_off2 (k0_t1 : Fin k0_t1_loop.trips) : Fin 2 → Nat :=
  let c0_176 : Index := 0#32
  let c0_i32_48 : BitVec 32 := 0#32
  let c1_i32_50 : BitVec 32 := 1#32
  let arg15 : BitVec 32 := Scf.iv c0_i32_48 c1_i32_50 k0_t1
  let c128_i32 : BitVec 32 := 128#32
  let v195 : BitVec 32 := Scalar.muli arg15 c128_i32
  let v198 : Index := Scalar.indexCast v195
  ![0, v198.toNat]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_60 : BitVec 32 := 1#32
  let v60 : BitVec 1 := Scalar.cmpi .eq v2 c1_i32_60
  let v61 : BitVec 32 := Scalar.extui v60
  let c0_i32_61 : BitVec 32 := 0#32
  let v62 : BitVec 1 := Scalar.cmpi .ne v61 c0_i32_61
  v62

def k0_dev49 : Nat :=
  let c0_i32_187 : BitVec 32 := 0#32
  let c2_i32_185 : BitVec 32 := 2#32
  let c1_i32_186 : BitVec 32 := 1#32
  let v201 : BitVec 32 := Scalar.muli c2_i32_185 c1_i32_186
  let v202 : BitVec 32 := Scalar.addi c0_i32_187 v201
  v202.toNat
def k0_dev50 : Nat :=
  let c0_i32_196 : BitVec 32 := 0#32
  let c5_i32_194 : BitVec 32 := 5#32
  let c1_i32_195 : BitVec 32 := 1#32
  let v209 : BitVec 32 := Scalar.muli c5_i32_194 c1_i32_195
  let v210 : BitVec 32 := Scalar.addi c0_i32_196 v209
  v210.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_62 : BitVec 32 := 2#32
  let v63 : BitVec 1 := Scalar.cmpi .eq v2 c2_i32_62
  let v64 : BitVec 32 := Scalar.extui v63
  let c0_i32_63 : BitVec 32 := 0#32
  let v65 : BitVec 1 := Scalar.cmpi .ne v64 c0_i32_63
  v65

def k0_dev51 : Nat :=
  let c0_i32_187 : BitVec 32 := 0#32
  let c3_i32_185 : BitVec 32 := 3#32
  let c1_i32_186 : BitVec 32 := 1#32
  let v201 : BitVec 32 := Scalar.muli c3_i32_185 c1_i32_186
  let v202 : BitVec 32 := Scalar.addi c0_i32_187 v201
  v202.toNat
def k0_dev52 : Nat :=
  let c0_i32_196 : BitVec 32 := 0#32
  let c6_i32_194 : BitVec 32 := 6#32
  let c1_i32_195 : BitVec 32 := 1#32
  let v209 : BitVec 32 := Scalar.muli c6_i32_194 c1_i32_195
  let v210 : BitVec 32 := Scalar.addi c0_i32_196 v209
  v210.toNat
def k0_dev53 : Nat :=
  let c0_i32_221 : BitVec 32 := 0#32
  let c1_i32_219 : BitVec 32 := 1#32
  let c1_i32_220 : BitVec 32 := 1#32
  let v229 : BitVec 32 := Scalar.muli c1_i32_219 c1_i32_220
  let v230 : BitVec 32 := Scalar.addi c0_i32_221 v229
  v230.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v66 : BitVec 1 := Scalar.cmpi .eq v2 c3_i32_64
  let v67 : BitVec 32 := Scalar.extui v66
  let c0_i32_65 : BitVec 32 := 0#32
  let v68 : BitVec 1 := Scalar.cmpi .ne v67 c0_i32_65
  v68

def k0_dev54 : Nat :=
  let c0_i32_203 : BitVec 32 := 0#32
  let c7_i32_201 : BitVec 32 := 7#32
  let c1_i32_202 : BitVec 32 := 1#32
  let v213 : BitVec 32 := Scalar.muli c7_i32_201 c1_i32_202
  let v214 : BitVec 32 := Scalar.addi c0_i32_203 v213
  v214.toNat
def k0_dev55 : Nat :=
  let c0_i32_212 : BitVec 32 := 0#32
  let c2_i32_210 : BitVec 32 := 2#32
  let c1_i32_211 : BitVec 32 := 1#32
  let v221 : BitVec 32 := Scalar.muli c2_i32_210 c1_i32_211
  let v222 : BitVec 32 := Scalar.addi c0_i32_212 v221
  v222.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v69 : BitVec 1 := Scalar.cmpi .eq v2 c4_i32_66
  let v70 : BitVec 32 := Scalar.extui v69
  let c0_i32_67 : BitVec 32 := 0#32
  let v71 : BitVec 1 := Scalar.cmpi .ne v70 c0_i32_67
  v71

def k0_dev56 : Nat :=
  let c0_i32_187 : BitVec 32 := 0#32
  let c5_i32_185 : BitVec 32 := 5#32
  let c1_i32_186 : BitVec 32 := 1#32
  let v201 : BitVec 32 := Scalar.muli c5_i32_185 c1_i32_186
  let v202 : BitVec 32 := Scalar.addi c0_i32_187 v201
  v202.toNat
def k0_dev57 : Nat :=
  let c0_i32_196 : BitVec 32 := 0#32
  let c7_i32_194 : BitVec 32 := 7#32
  let c1_i32_195 : BitVec 32 := 1#32
  let v209 : BitVec 32 := Scalar.muli c7_i32_194 c1_i32_195
  let v210 : BitVec 32 := Scalar.addi c0_i32_196 v209
  v210.toNat
def k0_dev58 : Nat :=
  let c0_i32_221 : BitVec 32 := 0#32
  let c5_i32_219 : BitVec 32 := 5#32
  let c1_i32_220 : BitVec 32 := 1#32
  let v229 : BitVec 32 := Scalar.muli c5_i32_219 c1_i32_220
  let v230 : BitVec 32 := Scalar.addi c0_i32_221 v229
  v230.toNat
def k0_dev59 : Nat :=
  let c0_i32_230 : BitVec 32 := 0#32
  let c7_i32_228 : BitVec 32 := 7#32
  let c1_i32_229 : BitVec 32 := 1#32
  let v237 : BitVec 32 := Scalar.muli c7_i32_228 c1_i32_229
  let v238 : BitVec 32 := Scalar.addi c0_i32_230 v237
  v238.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_68 : BitVec 32 := 5#32
  let v72 : BitVec 1 := Scalar.cmpi .eq v2 c5_i32_68
  let v73 : BitVec 32 := Scalar.extui v72
  let c0_i32_69 : BitVec 32 := 0#32
  let v74 : BitVec 1 := Scalar.cmpi .ne v73 c0_i32_69
  v74

def k0_dev60 : Nat :=
  let c0_i32_187 : BitVec 32 := 0#32
  let c1_i32_185 : BitVec 32 := 1#32
  let c1_i32_186 : BitVec 32 := 1#32
  let v201 : BitVec 32 := Scalar.muli c1_i32_185 c1_i32_186
  let v202 : BitVec 32 := Scalar.addi c0_i32_187 v201
  v202.toNat
def k0_dev61 : Nat :=
  let c0_i32_196 : BitVec 32 := 0#32
  let c6_i32_194 : BitVec 32 := 6#32
  let c1_i32_195 : BitVec 32 := 1#32
  let v209 : BitVec 32 := Scalar.muli c6_i32_194 c1_i32_195
  let v210 : BitVec 32 := Scalar.addi c0_i32_196 v209
  v210.toNat
def k0_dev62 : Nat :=
  let c0_i32_213 : BitVec 32 := 0#32
  let c4_i32_211 : BitVec 32 := 4#32
  let c1_i32_212 : BitVec 32 := 1#32
  let v223 : BitVec 32 := Scalar.muli c4_i32_211 c1_i32_212
  let v224 : BitVec 32 := Scalar.addi c0_i32_213 v223
  v224.toNat
def k0_dev63 : Nat :=
  let c0_i32_230 : BitVec 32 := 0#32
  let c1_i32_228 : BitVec 32 := 1#32
  let c1_i32_229 : BitVec 32 := 1#32
  let v237 : BitVec 32 := Scalar.muli c1_i32_228 c1_i32_229
  let v238 : BitVec 32 := Scalar.addi c0_i32_230 v237
  v238.toNat
def k0_dev64 : Nat :=
  let c0_i32_239 : BitVec 32 := 0#32
  let c6_i32_237 : BitVec 32 := 6#32
  let c1_i32_238 : BitVec 32 := 1#32
  let v245 : BitVec 32 := Scalar.muli c6_i32_237 c1_i32_238
  let v246 : BitVec 32 := Scalar.addi c0_i32_239 v245
  v246.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_70 : BitVec 32 := 6#32
  let v75 : BitVec 1 := Scalar.cmpi .eq v2 c6_i32_70
  let v76 : BitVec 32 := Scalar.extui v75
  let c0_i32_71 : BitVec 32 := 0#32
  let v77 : BitVec 1 := Scalar.cmpi .ne v76 c0_i32_71
  v77

def k0_dev65 : Nat :=
  let c0_i32_187 : BitVec 32 := 0#32
  let c2_i32_185 : BitVec 32 := 2#32
  let c1_i32_186 : BitVec 32 := 1#32
  let v201 : BitVec 32 := Scalar.muli c2_i32_185 c1_i32_186
  let v202 : BitVec 32 := Scalar.addi c0_i32_187 v201
  v202.toNat
def k0_dev66 : Nat :=
  let c0_i32_204 : BitVec 32 := 0#32
  let c7_i32_202 : BitVec 32 := 7#32
  let c1_i32_203 : BitVec 32 := 1#32
  let v215 : BitVec 32 := Scalar.muli c7_i32_202 c1_i32_203
  let v216 : BitVec 32 := Scalar.addi c0_i32_204 v215
  v216.toNat
def k0_dev67 : Nat :=
  let c0_i32_221 : BitVec 32 := 0#32
  let c5_i32_219 : BitVec 32 := 5#32
  let c1_i32_220 : BitVec 32 := 1#32
  let v229 : BitVec 32 := Scalar.muli c5_i32_219 c1_i32_220
  let v230 : BitVec 32 := Scalar.addi c0_i32_221 v229
  v230.toNat
def k0_dev68 : Nat :=
  let c0_i32_238 : BitVec 32 := 0#32
  let c2_i32_236 : BitVec 32 := 2#32
  let c1_i32_237 : BitVec 32 := 1#32
  let v243 : BitVec 32 := Scalar.muli c2_i32_236 c1_i32_237
  let v244 : BitVec 32 := Scalar.addi c0_i32_238 v243
  v244.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_72 : BitVec 32 := 7#32
  let v78 : BitVec 1 := Scalar.cmpi .eq v2 c7_i32_72
  let v79 : BitVec 32 := Scalar.extui v78
  let c0_i32_73 : BitVec 32 := 0#32
  let v80 : BitVec 1 := Scalar.cmpi .ne v79 c0_i32_73
  v80

def k0_dev69 : Nat :=
  let c0_i32_187 : BitVec 32 := 0#32
  let c3_i32_185 : BitVec 32 := 3#32
  let c1_i32_186 : BitVec 32 := 1#32
  let v201 : BitVec 32 := Scalar.muli c3_i32_185 c1_i32_186
  let v202 : BitVec 32 := Scalar.addi c0_i32_187 v201
  v202.toNat
def k0_dev70 : Nat :=
  let c0_i32_212 : BitVec 32 := 0#32
  let c4_i32_210 : BitVec 32 := 4#32
  let c1_i32_211 : BitVec 32 := 1#32
  let v221 : BitVec 32 := Scalar.muli c4_i32_210 c1_i32_211
  let v222 : BitVec 32 := Scalar.addi c0_i32_212 v221
  v222.toNat
def k0_dev71 : Nat :=
  let c0_i32_221 : BitVec 32 := 0#32
  let c6_i32_219 : BitVec 32 := 6#32
  let c1_i32_220 : BitVec 32 := 1#32
  let v229 : BitVec 32 := Scalar.muli c6_i32_219 c1_i32_220
  let v230 : BitVec 32 := Scalar.addi c0_i32_221 v229
  v230.toNat
def k0_dev72 : Nat :=
  let c0_i32_238 : BitVec 32 := 0#32
  let c3_i32_236 : BitVec 32 := 3#32
  let c1_i32_237 : BitVec 32 := 1#32
  let v243 : BitVec 32 := Scalar.muli c3_i32_236 c1_i32_237
  let v244 : BitVec 32 := Scalar.addi c0_i32_238 v243
  v244.toNat
@[reducible] def k0_t2_loop : Scf.Loop 32 :=
  let c0_i32_81 : BitVec 32 := 0#32
  let c8_i32_82 : BitVec 32 := 8#32
  let v89 : BitVec 32 := Scalar.addi c0_i32_81 c8_i32_82
  let c1_i32_83 : BitVec 32 := 1#32
  ⟨c0_i32_81, v89, c1_i32_83⟩
def k0_off3 (k0_t2 : Fin k0_t2_loop.trips) : Fin 2 → Nat :=
  let c0_175 : Index := 0#32
  let c0_i32_81 : BitVec 32 := 0#32
  let c1_i32_83 : BitVec 32 := 1#32
  let arg15 : BitVec 32 := Scf.iv c0_i32_81 c1_i32_83 k0_t2
  let c128_i32 : BitVec 32 := 128#32
  let v195 : BitVec 32 := Scalar.muli arg15 c128_i32
  let v196 : Index := Scalar.indexCast v195
  ![0, v196.toNat]
def k0_off4 (k0_t2 : Fin k0_t2_loop.trips) : Fin 2 → Nat :=
  let c0_176 : Index := 0#32
  let c0_i32_81 : BitVec 32 := 0#32
  let c1_i32_83 : BitVec 32 := 1#32
  let arg15 : BitVec 32 := Scf.iv c0_i32_81 c1_i32_83 k0_t2
  let c128_i32 : BitVec 32 := 128#32
  let v195 : BitVec 32 := Scalar.muli arg15 c128_i32
  let v198 : Index := Scalar.indexCast v195
  ![0, v198.toNat]
def k0_off5 (k0_t2 : Fin k0_t2_loop.trips) : Fin 2 → Nat :=
  let c512_181 : Index := 512#32
  let c0_i32_81 : BitVec 32 := 0#32
  let c1_i32_83 : BitVec 32 := 1#32
  let arg15 : BitVec 32 := Scf.iv c0_i32_81 c1_i32_83 k0_t2
  let c128_i32 : BitVec 32 := 128#32
  let v195 : BitVec 32 := Scalar.muli arg15 c128_i32
  let v206 : Index := Scalar.indexCast v195
  ![512, v206.toNat]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v97 : BitVec 1 := Scalar.cmpi .eq v2 c1_i32_93
  let v98 : BitVec 32 := Scalar.extui v97
  let c0_i32_94 : BitVec 32 := 0#32
  let v99 : BitVec 1 := Scalar.cmpi .ne v98 c0_i32_94
  v99

def k0_dev73 : Nat :=
  let c0_i32_203 : BitVec 32 := 0#32
  let c2_i32_201 : BitVec 32 := 2#32
  let c1_i32_202 : BitVec 32 := 1#32
  let v213 : BitVec 32 := Scalar.muli c2_i32_201 c1_i32_202
  let v214 : BitVec 32 := Scalar.addi c0_i32_203 v213
  v214.toNat
def k0_dev74 : Nat :=
  let c0_i32_212 : BitVec 32 := 0#32
  let c5_i32_210 : BitVec 32 := 5#32
  let c1_i32_211 : BitVec 32 := 1#32
  let v221 : BitVec 32 := Scalar.muli c5_i32_210 c1_i32_211
  let v222 : BitVec 32 := Scalar.addi c0_i32_212 v221
  v222.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_95 : BitVec 32 := 2#32
  let v100 : BitVec 1 := Scalar.cmpi .eq v2 c2_i32_95
  let v101 : BitVec 32 := Scalar.extui v100
  let c0_i32_96 : BitVec 32 := 0#32
  let v102 : BitVec 1 := Scalar.cmpi .ne v101 c0_i32_96
  v102

def k0_dev75 : Nat :=
  let c0_i32_187 : BitVec 32 := 0#32
  let c1_i32_185 : BitVec 32 := 1#32
  let c1_i32_186 : BitVec 32 := 1#32
  let v201 : BitVec 32 := Scalar.muli c1_i32_185 c1_i32_186
  let v202 : BitVec 32 := Scalar.addi c0_i32_187 v201
  v202.toNat
def k0_dev76 : Nat :=
  let c0_i32_212 : BitVec 32 := 0#32
  let c3_i32_210 : BitVec 32 := 3#32
  let c1_i32_211 : BitVec 32 := 1#32
  let v221 : BitVec 32 := Scalar.muli c3_i32_210 c1_i32_211
  let v222 : BitVec 32 := Scalar.addi c0_i32_212 v221
  v222.toNat
def k0_dev77 : Nat :=
  let c0_i32_221 : BitVec 32 := 0#32
  let c6_i32_219 : BitVec 32 := 6#32
  let c1_i32_220 : BitVec 32 := 1#32
  let v229 : BitVec 32 := Scalar.muli c6_i32_219 c1_i32_220
  let v230 : BitVec 32 := Scalar.addi c0_i32_221 v229
  v230.toNat
def k0_dev78 : Nat :=
  let c0_i32_238 : BitVec 32 := 0#32
  let c1_i32_236 : BitVec 32 := 1#32
  let c1_i32_237 : BitVec 32 := 1#32
  let v243 : BitVec 32 := Scalar.muli c1_i32_236 c1_i32_237
  let v244 : BitVec 32 := Scalar.addi c0_i32_238 v243
  v244.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v103 : BitVec 1 := Scalar.cmpi .eq v2 c3_i32_97
  let v104 : BitVec 32 := Scalar.extui v103
  let c0_i32_98 : BitVec 32 := 0#32
  let v105 : BitVec 1 := Scalar.cmpi .ne v104 c0_i32_98
  v105

def k0_dev79 : Nat :=
  let c0_i32_187 : BitVec 32 := 0#32
  let c7_i32_185 : BitVec 32 := 7#32
  let c1_i32_186 : BitVec 32 := 1#32
  let v201 : BitVec 32 := Scalar.muli c7_i32_185 c1_i32_186
  let v202 : BitVec 32 := Scalar.addi c0_i32_187 v201
  v202.toNat
def k0_dev80 : Nat :=
  let c0_i32_196 : BitVec 32 := 0#32
  let c2_i32_194 : BitVec 32 := 2#32
  let c1_i32_195 : BitVec 32 := 1#32
  let v209 : BitVec 32 := Scalar.muli c2_i32_194 c1_i32_195
  let v210 : BitVec 32 := Scalar.addi c0_i32_196 v209
  v210.toNat
def k0_dev81 : Nat :=
  let c0_i32_221 : BitVec 32 := 0#32
  let c7_i32_219 : BitVec 32 := 7#32
  let c1_i32_220 : BitVec 32 := 1#32
  let v229 : BitVec 32 := Scalar.muli c7_i32_219 c1_i32_220
  let v230 : BitVec 32 := Scalar.addi c0_i32_221 v229
  v230.toNat
def k0_dev82 : Nat :=
  let c0_i32_230 : BitVec 32 := 0#32
  let c2_i32_228 : BitVec 32 := 2#32
  let c1_i32_229 : BitVec 32 := 1#32
  let v237 : BitVec 32 := Scalar.muli c2_i32_228 c1_i32_229
  let v238 : BitVec 32 := Scalar.addi c0_i32_230 v237
  v238.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v106 : BitVec 1 := Scalar.cmpi .eq v2 c4_i32_99
  let v107 : BitVec 32 := Scalar.extui v106
  let c0_i32_100 : BitVec 32 := 0#32
  let v108 : BitVec 1 := Scalar.cmpi .ne v107 c0_i32_100
  v108

def k0_dev83 : Nat :=
  let c0_i32_187 : BitVec 32 := 0#32
  let c5_i32_185 : BitVec 32 := 5#32
  let c1_i32_186 : BitVec 32 := 1#32
  let v201 : BitVec 32 := Scalar.muli c5_i32_185 c1_i32_186
  let v202 : BitVec 32 := Scalar.addi c0_i32_187 v201
  v202.toNat
def k0_dev84 : Nat :=
  let c0_i32_196 : BitVec 32 := 0#32
  let c7_i32_194 : BitVec 32 := 7#32
  let c1_i32_195 : BitVec 32 := 1#32
  let v209 : BitVec 32 := Scalar.muli c7_i32_194 c1_i32_195
  let v210 : BitVec 32 := Scalar.addi c0_i32_196 v209
  v210.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v109 : BitVec 1 := Scalar.cmpi .eq v2 c5_i32_101
  let v110 : BitVec 32 := Scalar.extui v109
  let c0_i32_102 : BitVec 32 := 0#32
  let v111 : BitVec 1 := Scalar.cmpi .ne v110 c0_i32_102
  v111

def k0_dev85 : Nat :=
  let c0_i32_187 : BitVec 32 := 0#32
  let c1_i32_185 : BitVec 32 := 1#32
  let c1_i32_186 : BitVec 32 := 1#32
  let v201 : BitVec 32 := Scalar.muli c1_i32_185 c1_i32_186
  let v202 : BitVec 32 := Scalar.addi c0_i32_187 v201
  v202.toNat
def k0_dev86 : Nat :=
  let c0_i32_196 : BitVec 32 := 0#32
  let c6_i32_194 : BitVec 32 := 6#32
  let c1_i32_195 : BitVec 32 := 1#32
  let v209 : BitVec 32 := Scalar.muli c6_i32_194 c1_i32_195
  let v210 : BitVec 32 := Scalar.addi c0_i32_196 v209
  v210.toNat
def k0_dev87 : Nat :=
  let c0_i32_221 : BitVec 32 := 0#32
  let c4_i32_219 : BitVec 32 := 4#32
  let c1_i32_220 : BitVec 32 := 1#32
  let v229 : BitVec 32 := Scalar.muli c4_i32_219 c1_i32_220
  let v230 : BitVec 32 := Scalar.addi c0_i32_221 v229
  v230.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_103 : BitVec 32 := 6#32
  let v112 : BitVec 1 := Scalar.cmpi .eq v2 c6_i32_103
  let v113 : BitVec 32 := Scalar.extui v112
  let c0_i32_104 : BitVec 32 := 0#32
  let v114 : BitVec 1 := Scalar.cmpi .ne v113 c0_i32_104
  v114

def k0_dev88 : Nat :=
  let c0_i32_187 : BitVec 32 := 0#32
  let c5_i32_185 : BitVec 32 := 5#32
  let c1_i32_186 : BitVec 32 := 1#32
  let v201 : BitVec 32 := Scalar.muli c5_i32_185 c1_i32_186
  let v202 : BitVec 32 := Scalar.addi c0_i32_187 v201
  v202.toNat
def k0_dev89 : Nat :=
  let c0_i32_204 : BitVec 32 := 0#32
  let c2_i32_202 : BitVec 32 := 2#32
  let c1_i32_203 : BitVec 32 := 1#32
  let v215 : BitVec 32 := Scalar.muli c2_i32_202 c1_i32_203
  let v216 : BitVec 32 := Scalar.addi c0_i32_204 v215
  v216.toNat
def k0_dev90 : Nat :=
  let c0_i32_221 : BitVec 32 := 0#32
  let c7_i32_219 : BitVec 32 := 7#32
  let c1_i32_220 : BitVec 32 := 1#32
  let v229 : BitVec 32 := Scalar.muli c7_i32_219 c1_i32_220
  let v230 : BitVec 32 := Scalar.addi c0_i32_221 v229
  v230.toNat
def k0_dev91 : Nat :=
  let c0_i32_238 : BitVec 32 := 0#32
  let c5_i32_236 : BitVec 32 := 5#32
  let c1_i32_237 : BitVec 32 := 1#32
  let v243 : BitVec 32 := Scalar.muli c5_i32_236 c1_i32_237
  let v244 : BitVec 32 := Scalar.addi c0_i32_238 v243
  v244.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_105 : BitVec 32 := 7#32
  let v115 : BitVec 1 := Scalar.cmpi .eq v2 c7_i32_105
  let v116 : BitVec 32 := Scalar.extui v115
  let c0_i32_106 : BitVec 32 := 0#32
  let v117 : BitVec 1 := Scalar.cmpi .ne v116 c0_i32_106
  v117

def k0_dev92 : Nat :=
  let c0_i32_187 : BitVec 32 := 0#32
  let c4_i32_185 : BitVec 32 := 4#32
  let c1_i32_186 : BitVec 32 := 1#32
  let v201 : BitVec 32 := Scalar.muli c4_i32_185 c1_i32_186
  let v202 : BitVec 32 := Scalar.addi c0_i32_187 v201
  v202.toNat
def k0_dev93 : Nat :=
  let c0_i32_196 : BitVec 32 := 0#32
  let c6_i32_194 : BitVec 32 := 6#32
  let c1_i32_195 : BitVec 32 := 1#32
  let v209 : BitVec 32 := Scalar.muli c6_i32_194 c1_i32_195
  let v210 : BitVec 32 := Scalar.addi c0_i32_196 v209
  v210.toNat
def k0_dev94 : Nat :=
  let c0_i32_213 : BitVec 32 := 0#32
  let c3_i32_211 : BitVec 32 := 3#32
  let c1_i32_212 : BitVec 32 := 1#32
  let v223 : BitVec 32 := Scalar.muli c3_i32_211 c1_i32_212
  let v224 : BitVec 32 := Scalar.addi c0_i32_213 v223
  v224.toNat
def k0_dev95 : Nat :=
  let c0_i32_230 : BitVec 32 := 0#32
  let c4_i32_228 : BitVec 32 := 4#32
  let c1_i32_229 : BitVec 32 := 1#32
  let v237 : BitVec 32 := Scalar.muli c4_i32_228 c1_i32_229
  let v238 : BitVec 32 := Scalar.addi c0_i32_230 v237
  v238.toNat
def k0_dev96 : Nat :=
  let c0_i32_239 : BitVec 32 := 0#32
  let c6_i32_237 : BitVec 32 := 6#32
  let c1_i32_238 : BitVec 32 := 1#32
  let v245 : BitVec 32 := Scalar.muli c6_i32_237 c1_i32_238
  let v246 : BitVec 32 := Scalar.addi c0_i32_239 v245
  v246.toNat
@[reducible] def k0_t3_loop : Scf.Loop 32 :=
  let c0_i32_114 : BitVec 32 := 0#32
  let c8_i32_115 : BitVec 32 := 8#32
  let v126 : BitVec 32 := Scalar.addi c0_i32_114 c8_i32_115
  let c1_i32_116 : BitVec 32 := 1#32
  ⟨c0_i32_114, v126, c1_i32_116⟩
def k0_off6 (k0_t3 : Fin k0_t3_loop.trips) : Fin 2 → Nat :=
  let c0_175 : Index := 0#32
  let c0_i32_114 : BitVec 32 := 0#32
  let c1_i32_116 : BitVec 32 := 1#32
  let arg15 : BitVec 32 := Scf.iv c0_i32_114 c1_i32_116 k0_t3
  let c128_i32 : BitVec 32 := 128#32
  let v195 : BitVec 32 := Scalar.muli arg15 c128_i32
  let v196 : Index := Scalar.indexCast v195
  ![0, v196.toNat]
def k0_off7 (k0_t3 : Fin k0_t3_loop.trips) : Fin 2 → Nat :=
  let c0_176 : Index := 0#32
  let c0_i32_114 : BitVec 32 := 0#32
  let c1_i32_116 : BitVec 32 := 1#32
  let arg15 : BitVec 32 := Scf.iv c0_i32_114 c1_i32_116 k0_t3
  let c128_i32 : BitVec 32 := 128#32
  let v195 : BitVec 32 := Scalar.muli arg15 c128_i32
  let v198 : Index := Scalar.indexCast v195
  ![0, v198.toNat]
def k0_off8 (k0_t3 : Fin k0_t3_loop.trips) : Fin 2 → Nat :=
  let c512_181 : Index := 512#32
  let c0_i32_114 : BitVec 32 := 0#32
  let c1_i32_116 : BitVec 32 := 1#32
  let arg15 : BitVec 32 := Scf.iv c0_i32_114 c1_i32_116 k0_t3
  let c128_i32 : BitVec 32 := 128#32
  let v195 : BitVec 32 := Scalar.muli arg15 c128_i32
  let v206 : Index := Scalar.indexCast v195
  ![512, v206.toNat]
def k0_off9 (k0_t3 : Fin k0_t3_loop.trips) : Fin 2 → Nat :=
  let c1024_186 : Index := 1024#32
  let c0_i32_114 : BitVec 32 := 0#32
  let c1_i32_116 : BitVec 32 := 1#32
  let arg15 : BitVec 32 := Scf.iv c0_i32_114 c1_i32_116 k0_t3
  let c128_i32 : BitVec 32 := 128#32
  let v195 : BitVec 32 := Scalar.muli arg15 c128_i32
  let v214 : Index := Scalar.indexCast v195
  ![1024, v214.toNat]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v134 : BitVec 1 := Scalar.cmpi .eq v2 c1_i32_126
  let v135 : BitVec 32 := Scalar.extui v134
  let c0_i32_127 : BitVec 32 := 0#32
  let v136 : BitVec 1 := Scalar.cmpi .ne v135 c0_i32_127
  v136

def k0_dev97 : Nat :=
  let c0_i32_187 : BitVec 32 := 0#32
  let c2_i32_185 : BitVec 32 := 2#32
  let c1_i32_186 : BitVec 32 := 1#32
  let v201 : BitVec 32 := Scalar.muli c2_i32_185 c1_i32_186
  let v202 : BitVec 32 := Scalar.addi c0_i32_187 v201
  v202.toNat
def k0_dev98 : Nat :=
  let c0_i32_196 : BitVec 32 := 0#32
  let c5_i32_194 : BitVec 32 := 5#32
  let c1_i32_195 : BitVec 32 := 1#32
  let v209 : BitVec 32 := Scalar.muli c5_i32_194 c1_i32_195
  let v210 : BitVec 32 := Scalar.addi c0_i32_196 v209
  v210.toNat
def k0_dev99 : Nat :=
  let c0_i32_221 : BitVec 32 := 0#32
  let c2_i32_219 : BitVec 32 := 2#32
  let c1_i32_220 : BitVec 32 := 1#32
  let v229 : BitVec 32 := Scalar.muli c2_i32_219 c1_i32_220
  let v230 : BitVec 32 := Scalar.addi c0_i32_221 v229
  v230.toNat
def k0_dev100 : Nat :=
  let c0_i32_230 : BitVec 32 := 0#32
  let c5_i32_228 : BitVec 32 := 5#32
  let c1_i32_229 : BitVec 32 := 1#32
  let v237 : BitVec 32 := Scalar.muli c5_i32_228 c1_i32_229
  let v238 : BitVec 32 := Scalar.addi c0_i32_230 v237
  v238.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_128 : BitVec 32 := 2#32
  let v137 : BitVec 1 := Scalar.cmpi .eq v2 c2_i32_128
  let v138 : BitVec 32 := Scalar.extui v137
  let c0_i32_129 : BitVec 32 := 0#32
  let v139 : BitVec 1 := Scalar.cmpi .ne v138 c0_i32_129
  v139

def k0_dev101 : Nat :=
  let c0_i32_187 : BitVec 32 := 0#32
  let c3_i32_185 : BitVec 32 := 3#32
  let c1_i32_186 : BitVec 32 := 1#32
  let v201 : BitVec 32 := Scalar.muli c3_i32_185 c1_i32_186
  let v202 : BitVec 32 := Scalar.addi c0_i32_187 v201
  v202.toNat
def k0_dev102 : Nat :=
  let c0_i32_196 : BitVec 32 := 0#32
  let c6_i32_194 : BitVec 32 := 6#32
  let c1_i32_195 : BitVec 32 := 1#32
  let v209 : BitVec 32 := Scalar.muli c6_i32_194 c1_i32_195
  let v210 : BitVec 32 := Scalar.addi c0_i32_196 v209
  v210.toNat
def k0_dev103 : Nat :=
  let c0_i32_213 : BitVec 32 := 0#32
  let c1_i32_211 : BitVec 32 := 1#32
  let c1_i32_212 : BitVec 32 := 1#32
  let v223 : BitVec 32 := Scalar.muli c1_i32_211 c1_i32_212
  let v224 : BitVec 32 := Scalar.addi c0_i32_213 v223
  v224.toNat
def k0_dev104 : Nat :=
  let c0_i32_230 : BitVec 32 := 0#32
  let c3_i32_228 : BitVec 32 := 3#32
  let c1_i32_229 : BitVec 32 := 1#32
  let v237 : BitVec 32 := Scalar.muli c3_i32_228 c1_i32_229
  let v238 : BitVec 32 := Scalar.addi c0_i32_230 v237
  v238.toNat
def k0_dev105 : Nat :=
  let c0_i32_239 : BitVec 32 := 0#32
  let c6_i32_237 : BitVec 32 := 6#32
  let c1_i32_238 : BitVec 32 := 1#32
  let v245 : BitVec 32 := Scalar.muli c6_i32_237 c1_i32_238
  let v246 : BitVec 32 := Scalar.addi c0_i32_239 v245
  v246.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_130 : BitVec 32 := 3#32
  let v140 : BitVec 1 := Scalar.cmpi .eq v2 c3_i32_130
  let v141 : BitVec 32 := Scalar.extui v140
  let c0_i32_131 : BitVec 32 := 0#32
  let v142 : BitVec 1 := Scalar.cmpi .ne v141 c0_i32_131
  v142

def k0_dev106 : Nat :=
  let c0_i32_187 : BitVec 32 := 0#32
  let c7_i32_185 : BitVec 32 := 7#32
  let c1_i32_186 : BitVec 32 := 1#32
  let v201 : BitVec 32 := Scalar.muli c7_i32_185 c1_i32_186
  let v202 : BitVec 32 := Scalar.addi c0_i32_187 v201
  v202.toNat
def k0_dev107 : Nat :=
  let c0_i32_196 : BitVec 32 := 0#32
  let c2_i32_194 : BitVec 32 := 2#32
  let c1_i32_195 : BitVec 32 := 1#32
  let v209 : BitVec 32 := Scalar.muli c2_i32_194 c1_i32_195
  let v210 : BitVec 32 := Scalar.addi c0_i32_196 v209
  v210.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_132 : BitVec 32 := 4#32
  let v143 : BitVec 1 := Scalar.cmpi .eq v2 c4_i32_132
  let v144 : BitVec 32 := Scalar.extui v143
  let c0_i32_133 : BitVec 32 := 0#32
  let v145 : BitVec 1 := Scalar.cmpi .ne v144 c0_i32_133
  v145

def k0_dev108 : Nat :=
  let c0_i32_203 : BitVec 32 := 0#32
  let c5_i32_201 : BitVec 32 := 5#32
  let c1_i32_202 : BitVec 32 := 1#32
  let v213 : BitVec 32 := Scalar.muli c5_i32_201 c1_i32_202
  let v214 : BitVec 32 := Scalar.addi c0_i32_203 v213
  v214.toNat
def k0_dev109 : Nat :=
  let c0_i32_212 : BitVec 32 := 0#32
  let c7_i32_210 : BitVec 32 := 7#32
  let c1_i32_211 : BitVec 32 := 1#32
  let v221 : BitVec 32 := Scalar.muli c7_i32_210 c1_i32_211
  let v222 : BitVec 32 := Scalar.addi c0_i32_212 v221
  v222.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_134 : BitVec 32 := 5#32
  let v146 : BitVec 1 := Scalar.cmpi .eq v2 c5_i32_134
  let v147 : BitVec 32 := Scalar.extui v146
  let c0_i32_135 : BitVec 32 := 0#32
  let v148 : BitVec 1 := Scalar.cmpi .ne v147 c0_i32_135
  v148

def k0_dev110 : Nat :=
  let c0_i32_187 : BitVec 32 := 0#32
  let c4_i32_185 : BitVec 32 := 4#32
  let c1_i32_186 : BitVec 32 := 1#32
  let v201 : BitVec 32 := Scalar.muli c4_i32_185 c1_i32_186
  let v202 : BitVec 32 := Scalar.addi c0_i32_187 v201
  v202.toNat
def k0_dev111 : Nat :=
  let c0_i32_212 : BitVec 32 := 0#32
  let c1_i32_210 : BitVec 32 := 1#32
  let c1_i32_211 : BitVec 32 := 1#32
  let v221 : BitVec 32 := Scalar.muli c1_i32_210 c1_i32_211
  let v222 : BitVec 32 := Scalar.addi c0_i32_212 v221
  v222.toNat
def k0_dev112 : Nat :=
  let c0_i32_221 : BitVec 32 := 0#32
  let c6_i32_219 : BitVec 32 := 6#32
  let c1_i32_220 : BitVec 32 := 1#32
  let v229 : BitVec 32 := Scalar.muli c6_i32_219 c1_i32_220
  let v230 : BitVec 32 := Scalar.addi c0_i32_221 v229
  v230.toNat
def k0_dev113 : Nat :=
  let c0_i32_238 : BitVec 32 := 0#32
  let c4_i32_236 : BitVec 32 := 4#32
  let c1_i32_237 : BitVec 32 := 1#32
  let v243 : BitVec 32 := Scalar.muli c4_i32_236 c1_i32_237
  let v244 : BitVec 32 := Scalar.addi c0_i32_238 v243
  v244.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_136 : BitVec 32 := 6#32
  let v149 : BitVec 1 := Scalar.cmpi .eq v2 c6_i32_136
  let v150 : BitVec 32 := Scalar.extui v149
  let c0_i32_137 : BitVec 32 := 0#32
  let v151 : BitVec 1 := Scalar.cmpi .ne v150 c0_i32_137
  v151

def k0_dev114 : Nat :=
  let c0_i32_187 : BitVec 32 := 0#32
  let c7_i32_185 : BitVec 32 := 7#32
  let c1_i32_186 : BitVec 32 := 1#32
  let v201 : BitVec 32 := Scalar.muli c7_i32_185 c1_i32_186
  let v202 : BitVec 32 := Scalar.addi c0_i32_187 v201
  v202.toNat
def k0_dev115 : Nat :=
  let c0_i32_204 : BitVec 32 := 0#32
  let c5_i32_202 : BitVec 32 := 5#32
  let c1_i32_203 : BitVec 32 := 1#32
  let v215 : BitVec 32 := Scalar.muli c5_i32_202 c1_i32_203
  let v216 : BitVec 32 := Scalar.addi c0_i32_204 v215
  v216.toNat
def k0_dev116 : Nat :=
  let c0_i32_221 : BitVec 32 := 0#32
  let c2_i32_219 : BitVec 32 := 2#32
  let c1_i32_220 : BitVec 32 := 1#32
  let v229 : BitVec 32 := Scalar.muli c2_i32_219 c1_i32_220
  let v230 : BitVec 32 := Scalar.addi c0_i32_221 v229
  v230.toNat
def k0_dev117 : Nat :=
  let c0_i32_238 : BitVec 32 := 0#32
  let c7_i32_236 : BitVec 32 := 7#32
  let c1_i32_237 : BitVec 32 := 1#32
  let v243 : BitVec 32 := Scalar.muli c7_i32_236 c1_i32_237
  let v244 : BitVec 32 := Scalar.addi c0_i32_238 v243
  v244.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_138 : BitVec 32 := 7#32
  let v152 : BitVec 1 := Scalar.cmpi .eq v2 c7_i32_138
  let v153 : BitVec 32 := Scalar.extui v152
  let c0_i32_139 : BitVec 32 := 0#32
  let v154 : BitVec 1 := Scalar.cmpi .ne v153 c0_i32_139
  v154

def k0_dev118 : Nat :=
  let c0_i32_187 : BitVec 32 := 0#32
  let c4_i32_185 : BitVec 32 := 4#32
  let c1_i32_186 : BitVec 32 := 1#32
  let v201 : BitVec 32 := Scalar.muli c4_i32_185 c1_i32_186
  let v202 : BitVec 32 := Scalar.addi c0_i32_187 v201
  v202.toNat
def k0_dev119 : Nat :=
  let c0_i32_196 : BitVec 32 := 0#32
  let c6_i32_194 : BitVec 32 := 6#32
  let c1_i32_195 : BitVec 32 := 1#32
  let v209 : BitVec 32 := Scalar.muli c6_i32_194 c1_i32_195
  let v210 : BitVec 32 := Scalar.addi c0_i32_196 v209
  v210.toNat
def k0_dev120 : Nat :=
  let c0_i32_221 : BitVec 32 := 0#32
  let c3_i32_219 : BitVec 32 := 3#32
  let c1_i32_220 : BitVec 32 := 1#32
  let v229 : BitVec 32 := Scalar.muli c3_i32_219 c1_i32_220
  let v230 : BitVec 32 := Scalar.addi c0_i32_221 v229
  v230.toNat
@[reducible] def k0_t4_loop : Scf.Loop 32 :=
  let c0_i32_147 : BitVec 32 := 0#32
  let c8_i32_148 : BitVec 32 := 8#32
  let v163 : BitVec 32 := Scalar.addi c0_i32_147 c8_i32_148
  let c1_i32_149 : BitVec 32 := 1#32
  ⟨c0_i32_147, v163, c1_i32_149⟩
def k0_off10 (k0_t4 : Fin k0_t4_loop.trips) : Fin 2 → Nat :=
  let c0_175 : Index := 0#32
  let c0_i32_147 : BitVec 32 := 0#32
  let c1_i32_149 : BitVec 32 := 1#32
  let arg15 : BitVec 32 := Scf.iv c0_i32_147 c1_i32_149 k0_t4
  let c128_i32 : BitVec 32 := 128#32
  let v195 : BitVec 32 := Scalar.muli arg15 c128_i32
  let v196 : Index := Scalar.indexCast v195
  ![0, v196.toNat]
def k0_off11 (k0_t4 : Fin k0_t4_loop.trips) : Fin 2 → Nat :=
  let c0_176 : Index := 0#32
  let c0_i32_147 : BitVec 32 := 0#32
  let c1_i32_149 : BitVec 32 := 1#32
  let arg15 : BitVec 32 := Scf.iv c0_i32_147 c1_i32_149 k0_t4
  let c128_i32 : BitVec 32 := 128#32
  let v195 : BitVec 32 := Scalar.muli arg15 c128_i32
  let v198 : Index := Scalar.indexCast v195
  ![0, v198.toNat]
def k0_off12 (k0_t4 : Fin k0_t4_loop.trips) : Fin 2 → Nat :=
  let c512_181 : Index := 512#32
  let c0_i32_147 : BitVec 32 := 0#32
  let c1_i32_149 : BitVec 32 := 1#32
  let arg15 : BitVec 32 := Scf.iv c0_i32_147 c1_i32_149 k0_t4
  let c128_i32 : BitVec 32 := 128#32
  let v195 : BitVec 32 := Scalar.muli arg15 c128_i32
  let v206 : Index := Scalar.indexCast v195
  ![512, v206.toNat]
def k0_off13 (k0_t4 : Fin k0_t4_loop.trips) : Fin 2 → Nat :=
  let c1024_186 : Index := 1024#32
  let c0_i32_147 : BitVec 32 := 0#32
  let c1_i32_149 : BitVec 32 := 1#32
  let arg15 : BitVec 32 := Scf.iv c0_i32_147 c1_i32_149 k0_t4
  let c128_i32 : BitVec 32 := 128#32
  let v195 : BitVec 32 := Scalar.muli arg15 c128_i32
  let v214 : Index := Scalar.indexCast v195
  ![1024, v214.toNat]
def k0_off14 (k0_t4 : Fin k0_t4_loop.trips) : Fin 2 → Nat :=
  let c1536_191 : Index := 1536#32
  let c0_i32_147 : BitVec 32 := 0#32
  let c1_i32_149 : BitVec 32 := 1#32
  let arg15 : BitVec 32 := Scf.iv c0_i32_147 c1_i32_149 k0_t4
  let c128_i32 : BitVec 32 := 128#32
  let v195 : BitVec 32 := Scalar.muli arg15 c128_i32
  let v222 : Index := Scalar.indexCast v195
  ![1536, v222.toNat]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S16384x1024 : Shape := ⟨2, ![16384, 1024]⟩
abbrev S1x16384x8x128 : Shape := ⟨4, ![1, 16384, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S1x8x2048x16384 : Shape := ⟨4, ![1, 8, 2048, 16384]⟩
abbrev S1x1x2048x16384 : Shape := ⟨4, ![1, 1, 2048, 16384]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 91
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1x16384x8x128, .f32⟩
  | .hbm, ⟨6, _⟩ => ⟨S1x16384x8x128, .f32⟩
  | .hbm, ⟨7, _⟩ => ⟨S1x2048x1024, .f32⟩
  | .hbm, ⟨8, _⟩ => ⟨S1x2048x8x128, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S16384, .i32⟩
  | .hbm, ⟨30, _⟩ => ⟨S_, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384, .i32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S1x16384, .i32⟩
  | .hbm, ⟨49, _⟩ => ⟨S2048x16384, .i32⟩
  | .hbm, ⟨50, _⟩ => ⟨S2048x16384, .i32⟩
  | .hbm, ⟨51, _⟩ => ⟨S2048x16384, .i1⟩
  | .hbm, ⟨52, _⟩ => ⟨S1x8x2048x16384, .f32⟩
  | .hbm, ⟨53, _⟩ => ⟨S_, .f32⟩
  | .hbm, ⟨54, _⟩ => ⟨S1x8x2048x16384, .f32⟩
  | .hbm, ⟨55, _⟩ => ⟨S1x8x2048x16384, .f32⟩
  | .hbm, ⟨56, _⟩ => ⟨S1x1x2048x16384, .i1⟩
  | .hbm, ⟨57, _⟩ => ⟨S_, .f32⟩
  | .hbm, ⟨58, _⟩ => ⟨S_, .f32⟩
  | .hbm, ⟨59, _⟩ => ⟨S1x8x2048x16384, .i1⟩
  | .hbm, ⟨60, _⟩ => ⟨S1x8x2048x16384, .f32⟩
  | .hbm, ⟨61, _⟩ => ⟨S1x8x2048x16384, .f32⟩
  | .hbm, ⟨62, _⟩ => ⟨S_, .f32⟩
  | .hbm, ⟨63, _⟩ => ⟨S1x8x2048, .f32⟩
  | .hbm, ⟨64, _⟩ => ⟨S1x8x2048x1, .f32⟩
  | .hbm, ⟨65, _⟩ => ⟨S1x8x2048x16384, .f32⟩
  | .hbm, ⟨66, _⟩ => ⟨S1x8x2048x16384, .f32⟩
  | .hbm, ⟨67, _⟩ => ⟨S1x8x2048x16384, .f32⟩
  | .hbm, ⟨68, _⟩ => ⟨S_, .i1⟩
  | .hbm, ⟨69, _⟩ => ⟨S2048, .i1⟩
  | .hbm, ⟨70, _⟩ => ⟨S1x1x2048x1, .i1⟩
  | .hbm, ⟨71, _⟩ => ⟨S_, .f32⟩
  | .hbm, ⟨72, _⟩ => ⟨S1x8x2048, .f32⟩
  | .hbm, ⟨73, _⟩ => ⟨S1x8x2048x1, .f32⟩
  | .hbm, ⟨74, _⟩ => ⟨S_, .f32⟩
  | .hbm, ⟨75, _⟩ => ⟨S_, .f32⟩
  | .hbm, ⟨76, _⟩ => ⟨S1x8x2048x1, .i1⟩
  | .hbm, ⟨77, _⟩ => ⟨S1x8x2048x1, .f32⟩
  | .hbm, ⟨78, _⟩ => ⟨S1x8x2048x1, .f32⟩
  | .hbm, ⟨79, _⟩ => ⟨S1x8x2048x16384, .f32⟩
  | .hbm, ⟨80, _⟩ => ⟨S1x8x2048x16384, .f32⟩
  | .hbm, ⟨81, _⟩ => ⟨S1x1x2048x1, .i1⟩
  | .hbm, ⟨82, _⟩ => ⟨S_, .f32⟩
  | .hbm, ⟨83, _⟩ => ⟨S_, .f32⟩
  | .hbm, ⟨84, _⟩ => ⟨S1x8x2048x16384, .i1⟩
  | .hbm, ⟨85, _⟩ => ⟨S1x8x2048x16384, .f32⟩
  | .hbm, ⟨86, _⟩ => ⟨S1x8x2048x16384, .f32⟩
  | .hbm, ⟨87, _⟩ => ⟨S1x8x128x2048, .f32⟩
  | .hbm, ⟨88, _⟩ => ⟨S1x2048x8x128, .f32⟩
  | .hbm, ⟨89, _⟩ => ⟨S1x2048x1024, .f32⟩
  | .hbm, ⟨90, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_c_3 : Ref sig .tc := ⟨.hbm, 68, rfl⟩
abbrev main_v23 : Ref sig .tc := ⟨.hbm, 69, rfl⟩
abbrev main_v24 : Ref sig .tc := ⟨.hbm, 70, rfl⟩
abbrev main_cst_4 : Ref sig .tc := ⟨.hbm, 71, rfl⟩
abbrev main_v25 : Ref sig .tc := ⟨.hbm, 72, rfl⟩
abbrev main_v26 : Ref sig .tc := ⟨.hbm, 73, rfl⟩
abbrev main_cst_5 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_6 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩

abbrev nD : Nat := 1
abbrev τ : Topo := Topo.v7x

variable {F : FTy → Type} [FloatOps F]
-- ==== Proof.Protocol.lean ====
/-
# The exchange: who sends what to whom, and the schedule of every semaphore

Device 0 holds the keys and the values. Three trees carry them to the other seven devices, in sixteen chunks of 256
rows each: chunks 0 to 7 are the key rows, chunks 8 to 15 the value rows; chunk `k` goes down tree `k % 3`.
Every device enters through the runtime's barrier semaphore: it signals all eight devices and waits for all eight signals.

* barrier cell of device `q`: one unit from every device `j`; with its unit, `j` hands `q` the places of the chunks which
  `q` is to send to `j`;
* receive cell `k` of device `d`: paid by `d`'s parent in the tree of chunk `k`, with the chunk's rows;
* the two send cells `k` of device `d`: paid when `d`'s transfers of chunk `k` have left, giving the lent source back;
* the two local cells of device 0: paid by its two own copies.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds.Family
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the exchange's (duties named by a device) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The trees -/

/-- The devices the device `d` forwards chunk `k` to, as numbers. -/
def kidsN : ℕ → ℕ → List (Dev nD)
  | 0, 0 => [1] | 0, 1 => [2, 5] | 0, 2 => [3, 6] | 0, 5 => [4] | 0, 6 => [7]
  | 1, 0 => [3] | 1, 3 => [7, 2] | 1, 7 => [4, 6] | 1, 2 => [1] | 1, 6 => [5]
  | 2, 0 => [4] | 2, 4 => [5, 7] | 2, 5 => [1, 6] | 2, 7 => [3] | 2, 6 => [2]
  | _, _ => []

/-- The devices that device `d` forwards chunk `k` to. -/
def kids (k : Fin 16) (d : Dev nD) : List (Dev nD) := kidsN (k.val % 3) d.val

/-- The depth of device `d` in tree `t`. -/
def depthN : ℕ → ℕ → ℕ
  | 0, 1 => 1 | 0, 2 => 2 | 0, 3 => 3 | 0, 4 => 3 | 0, 5 => 2 | 0, 6 => 3 | 0, 7 => 4
  | 1, 1 => 3 | 1, 2 => 2 | 1, 3 => 1 | 1, 4 => 3 | 1, 5 => 4 | 1, 6 => 3 | 1, 7 => 2
  | 2, 1 => 3 | 2, 2 => 4 | 2, 3 => 3 | 2, 4 => 1 | 2, 5 => 2 | 2, 6 => 3 | 2, 7 => 2
  | _, _ => 0

/-- The stage of the computation that needs chunk `k`. -/
def stageOf (k : Fin 16) : ℕ := k.val % 8 / 2

/-- The level of chunk `k`'s receive cell on device `d`: it increases along the order in which a device forwards. -/
def lvlR (d : Dev nD) (k : Fin 16) : ℕ := 2 + 32 * stageOf k + (k.val / 3 + depthN (k.val % 3) d.val)

/-- The order in which device `d` waits for the chunks of stage `s`. -/
def ordN : ℕ → ℕ → List (Fin 16)
  | 0, 1 => [0, 1, 9, 8] | 1, 1 => [3, 2, 10, 11] | 2, 1 => [4, 5, 12, 13] | 3, 1 => [6, 7, 15, 14]
  | 0, 2 => [0, 1, 9, 8] | 1, 2 => [3, 2, 10, 11] | 2, 2 => [4, 5, 12, 13] | 3, 2 => [6, 7, 15, 14]
  | 0, 3 => [1, 0, 8, 9] | 1, 3 => [2, 3, 10, 11] | 2, 3 => [4, 5, 13, 12] | 3, 3 => [7, 6, 14, 15]
  | 0, 4 => [0, 1, 8, 9] | 1, 4 => [2, 3, 11, 10] | 2, 4 => [5, 4, 12, 13] | 3, 4 => [6, 7, 14, 15]
  | 0, 5 => [0, 1, 8, 9] | 1, 5 => [2, 3, 11, 10] | 2, 5 => [5, 4, 12, 13] | 3, 5 => [6, 7, 14, 15]
  | 0, 7 => [1, 0, 8, 9] | 1, 7 => [2, 3, 10, 11] | 2, 7 => [4, 5, 13, 12] | 3, 7 => [7, 6, 14, 15]
  | 0, _ => [0, 1, 8, 9] | 1, _ => [2, 3, 10, 11] | 2, _ => [4, 5, 12, 13] | 3, _ => [6, 7, 14, 15]
  | _, _ => []

def ord (s : ℕ) (d : Dev nD) : List (Fin 16) := ordN s d.val

/-- All sixteen chunks, in increasing order. -/
def chunks : List (Fin 16) := [0, 1, 2, 3, 4, 5, 6, 7, 8, 9, 10, 11, 12, 13, 14, 15]

/-- The chunks in the order a device handles them, from stage `n` on; -/
def todo : ℕ → Dev nD → List (Fin 16)
  | 0, d => ord 0 d ++ (ord 1 d ++ (ord 2 d ++ ord 3 d))
  | 1, d => ord 1 d ++ (ord 2 d ++ ord 3 d)
  | 2, d => ord 2 d ++ ord 3 d
  | 3, d => ord 3 d
  | _, _ => []

/-- and the chunks of the stages below `n`. -/
def done : ℕ → Dev nD → List (Fin 16)
  | 0, _ => []
  | 1, d => ord 0 d
  | 2, d => ord 0 d ++ ord 1 d
  | 3, d => (ord 0 d ++ ord 1 d) ++ ord 2 d
  | _, d => ((ord 0 d ++ ord 1 d) ++ ord 2 d) ++ ord 3 d

/-! ## The memrefs and cells -/

abbrev koM : Memref sig .tc .vmem S2048x1024 .f32 := Memref.whole cc0_scratch0
abbrev voM : Memref sig .tc .vmem S2048x1024 .f32 := Memref.whole cc0_scratch1
abbrev khM : Memref sig .tc .hbm S2048x1024 .f32 := Memref.whole main_arg2
abbrev vhM : Memref sig .tc .hbm S2048x1024 .f32 := Memref.whole main_arg3

theorem inb_chunk (k : Fin 16) : ∀ a, (![256 * (k.val % 8), 0] : Fin 2 → ℕ) a + S256x1024.size a ≤ S2048x1024.size a := by
  revert k; decide

/-- The rows of chunk `k` in a 2048 × 1024 array. -/
abbrev chunkRect (k : Fin 16) : Rect S2048x1024 := Rect.unit (s := S2048x1024) ![256 * (k.val % 8), 0] S256x1024.size (inb_chunk k)

/-- Chunk `k` in a device's own key or value buffer; -/
def cM (k : Fin 16) : Memref sig .tc .vmem S256x1024 .f32 :=
  if k.val < 8 then koM.slice (chunkRect k) (fun _ => rfl) else voM.slice (chunkRect k) (fun _ => rfl)
/-- and in device 0's key or value argument. -/
def hM (k : Fin 16) : Memref sig .tc .hbm S256x1024 .f32 :=
  if k.val < 8 then khM.slice (chunkRect k) (fun _ => rfl) else vhM.slice (chunkRect k) (fun _ => rfl)

/-- The runtime's barrier semaphore; -/
abbrev barS : Sem sig := (SemArray.scalar (sig.barrier 0 rfl) : Sems sig S_).sem
/-- the receive semaphores, the two rows of send semaphores, and the two of the local copies. -/
def rS (k : Fin 16) : DmaSem sig := ⟨4 + k.val, by have := k.isLt; show _ < 54; omega⟩
def sS (j : Fin 2) (k : Fin 16) : DmaSem sig := ⟨20 + 16 * j.val + k.val, by have := k.isLt; have := j.isLt; show _ < 54; omega⟩
def lS (j : Fin 2) : DmaSem sig := ⟨52 + j.val, by have := j.isLt; show _ < 54; omega⟩

abbrev barCell (d : Dev nD) : GSem nD τ sig := ((d : Thread nD τ), .reg barS)
abbrev rCell (d : Dev nD) (k : Fin 16) : GSem nD τ sig := ((d : Thread nD τ), .dma (rS k))
abbrev sCell (j : Fin 2) (d : Dev nD) (k : Fin 16) : GSem nD τ sig := ((d : Thread nD τ), .dma (sS j k))
abbrev lCell (j : Fin 2) (d : Dev nD) : GSem nD τ sig := ((d : Thread nD τ), .dma (lS j))

/-- A device's semaphores as this proof numbers them: the barrier, then the transfers' semaphores in order. -/
def csem (i : Fin 51) : SemLoc sig :=
  if h : i.val = 0 then .reg barS else .dma ⟨3 + i.val, by have := i.isLt; show _ < 54; omega⟩
abbrev kcell (x : Dev nD × Fin 51) : GSem nD τ sig := ((x.1 : Thread nD τ), csem x.2)

def iR (k : Fin 16) : Fin 51 := ⟨1 + k.val, by omega⟩
def iS (j : Fin 2) (k : Fin 16) : Fin 51 := ⟨17 + 16 * j.val + k.val, by omega⟩
def iL (j : Fin 2) : Fin 51 := ⟨49 + j.val, by omega⟩

theorem csem_R (k : Fin 16) : csem (iR k) = .dma (rS k) := by revert k; decide
theorem csem_S (j : Fin 2) (k : Fin 16) : csem (iS j k) = .dma (sS j k) := by revert j k; decide
theorem csem_L (j : Fin 2) : csem (iL j) = .dma (lS j) := by revert j; decide

/-- What a semaphore is for. -/
inductive Use where
  | bar | recv (k : Fin 16) | send (j : Fin 2) (k : Fin 16) | loc (j : Fin 2) | other
  deriving DecidableEq

def useD (n : ℕ) : Use :=
  if n < 4 then .other
  else if h : n < 20 then .recv ⟨n - 4, by omega⟩
  else if h : n < 36 then .send 0 ⟨n - 20, by omega⟩
  else if h : n < 52 then .send 1 ⟨n - 36, by omega⟩
  else if h : n < 54 then .loc ⟨n - 52, by omega⟩ else .other

def useOf : SemLoc sig → Use
  | .reg _ => .bar
  | .dma q => useD q.val

theorem use_R (k : Fin 16) : useOf (.dma (rS k)) = .recv k := by revert k; decide
theorem use_S (j : Fin 2) (k : Fin 16) : useOf (.dma (sS j k)) = .send j k := by revert j k; decide
theorem use_L (j : Fin 2) : useOf (.dma (lS j)) = .loc j := by revert j; decide

/-- The credit of one chunk's transfer, and of a whole local copy. -/
def N : ℕ := (cM 0).view.dmaCredit
def NL : ℕ := koM.view.dmaCredit

theorem N_eq (k : Fin 16) : (cM k).view.dmaCredit = N := by
  unfold N cM; split <;> rfl
theorem N_pos : 0 < N := View.dmaCredit_pos _ (by decide)
theorem NL_pos : 0 < NL := View.dmaCredit_pos _ (by decide)

/-! ## Contents -/

/-- Device 0's keys and values, as a key or value buffer holds them. -/
def KB : (cc0_scratch0 : Ref sig .tc).ty.Contents (Elt F) := m (((0 : Dev nD) : Thread nD τ).loc main_arg2)
def VB : (cc0_scratch1 : Ref sig .tc).ty.Contents (Elt F) := m (((0 : Dev nD) : Thread nD τ).loc main_arg3)

/-- The rows of chunk `k`. -/
def kv (k : Fin 16) : S256x1024.Idx → Elt F .f32 :=
  if k.val < 8 then (koM.slice (chunkRect k) (fun _ => rfl)).view.read (Elt F) (KB m)
  else (voM.slice (chunkRect k) (fun _ => rfl)).view.read (Elt F) (VB m)

/-- Device `d` holds chunk `k` of device 0's rows, at share `q`; -/
def chunkPts (d : Dev nD) (k : Fin 16) (q : PosShare TreeShare) : sProp 𝕄 :=
  (cM k).view.loc (d : Thread nD τ) ↦[(cM k).view.set]{q} ((cM k).view.rep (kv m k))
/-- the place of chunk `k` on device `d`, whatever it holds; -/
def spot (d : Dev nD) (k : Fin 16) : sProp 𝕄 :=
  iprop(∃ f : Buf (Elt F) ((cM k).view.loc (d : Thread nD τ)), (cM k).view.loc (d : Thread nD τ) ↦[(cM k).view.set]{fullShare} f)
/-- device 0's argument rows of chunk `k`, at share `q`. -/
def hbmPts (k : Fin 16) (q : PosShare TreeShare) : sProp 𝕄 :=
  (hM k).view.loc ((0 : Dev nD) : Thread nD τ) ↦[(hM k).view.set]{q} ((hM k).view.rep (kv m k))

/-- The share a device computes with, and the shares it lends to its two forwards. -/
def qc : PosShare TreeShare := fullShare.left
def qs (j : Fin 2) : PosShare TreeShare := if j = 0 then fullShare.right.left else fullShare.right.right

/-- What a device lends to its transfer `j` of chunk `k`: device 0 the left half of its argument's rows, another device a
    share of the rows it received. -/
def lent (d : Dev nD) (k : Fin 16) (j : Fin 2) : sProp 𝕄 :=
  if d = 0 then hbmPts m k fullShare.left else chunkPts m d k (qs j)

/-- What a local copy of device 0 leaves: the buffer filled, and the half of the argument it read back. -/
def copied (j : Fin 2) : sProp 𝕄 :=
  if j = 0 then
    iprop((koM.view.loc ((0 : Dev nD) : Thread nD τ) ↦[koM.view.set]{fullShare} KB m)
      ∗ (khM.view.loc ((0 : Dev nD) : Thread nD τ) ↦[khM.view.set]{fullShare.right} m (((0 : Dev nD) : Thread nD τ).loc main_arg2)))
  else
    iprop((voM.view.loc ((0 : Dev nD) : Thread nD τ) ↦[voM.view.set]{fullShare} VB m)
      ∗ (vhM.view.loc ((0 : Dev nD) : Thread nD τ) ↦[vhM.view.set]{fullShare.right} m (((0 : Dev nD) : Thread nD τ).loc main_arg3)))

/-- What device `j`'s signal hands device `q`: the places of the chunks `q` sends to `j`. -/
def barPay (q j : Dev nD) : sProp 𝕄 :=
  bigSep Finset.univ fun k : Fin 16 => if j ∈ kids k q then spot j k else iprop(emp)

instance chunkPts_storable (d k q) : BI.Storable (upEmb : UEmb _ 𝕄) (chunkPts (F := F) m d k q) := by unfold chunkPts; infer_instance
instance spot_storable (d k) : BI.Storable (upEmb : UEmb _ 𝕄) (spot (F := F) d k) := by unfold spot; infer_instance
instance lent_storable (d k j) : BI.Storable (upEmb : UEmb _ 𝕄) (lent (F := F) m d k j) := by
  unfold lent hbmPts; split <;> infer_instance
instance copied_storable (j) : BI.Storable (upEmb : UEmb _ 𝕄) (copied (F := F) m j) := by
  unfold copied; split <;> infer_instance
instance barPay_storable (q j) : BI.Storable (upEmb : UEmb _ 𝕄) (barPay (F := F) q j) := by
  unfold barPay
  have h (k : Fin 16) : BI.Storable (upEmb : UEmb _ 𝕄) (if j ∈ kids k q then spot (F := F) j k else iprop(emp)) := by
    split <;> infer_instance
  infer_instance

/-! ## The schedule -/

def dutyOf (d : Dev nD) : Use → Finset (Fin 8)
  | .bar => Finset.univ
  | .recv _ => if d = 0 then ∅ else {0}
  | .send j k => if j.val < (kids k d).length then {0} else ∅
  | .loc _ => if d = 0 then {0} else ∅
  | .other => ∅

def amtOf : Use → ℕ
  | .recv _ => N
  | .send _ _ => N
  | .loc _ => NL
  | _ => 1

def payOf (d : Dev nD) (j : Fin 8) : Use → sProp 𝕄
  | .bar => barPay d j
  | .recv k => chunkPts m d k fullShare
  | .send i k => lent m d k i
  | .loc i => copied m i
  | .other => iprop(emp)

/-- One round per cell. -/
def sched : Rounds.Schedule (GSem nD τ sig) (Fin 8) 𝕄 where
  duties g r := if r = 0 ∧ g.1.2 = .tc then dutyOf g.1.1 (useOf g.2) else ∅
  unitless _ := False
  amount g _ _ := amtOf (useOf g.2)
  payload g _ j := payOf m g.1.1 j (useOf g.2)
  amount_pos g _ _ _ := by
    cases h : useOf g.2 <;> simp only [amtOf] <;> first | exact N_pos | exact NL_pos | exact Nat.one_pos

instance sched_payload_storable (g : GSem nD τ sig) (r : ℕ) (j : Fin 8) :
    BI.Storable (upEmb : UEmb _ 𝕄) ((sched (F := F) m).payload g r j) := by
  show BI.Storable upEmb (payOf m g.1.1 j (useOf g.2))
  cases useOf g.2 <;> simp only [payOf] <;> infer_instance

section Sched
variable (d : Dev nD) (k : Fin 16) (j : Fin 2)

theorem duties_bar : (sched (F := F) m).duties (barCell d) 0 = Finset.univ := by dsimp only [sched]; exact if_pos ⟨rfl, rfl⟩
theorem duties_R (h : d ≠ 0) : (sched (F := F) m).duties (rCell d k) 0 = {0} := by
  dsimp only [sched]; rw [if_pos ⟨rfl, rfl⟩, use_R]; exact if_neg h
theorem duties_S (h : j.val < (kids k d).length) : (sched (F := F) m).duties (sCell j d k) 0 = {0} := by
  dsimp only [sched]; rw [if_pos ⟨rfl, rfl⟩, use_S]; exact if_pos h
theorem duties_L : (sched (F := F) m).duties (lCell j 0) 0 = {0} := by
  dsimp only [sched]; rw [if_pos ⟨rfl, rfl⟩, use_L]; rfl
theorem duties_later (g : GSem nD τ sig) : ∀ r, 1 ≤ r → (sched (F := F) m).duties g r = ∅ :=
  fun r hr => by dsimp only [sched]; rw [if_neg fun h => by omega]

theorem amount_bar (i) : (sched (F := F) m).amount (barCell d) 0 i = 1 := rfl
theorem amount_R (i) : (sched (F := F) m).amount (rCell d k) 0 i = N := by dsimp only [sched]; rw [use_R]; rfl
theorem amount_S (i) : (sched (F := F) m).amount (sCell j d k) 0 i = N := by dsimp only [sched]; rw [use_S]; rfl
theorem amount_L (i) : (sched (F := F) m).amount (lCell j d) 0 i = NL := by dsimp only [sched]; rw [use_L]; rfl

theorem expect_bar : (sched (F := F) m).expect (barCell d) 0 = 8 := by
  unfold Schedule.expect Schedule.amountOf
  rw [duties_bar, Finset.sum_congr rfl fun i _ => amount_bar m d i, Finset.sum_const, Finset.card_univ, Fintype.card_fin, smul_eq_mul]
theorem expect_R (h : d ≠ 0) : (sched (F := F) m).expect (rCell d k) 0 = N := by
  unfold Schedule.expect Schedule.amountOf; rw [duties_R m d k h, Finset.sum_singleton, amount_R]
theorem expect_S (h : j.val < (kids k d).length) : (sched (F := F) m).expect (sCell j d k) 0 = N := by
  unfold Schedule.expect Schedule.amountOf; rw [duties_S m d k j h, Finset.sum_singleton, amount_S]
theorem expect_L : (sched (F := F) m).expect (lCell j 0) 0 = NL := by
  unfold Schedule.expect Schedule.amountOf; rw [duties_L, Finset.sum_singleton, amount_L]

theorem pay_bar (i) : (sched (F := F) m).payload (barCell d) 0 i = barPay d i := rfl
theorem pay_R (i) : (sched (F := F) m).payload (rCell d k) 0 i = chunkPts m d k fullShare := by dsimp only [sched]; rw [use_R]; rfl
theorem pay_S (i) : (sched (F := F) m).payload (sCell j d k) 0 i = lent m d k j := by dsimp only [sched]; rw [use_S]; rfl
theorem pay_L (i) : (sched (F := F) m).payload (lCell j d) 0 i = copied m j := by dsimp only [sched]; rw [use_L]; rfl

theorem rest_bar : bigSep ((sched (F := F) m).duties (barCell d) 0 \ ∅) (fun i => (sched (F := F) m).payload (barCell d) 0 i)
    = bigSep Finset.univ (fun i => barPay d i) := by
  rw [Finset.sdiff_empty, duties_bar]; rfl
theorem rest_R (h : d ≠ 0) : bigSep ((sched (F := F) m).duties (rCell d k) 0 \ ∅) (fun i => (sched (F := F) m).payload (rCell d k) 0 i)
    = chunkPts m d k fullShare := by
  rw [Finset.sdiff_empty, duties_R m d k h, bigSep_singleton, pay_R]
theorem rest_S (h : j.val < (kids k d).length) :
    bigSep ((sched (F := F) m).duties (sCell j d k) 0 \ ∅) (fun i => (sched (F := F) m).payload (sCell j d k) 0 i) = lent m d k j := by
  rw [Finset.sdiff_empty, duties_S m d k j h, bigSep_singleton, pay_S]
theorem rest_L : bigSep ((sched (F := F) m).duties (lCell j 0) 0 \ ∅) (fun i => (sched (F := F) m).payload (lCell j 0) 0 i) = copied m j := by
  rw [Finset.sdiff_empty, duties_L, bigSep_singleton, pay_L]

end Sched

/-! ## What a device owes; the levels -/

/-- A sum of credits owed, the head of the list the last summand. -/
def osum : List (GSem nD τ sig × ℕ) → CellTallies nD τ sig Unit
  | [] => 0
  | x :: l => osum l + tallyAt x.1 () x.2

/-- The receive credits device `d` pays when it forwards the chunks `l` in order; -/
def sendsL (d : Dev nD) (l : List (Fin 16)) : List (GSem nD τ sig × ℕ) :=
  l.flatMap fun k => (kids k d).map fun e => (rCell e k, N)
/-- the barrier units it pays. -/
def barsL (l : List (Dev nD)) : List (GSem nD τ sig × ℕ) := l.map fun q => (barCell q, 1)

/-- The devices in the order they are signalled. -/
def devs : List (Dev nD) := [0, 1, 2, 3, 4, 5, 6, 7]

/-- The chunks in the order device `d` sends them. -/
def sendOrd (d : Dev nD) : List (Fin 16) := if d = 0 then chunks else todo 0 d

/-- What device `d` owes at launch. -/
def O₀ (d : Dev nD) : CellTallies nD τ sig Unit := osum (barsL devs ++ sendsL d (sendOrd d))

def L (g : GSem nD τ sig) : Finset Unit := if g.1.2 = .tc then {()} else ∅

def lvU (d : Dev nD) : Use → ℕ
  | .bar => 1
  | .recv k => lvlR d k
  | _ => 0
/-- barrier cells at 1, receive cells above it in the order of forwarding, everything else at 0. -/
def lv (g : GSem nD τ sig) (_ : Unit) : ℕ := lvU g.1.1 (useOf g.2)

theorem L_of_ne (g : GSem nD τ sig) (h : g.1.2 ≠ .tc) : L g = ∅ := if_neg h
theorem L_tc (d : Dev nD) (sm : SemLoc sig) : L ((d : Thread nD τ), sm) = {()} := if_pos rfl

theorem lv_bar (d : Dev nD) : lv (barCell d) () = 1 := rfl
theorem lv_R (d : Dev nD) (k : Fin 16) : lv (rCell d k) () = lvlR d k := by unfold lv; rw [use_R]; rfl

theorem osum_pos {l : List (GSem nD τ sig × ℕ)} {g : GSem nD τ sig} {u : Unit} (h : 0 < osum l g u) : ∃ x ∈ l, x.1 = g := by
  induction l with
  | nil => exact absurd h (Nat.lt_irrefl 0)
  | cons x l ih =>
    unfold osum at h
    rw [Pi.add_apply, Finsupp.add_apply, tallyAt_apply] at h
    by_cases hx : g = x.1 ∧ u = ()
    · exact ⟨x, List.mem_cons_self, hx.1.symm⟩
    · rw [if_neg hx, Nat.add_zero] at h
      obtain ⟨y, hy, e⟩ := ih h
      exact ⟨y, List.mem_cons_of_mem _ hy, e⟩

/-- A wait on a cell of level at most `n` is allowed below debts that all lie above `n`. -/
theorem mayWait_of (d : Dev nD) (sm : SemLoc sig) (n : ℕ) (l : List (GSem nD τ sig × ℕ)) (hs : lv ((d : Thread nD τ), sm) () ≤ n)
    (hl : ∀ x ∈ l, x.1.1.2 = .tc ∧ n < lv x.1 ()) :
    (levAts L lv : sProp 𝕄) ⊢ MayWait (d : Thread nD τ) sm () (osum l) :=
  MayOwe.of_cut (L := L) (lev := lv) n (fun p hp => by rw [Finset.mem_singleton.mp hp, L_tc]; exact Finset.mem_singleton_self _)
    (fun g u hg => by
      obtain ⟨x, hx, rfl⟩ := osum_pos hg
      unfold L; rw [if_pos (hl x hx).1]; exact Finset.mem_singleton_self _)
    (fun p hp => by rw [Finset.mem_singleton.mp hp]; exact hs)
    (fun g u hg => by obtain ⟨x, hx, rfl⟩ := osum_pos hg; exact (hl x hx).2)

theorem mem_sendsL {d : Dev nD} {l : List (Fin 16)} {x : GSem nD τ sig × ℕ} (h : x ∈ sendsL d l) :
    ∃ k ∈ l, ∃ e ∈ kids k d, x = (rCell e k, N) := by
  unfold sendsL at h
  obtain ⟨k, hk, h⟩ := List.mem_flatMap.mp h
  obtain ⟨e, he, h⟩ := List.mem_map.mp h
  exact ⟨k, hk, e, he, h.symm⟩

/-- The wait for chunk `k` on device `d` is allowed below the forwards of the chunks `l` when those cells lie above. -/
theorem mayWait_R (d : Dev nD) (k : Fin 16) (l : List (Fin 16)) (h : ∀ k' ∈ l, ∀ e ∈ kids k' d, lvlR d k < lvlR e k') :
    (levAts L lv : sProp 𝕄) ⊢ MayWait (d : Thread nD τ) (.dma (rS k)) () (osum (sendsL d l)) :=
  mayWait_of d _ (lvlR d k) _ (le_of_eq (lv_R d k)) fun x hx => by
    obtain ⟨k', hk', e, he, rfl⟩ := mem_sendsL hx
    exact ⟨rfl, by rw [lv_R]; exact h k' hk' e he⟩

theorem lvlR_gt (d : Dev nD) (k : Fin 16) : 1 < lvlR d k := by unfold lvlR; omega

/-- The barrier's wait is allowed below all forwards. -/
theorem mayWait_bar (d : Dev nD) (l : List (Fin 16)) :
    (levAts L lv : sProp 𝕄) ⊢ MayWait (d : Thread nD τ) (.reg barS) () (osum (sendsL d l)) :=
  mayWait_of d _ 1 _ le_rfl fun x hx => by
    obtain ⟨k', _, e, _, rfl⟩ := mem_sendsL hx
    exact ⟨rfl, by rw [lv_R]; exact lvlR_gt e k'⟩

/-- A pipeline's staging wait is allowed at launch. -/
theorem mayWait_stage (d : Dev nD) (q : DmaSem sig) (hq : useOf (.dma q) = .other) (O : CellTallies nD τ sig Unit) (hO : O = O₀ d ∨ O = 0) :
    (levAts L lv : sProp 𝕄) ⊢ MayWait (d : Thread nD τ) (.dma q) () O := by
  rcases hO with rfl | rfl
  · refine mayWait_of d _ 0 _ (by unfold lv; rw [hq]; exact le_rfl) fun x hx => ?_
    rcases List.mem_append.mp hx with hx | hx
    · obtain ⟨q, _, rfl⟩ := List.mem_map.mp hx
      exact ⟨rfl, by rw [lv_bar]; decide⟩
    · obtain ⟨k', _, e, _, rfl⟩ := mem_sendsL hx
      exact ⟨rfl, by rw [lv_R]; exact lt_trans Nat.zero_lt_one (lvlR_gt e k')⟩
  · rw [MayWait_zero]; iintro -; iempintro

/-! ## Facts of the trees -/

/-- In each stage, every forward of a chunk or of a later one is to a cell above the chunk's own. -/
def okL (d : Dev nD) : List (Fin 16) → Prop
  | [] => True
  | k :: l => (∀ k' ∈ k :: l, ∀ e ∈ kids k' d, lvlR d k < lvlR e k') ∧ okL d l

instance okL_dec (d : Dev nD) : (l : List (Fin 16)) → Decidable (okL d l)
  | [] => inferInstanceAs (Decidable True)
  | k :: l => have := okL_dec d l; inferInstanceAs (Decidable (_ ∧ _))

theorem okL_todo : ∀ d : Dev nD, okL d (todo 0 d) := by decide
theorem okL_append {d : Dev nD} {l l' : List (Fin 16)} (h : okL d (l ++ l')) : okL d l' := by
  induction l with
  | nil => exact h
  | cons k l ih => exact ih h.2

theorem kids_length : ∀ (k : Fin 16) (d : Dev nD), (kids k d).length ≤ 2 := by decide
theorem kids_nodup : ∀ (k : Fin 16) (d : Dev nD), (kids k d).Nodup := by decide
theorem kids_ne_zero : ∀ (k : Fin 16) (d : Dev nD), ∀ e ∈ kids k d, e ≠ 0 := by decide
theorem kids_zero_length : ∀ k : Fin 16, (kids k 0).length = 1 := by decide
theorem kids_parent : ∀ (k : Fin 16) (e : Dev nD), e ≠ 0 → ∃ p : Dev nD, ∀ q, e ∈ kids k q ↔ q = p := by decide
theorem kids_self : ∀ (k : Fin 16) (d : Dev nD), d ∉ kids k d := by decide

end Cert.Attn

end
-- ==== Proof.Acts.lean ====
/-
# The exchange's steps, one proof each

A device's part of the exchange is a sequence of three kinds of steps: wait for a chunk, send a chunk on, wait until a
chunk has left. Each is written as a program and proved once, for every device and chunk, together with what a device
holds for a chunk before it arrives (`Awaited`), while it is being forwarded (`Held`) and after its forwards have left
(`Settled`).
-/
module

public import proofs.«01_k».proof.Proof.Protocol
public import Idealize.ShloMosaic.Lib.Pipeline.BigSepL

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev PG (F : FTy → Type) [FloatOps F] : Type 1 := Prog (TpuEff nD τ sig (Elt F) Λ₀ .tc) PUnit

/-- The weakest precondition of a TensorCore's program on device `d`. -/
abbrev wpd {α : Type} (d : Dev nD) (p : Prog (TpuEff nD τ sig (Elt F) Λ₀ .tc) α) (Q : α → sProp 𝕄) : sProp 𝕄 :=
  wp frame (wpE (defs₀ (F := F)) 𝒱₀ (d : Thread nD τ) none) Set.univ p Q

theorem wpd_bind {α β : Type} (d : Dev nD) (p : Prog (TpuEff nD τ sig (Elt F) Λ₀ .tc) α) (k : α → Prog (TpuEff nD τ sig (Elt F) Λ₀ .tc) β)
    (Q : β → sProp 𝕄) : wpd d (p >>= k) Q = wpd d p (fun a => wpd d (k a) Q) := wp_bind _ _ _ _ _ _
theorem wpd_ret {α : Type} (d : Dev nD) (a : α) (Q : α → sProp 𝕄) : Q a ⊢ wpd d (.ret a) Q := by
  unfold wpd; rw [wp_ret]; iintro H; imodintro; iexact H
theorem wpd_pure {α : Type} (d : Dev nD) (a : α) (Q : α → sProp 𝕄) : Q a ⊢ wpd d (pure a) Q := wpd_ret d a Q
theorem wpd_wand {α : Type} (d : Dev nD) (p : Prog (TpuEff nD τ sig (Elt F) Λ₀ .tc) α) (Q Q' : α → sProp 𝕄) :
    iprop(wpd d p Q ∗ (∀ a, Q a -∗ Q' a)) ⊢ wpd d p Q' := wp_wand_r frame (wpE (defs₀ (F := F)) 𝒱₀ (d : Thread nD τ) none) Set.univ

/-! ## What every device knows -/

/-- Every cell's invariant, and that every cell is at round 0. -/
def records (K : Dev nD × Fin 51 → ℕ) : sProp 𝕄 :=
  iprop((bigSep Finset.univ fun x : Dev nD × Fin 51 => cellInv ER (sched m) (K x) (kcell x))
    ∗ bigSep Finset.univ fun x : Dev nD × Fin 51 => reached ER (kcell x) 0)

instance records_persistent (K : Dev nD × Fin 51 → ℕ) : BI.Persistent (records m K) := by unfold records; infer_instance

def Know (K : Dev nD × Fin 51 → ℕ) : sProp 𝕄 := iprop(records m K ∗ levAts L lv)

instance know_persistent (K : Dev nD × Fin 51 → ℕ) : BI.Persistent (Know m K) := by unfold Know; infer_instance

section Facts
variable (K : Dev nD × Fin 51 → ℕ) (d : Dev nD) (k : Fin 16) (j : Fin 2)

theorem know_inv (x : Dev nD × Fin 51) : Know m K ⊢ cellInv ER (sched m) (K x) (kcell x) := by
  unfold Know records
  exact sep_elim_left.trans (sep_elim_left.trans (bigSep_elim (Finset.mem_univ x)))
theorem know_reached (x : Dev nD × Fin 51) : Know m K ⊢ reached ER (kcell x) 0 := by
  unfold Know records
  exact sep_elim_left.trans (sep_elim_right.trans (bigSep_elim (Finset.mem_univ x)))
theorem know_lev : Know m K ⊢ levAts L lv := by unfold Know; exact sep_elim_right

theorem inv_bar : Know m K ⊢ cellInv ER (sched m) (K (d, 0)) (barCell d) := know_inv m K (d, 0)
theorem reached_bar : Know m K ⊢ reached ER (barCell d) 0 := know_reached m K (d, 0)
theorem inv_R : Know m K ⊢ cellInv ER (sched m) (K (d, iR k)) (rCell d k) := by
  have h := know_inv m K (d, iR k); unfold kcell at h; rw [csem_R] at h; exact h
theorem reached_R : Know m K ⊢ reached ER (rCell d k) 0 := by
  have h := know_reached m K (d, iR k); unfold kcell at h; rw [csem_R] at h; exact h
theorem inv_S : Know m K ⊢ cellInv ER (sched m) (K (d, iS j k)) (sCell j d k) := by
  have h := know_inv m K (d, iS j k); unfold kcell at h; rw [csem_S] at h; exact h
theorem reached_S : Know m K ⊢ reached ER (sCell j d k) 0 := by
  have h := know_reached m K (d, iS j k); unfold kcell at h; rw [csem_S] at h; exact h
theorem inv_L : Know m K ⊢ cellInv ER (sched m) (K (d, iL j)) (lCell j d) := by
  have h := know_inv m K (d, iL j); unfold kcell at h; rw [csem_L] at h; exact h
theorem reached_L : Know m K ⊢ reached ER (lCell j d) 0 := by
  have h := know_reached m K (d, iL j); unfold kcell at h; rw [csem_L] at h; exact h

end Facts

/-! ## The steps as programs -/

theorem cM_tc (k : Fin 16) : (cM k).view.ref.isScScratch = false := by unfold cM; split <;> rfl

/-- Wait for chunk `k`; -/
def waitP (k : Fin 16) : PG F :=
  Prog.lift (.waitDma2 (rS k) (cM k) (cM k) (View.wordExact_bits rfl) (View.wordExact_bits rfl))
/-- send it on to device `e`, as this device's transfer `j` of it; -/
def sendP (k : Fin 16) (j : Fin 2) (e : Dev nD) : PG F :=
  Prog.lift (.enqueueDma (cM k) (.remote (Dev.tc e) (cM k) (.dma (sS j k)) (cM_tc k)) (.dma (rS k))
    (View.wordExact_bits rfl) (View.wordExact_bits rfl) ⟨⟨rfl, Or.inl rfl⟩, trivial⟩)
/-- device 0 sends its own argument's rows; -/
def sendHP (k : Fin 16) (e : Dev nD) : PG F :=
  Prog.lift (.enqueueDma (hM k) (.remote (Dev.tc e) (cM k) (.dma (sS 0 k)) (cM_tc k)) (.dma (rS k))
    (View.wordExact_bits rfl) (View.wordExact_bits rfl) ⟨⟨rfl, Or.inl rfl⟩, trivial⟩)
/-- wait until transfer `j` of chunk `k` has left; -/
def leftP (k : Fin 16) (j : Fin 2) : PG F :=
  Prog.lift (.waitDma2 (sS j k) (cM k) (cM k) (View.wordExact_bits rfl) (View.wordExact_bits rfl))
/-- the same on device 0. -/
def leftHP (k : Fin 16) : PG F :=
  Prog.lift (.waitDma2 (sS 0 k) (cM k) (hM k) (View.wordExact_bits rfl) (View.wordExact_bits rfl))

/-- The transfers of chunk `k` to a list of devices; -/
def sendsP (k : Fin 16) : List (Fin 2 × Dev nD) → PG F
  | [] => pure ⟨⟩
  | x :: l => do sendP k x.1 x.2; sendsP k l
def leftsP (k : Fin 16) : List (Fin 2 × Dev nD) → PG F
  | [] => pure ⟨⟩
  | x :: l => do leftP k x.1; leftsP k l

/-- A device's transfers of chunk `k`: the first kid by transfer 0, the second by transfer 1. -/
def slots (k : Fin 16) (d : Dev nD) : List (Fin 2 × Dev nD) :=
  match kids k d with
  | [] => []
  | [a] => [(0, a)]
  | a :: b :: _ => [(0, a), (1, b)]

/-- What device `d` does for the chunks `l`: wait for each and send it on; -/
def passP (d : Dev nD) : List (Fin 16) → PG F
  | [] => pure ⟨⟩
  | k :: l => do waitP k; sendsP k (slots k d); passP d l
/-- and at the end, wait until the transfers have left. -/
def leaveP (d : Dev nD) : List (Fin 16) → PG F
  | [] => pure ⟨⟩
  | k :: l => do leftsP k (slots k d); leaveP d l

/-- Device 0's transfers of the chunks `l`; -/
def startP : List (Fin 16) → PG F
  | [] => pure ⟨⟩
  | k :: l => do sendHP k ((kids k 0).headD 0); startP l
/-- and its waits until they have left. -/
def leaveHP : List (Fin 16) → PG F
  | [] => pure ⟨⟩
  | k :: l => do leftHP k; leaveHP l

/-! ## Contents -/

theorem read_c (k : Fin 16) : (cM k).view.read (Elt F) ((cM k).view.rep (kv m k)) = kv m k := View.read_rep _ _
theorem read_h (k : Fin 16) : (hM k).view.read (Elt F) ((hM k).view.rep (kv m k)) = kv m k := View.read_rep _ _

/-- A chunk written with device 0's rows is held at them. -/
theorem landed (e : Dev nD) (k : Fin 16) (f : Buf (Elt F) ((cM k).view.loc (e : Thread nD τ))) (w : S256x1024.Idx → Elt F .f32) (hw : w = kv m k) :
    ((cM k).view.loc (e : Thread nD τ) ↦[(cM k).view.set]{fullShare} (cM k).view.write (Elt F) f w Finset.univ : sProp 𝕄) ⊢ chunkPts m e k fullShare := by
  subst hw
  refine (pointsTo_rep_entails (e : Thread nD τ) (cM k) _ _).trans (Entails.of_eq ?_)
  unfold chunkPts
  rw [View.read_write_univ]

/-! ## The single steps -/

section Steps
variable (K : Dev nD × Fin 51 → ℕ) (d e : Dev nD) (k : Fin 16) (j : Fin 2)

/-- A device sends a received chunk on, lending the share of that transfer. -/
theorem wp_send (hd : d ≠ 0) (hj : j.val < (kids k d).length) (he : e ≠ 0) (O : CellTallies nD τ sig Unit) (W : Waits sig Unit) (Q : PUnit → sProp 𝕄) :
    iprop(Know m K ∗ chunkPts m d k (qs j) ∗ spot e k ∗ owes (d : Thread nD τ) (O + tallyAt (rCell e k) () N) W
        ∗ dutyTok ER (sCell j d k) 0 0 ∗ dutyTok ER (rCell e k) 0 0
        ∗ ((cred (tallyAt (sCell j d k) () N) ∗ owes (d : Thread nD τ) O W) -∗ Q ⟨⟩))
      ⊢ wpd d (sendP k j e) Q := by
  unfold spot
  iintro ⟨#HK, Hc, ⟨%f, Hs⟩, HO, Ht, Ht', HQ⟩
  unfold chunkPts sendP
  iapply (Rounds.wp_send_pointsTo 𝒱₀ ER (sched m) (d : Thread nD τ) none (κ₁ := K (d, iS j k)) (κ₂ := K (e, iR k))
    (r₁ := 0) (r₂ := 0) (d₁ := 0) (d₂ := 0) (fd := f)
    (by rw [duties_S m d k j hj]; exact Finset.mem_singleton_self _) (by rw [duties_R m e k he]; exact Finset.mem_singleton_self _)
    () () N (show (cM k).view.amount (.dma (rS k)) = N from N_eq k) (amount_S m d k j 0) (amount_R m e k 0) O rfl (W := W)
    (by rw [pay_S]; unfold lent; rw [if_neg hd]; exact BI.Entails.refl _)
    (by rw [pay_R]; exact landed m e k f _ (read_c m k))) $$ [Hc Hs HO Ht Ht']
  · isplitr; · iapply (inv_S m K d k j); iexact HK
    isplitr; · iapply (inv_R m K e k); iexact HK
    isplitl [Hc]; · iexact Hc
    isplitl [Hs]; · iexact Hs
    isplitl [HO]; · iexact HO
    isplitl [Ht]; · iexact Ht
    isplitr; · iapply (reached_S m K d k j); iexact HK
    isplitl [Ht']; · iexact Ht'
    iapply (reached_R m K e k); iexact HK
  iintro H
  rw [wp_ret]; imodintro
  iapply HQ; iexact H

/-- Device 0 sends its argument's rows, lending half of them. -/
theorem wp_sendH (he : e ≠ 0) (O : CellTallies nD τ sig Unit) (W : Waits sig Unit) (Q : PUnit → sProp 𝕄) :
    iprop(Know m K ∗ hbmPts m k fullShare.left ∗ spot e k ∗ owes ((0 : Dev nD) : Thread nD τ) (O + tallyAt (rCell e k) () N) W
        ∗ dutyTok ER (sCell 0 0 k) 0 0 ∗ dutyTok ER (rCell e k) 0 0
        ∗ ((cred (tallyAt (sCell 0 0 k) () N) ∗ owes ((0 : Dev nD) : Thread nD τ) O W) -∗ Q ⟨⟩))
      ⊢ wpd 0 (sendHP k e) Q := by
  unfold spot
  iintro ⟨#HK, Hc, ⟨%f, Hs⟩, HO, Ht, Ht', HQ⟩
  unfold hbmPts sendHP
  iapply (Rounds.wp_send_pointsTo 𝒱₀ ER (sched m) ((0 : Dev nD) : Thread nD τ) none (κ₁ := K (0, iS 0 k)) (κ₂ := K (e, iR k))
    (r₁ := 0) (r₂ := 0) (d₁ := 0) (d₂ := 0) (fd := f)
    (by rw [duties_S m 0 k 0 (by rw [kids_zero_length]; decide)]; exact Finset.mem_singleton_self _)
    (by rw [duties_R m e k he]; exact Finset.mem_singleton_self _)
    () () N (show (cM k).view.amount (.dma (rS k)) = N from N_eq k) (amount_S m 0 k 0 0) (amount_R m e k 0) O rfl (W := W)
    (by rw [pay_S]; unfold lent; rw [if_pos rfl]; exact BI.Entails.refl _)
    (by rw [pay_R]; exact landed m e k f _ (read_h m k))) $$ [Hc Hs HO Ht Ht']
  · isplitr; · iapply (inv_S m K 0 k 0); iexact HK
    isplitr; · iapply (inv_R m K e k); iexact HK
    isplitl [Hc]; · iexact Hc
    isplitl [Hs]; · iexact Hs
    isplitl [HO]; · iexact HO
    isplitl [Ht]; · iexact Ht
    isplitr; · iapply (reached_S m K 0 k 0); iexact HK
    isplitl [Ht']; · iexact Ht'
    iapply (reached_R m K e k); iexact HK
  iintro H
  rw [wp_ret]; imodintro
  iapply HQ; iexact H

/-- A device waits for a chunk, owing forwards of cells that all lie above it. -/
theorem wp_waitR (hd : d ≠ 0) (l : List (Fin 16)) (hl : ∀ k' ∈ l, ∀ e ∈ kids k' d, lvlR d k < lvlR e k') (W : Waits sig Unit) (Q : PUnit → sProp 𝕄) :
    iprop(Know m K ∗ cred (tallyAt (rCell d k) () N) ∗ owes (d : Thread nD τ) (osum (sendsL d l)) W ∗ atPos ER (rCell d k) 0 ∅ 0
        ∗ (∀ W', (owes (d : Thread nD τ) (osum (sendsL d l)) W' ∗ atPos ER (rCell d k) 1 ∅ 0 ∗ chunkPts m d k fullShare) -∗ Q ⟨⟩))
      ⊢ wpd d (waitP k) Q := by
  iintro ⟨#HK, Hc, HO, Hat, HQ⟩
  unfold waitP
  iapply (Rounds.wp_wait_rest_token 𝒱₀ ER (sched m) (d : Thread nD τ) none (κ := K (d, iR k))
      (wpE_waitDma2_eq 𝒱₀ (d : Thread nD τ) none Set.univ) (Set.mem_univ _) () (O := osum (sendsL d l)) (W := W) (R := 0) (m := 0) (T := ∅)
      (by rw [expect_R m d k hd, Nat.zero_add, N_eq])) $$ [Hc HO Hat]
  · isplitr; · iapply (inv_R m K d k); iexact HK
    isplitl [Hc]; · rw [N_eq]; iexact Hc
    isplitl [HO]; · iexact HO
    isplitr; · iapply (mayWait_R d k l hl); iapply (know_lev m K); iexact HK
    iexact Hat
  iintro ⟨HO, Hat, -, Hp⟩
  rw [wp_ret]; imodintro
  iapply HQ
  isplitl [HO]; · iexact HO
  isplitl [Hat]; · iexact Hat
  iapply (Entails.of_eq (rest_R m d k hd)) $$ Hp

/-- A device waits until a transfer has left: what it lent comes back. -/
theorem wp_left (hj : j.val < (kids k d).length) (W : Waits sig Unit) (Q : PUnit → sProp 𝕄)
    {sp : Space} (M : Memref sig .tc sp S256x1024 .f32) (hM : M.view.dmaCredit = N) {h₁ : (cM k).view.WordExact} {h₂ : M.view.WordExact} :
    iprop(Know m K ∗ cred (tallyAt (sCell j d k) () N) ∗ owes (d : Thread nD τ) 0 W ∗ atPos ER (sCell j d k) 0 ∅ 0
        ∗ (∀ W', (owes (d : Thread nD τ) 0 W' ∗ atPos ER (sCell j d k) 1 ∅ 0 ∗ lent m d k j) -∗ Q ⟨⟩))
      ⊢ wpd d (Prog.lift (.waitDma2 (sS j k) (cM k) M h₁ h₂)) Q := by
  iintro ⟨#HK, Hc, HO, Hat, HQ⟩
  iapply (Rounds.wp_wait_rest_token 𝒱₀ ER (sched m) (d : Thread nD τ) none (κ := K (d, iS j k))
      (wpE_waitDma2_eq 𝒱₀ (d : Thread nD τ) none Set.univ) (Set.mem_univ _) () (O := 0) (W := W) (R := 0) (m := 0) (T := ∅)
      (by rw [expect_S m d k j hj, Nat.zero_add, hM])) $$ [Hc HO Hat]
  · isplitr; · iapply (inv_S m K d k j); iexact HK
    isplitl [Hc]; · rw [hM]; iexact Hc
    isplitl [HO]; · iexact HO
    isplitr; · rw [MayWait_zero]; iempintro
    iexact Hat
  iintro ⟨HO, Hat, -, Hp⟩
  rw [wp_ret]; imodintro
  iapply HQ
  isplitl [HO]; · iexact HO
  isplitl [Hat]; · iexact Hat
  iapply (Entails.of_eq (rest_S m d k j hj)) $$ Hp

end Steps

theorem N_h (k : Fin 16) : (hM k).view.dmaCredit = N := by unfold N hM cM; split <;> rfl

/-! ## What a device holds for a chunk -/

/-- The right half of a chunk that no transfer has borrowed. -/
def spare (d : Dev nD) (k : Fin 16) : sProp 𝕄 :=
  if d = 0 then chunkPts m d k fullShare.right
  else match kids k d with
    | [] => iprop(chunkPts m d k (qs 0) ∗ chunkPts m d k (qs 1))
    | [_] => chunkPts m d k (qs 1)
    | _ => iprop(emp)

/-- The positions of the two send cells of a chunk, before any wait; -/
def unsent (d : Dev nD) (k : Fin 16) : sProp 𝕄 := iprop(atPos ER (sCell 0 d k) 0 ∅ 0 ∗ atPos ER (sCell 1 d k) 0 ∅ 0)

/-- after the waits a cell that was used is one round on. -/
def roundS (d : Dev nD) (k : Fin 16) (j : Fin 2) : ℕ := if j.val < (kids k d).length then 1 else 0
def roundR (d : Dev nD) : ℕ := if d = 0 then 0 else 1

/-- What device `d` needs to forward chunk `k` to its kids `l`: the rights to credit the cells, and the places. -/
def rights (d : Dev nD) (k : Fin 16) (l : List (Fin 2 × Dev nD)) : sProp 𝕄 :=
  bigSepL l fun x => iprop(dutyTok ER (sCell x.1 d k) 0 0 ∗ dutyTok ER (rCell x.2 k) 0 0 ∗ spot x.2 k)

def owedBack (d : Dev nD) (k : Fin 16) (l : List (Fin 2 × Dev nD)) : sProp 𝕄 :=
  bigSepL l fun x => cred (tallyAt (sCell x.1 d k) () N)

/-- Chunk `k` before it has arrived; -/
def Awaited (d : Dev nD) (k : Fin 16) : sProp 𝕄 :=
  iprop(cred (tallyAt (rCell d k) () N) ∗ atPos ER (rCell d k) 0 ∅ 0 ∗ rights d k (slots k d) ∗ unsent d k)

/-- everything but the half a device computes with, after its forwards have started; -/
def Tail (d : Dev nD) (k : Fin 16) : sProp 𝕄 :=
  iprop(spare m d k ∗ atPos ER (rCell d k) (roundR d) ∅ 0 ∗ owedBack d k (slots k d) ∗ unsent d k)

/-- and when its forwards have left. -/
def Settled (d : Dev nD) (k : Fin 16) : sProp 𝕄 :=
  iprop(chunkPts m d k fullShare.right ∗ (if d = 0 then hbmPts m k fullShare.left else iprop(emp)) ∗ atPos ER (rCell d k) (roundR d) ∅ 0
    ∗ atPos ER (sCell 0 d k) (roundS d k 0) ∅ 0 ∗ atPos ER (sCell 1 d k) (roundS d k 1) ∅ 0)

theorem share_eq (ℓ : Loc nD τ sig) (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

theorem chunk_halves (d : Dev nD) (k : Fin 16) : (chunkPts m d k fullShare : sProp 𝕄) = iprop(chunkPts m d k qc ∗ chunkPts m d k fullShare.right) := by
  unfold chunkPts qc; exact share_eq _ _ _ fullShare
theorem chunk_quarters (d : Dev nD) (k : Fin 16) :
    (chunkPts m d k fullShare.right : sProp 𝕄) = iprop(chunkPts m d k (qs 0) ∗ chunkPts m d k (qs 1)) := by
  unfold chunkPts qs; exact share_eq _ _ _ fullShare.right

theorem chunk_parts (d : Dev nD) (k : Fin 16) :
    (chunkPts m d k fullShare : sProp 𝕄) ⊢ iprop(chunkPts m d k qc ∗ chunkPts m d k (qs 0) ∗ chunkPts m d k (qs 1)) := by
  rw [chunk_halves, chunk_quarters]

/-- Chunk `k` on device `d`, its forwards started. -/
def Held (d : Dev nD) (k : Fin 16) : sProp 𝕄 := iprop(chunkPts m d k qc ∗ Tail m d k)

/-! ## Waiting for chunks and sending them on -/

theorem slots_nil {k : Fin 16} {d : Dev nD} (h : kids k d = []) : slots k d = [] := by unfold slots; rw [h]
theorem slots_one {k : Fin 16} {d a : Dev nD} (h : kids k d = [a]) : slots k d = [(0, a)] := by unfold slots; rw [h]
theorem slots_two {k : Fin 16} {d a b : Dev nD} (h : kids k d = [a, b]) : slots k d = [(0, a), (1, b)] := by unfold slots; rw [h]

theorem kids_cases (k : Fin 16) (d : Dev nD) : kids k d = [] ∨ (∃ a, kids k d = [a]) ∨ ∃ a b, kids k d = [a, b] := by
  have hl := kids_length k d
  match h : kids k d with
  | [] => exact Or.inl rfl
  | [a] => exact Or.inr (Or.inl ⟨a, rfl⟩)
  | [a, b] => exact Or.inr (Or.inr ⟨a, b, rfl⟩)
  | _ :: _ :: _ :: _ => rw [h] at hl; simp only [List.length_cons] at hl; omega

theorem sendsL_cons (d : Dev nD) (k : Fin 16) (l : List (Fin 16)) : sendsL d (k :: l) = ((kids k d).map fun e => (rCell e k, N)) ++ sendsL d l := by
  unfold sendsL; rw [List.flatMap_cons]

section Pass
variable (K : Dev nD × Fin 51 → ℕ) (d : Dev nD)

/-- One chunk: wait for it, then send it to the kids. -/
theorem wp_pass1 (hd : d ≠ 0) (k : Fin 16) (l : List (Fin 16)) (hl : ∀ k' ∈ k :: l, ∀ e ∈ kids k' d, lvlR d k < lvlR e k')
    (W : Waits sig Unit) (R : PG F) (Q : PUnit → sProp 𝕄) :
    iprop(Know m K ∗ Awaited d k ∗ owes (d : Thread nD τ) (osum (sendsL d (k :: l))) W
        ∗ (∀ W', (owes (d : Thread nD τ) (osum (sendsL d l)) W' ∗ Held m d k) -∗ wpd d R Q))
      ⊢ wpd d (do waitP k; sendsP k (slots k d); R) Q := by
  unfold Awaited Held Tail rights owedBack spare
  rw [if_neg hd, show roundR d = 1 from if_neg hd]
  rcases kids_cases k d with h | ⟨a, h⟩ | ⟨a, b, h⟩
  · have eO : osum (sendsL d (k :: l)) = osum (sendsL d l) := by rw [sendsL_cons, h]; rfl
    rw [h, slots_nil h, eO]
    simp only [sendsP, bigSepL_nil]
    iintro ⟨#HK, ⟨Hcr, Hat, Hr, Hu⟩, HO, HQ⟩
    rw [wpd_bind]
    iapply (wp_waitR m K d k hd (k :: l) hl W)
    isplitr; · iexact HK
    isplitl [Hcr]; · iexact Hcr
    isplitl [HO]; · ihave H := (Entails.of_eq (congrArg (fun O => (owes (d : Thread nD τ) O W : sProp 𝕄)) eO.symm)) $$ HO
                    iexact H
    isplitl [Hat]; · iexact Hat
    iintro %W' ⟨HO, Hat, Hc⟩
    ihave HO := (Entails.of_eq (congrArg (fun O => (owes (d : Thread nD τ) O W' : sProp 𝕄)) eO)) $$ HO
    ihave Hc := (chunk_parts m d k) $$ Hc
    icases Hc with ⟨Hq, H0, H1⟩
    rw [wpd_bind]
    iapply wpd_pure
    iapply HQ
    isplitl [HO]; · iexact HO
    isplitl [Hq]; · iexact Hq
    isplitl [H0 H1]; · isplitl [H0]; · iexact H0
                       · iexact H1
    isplitl [Hat]; · iexact Hat
    isplitr; · iempintro
    iexact Hu
  · have eO : osum (sendsL d (k :: l)) = osum (sendsL d l) + tallyAt (rCell a k) () N := by rw [sendsL_cons, h]; rfl
    rw [h, slots_one h, eO]
    simp only [sendsP, bigSepL_singleton]
    iintro ⟨#HK, ⟨Hcr, Hat, Hr, Hu⟩, HO, HQ⟩
    rw [wpd_bind]
    iapply (wp_waitR m K d k hd (k :: l) hl W)
    isplitr; · iexact HK
    isplitl [Hcr]; · iexact Hcr
    isplitl [HO]; · ihave H := (Entails.of_eq (congrArg (fun O => (owes (d : Thread nD τ) O W : sProp 𝕄)) eO.symm)) $$ HO
                    iexact H
    isplitl [Hat]; · iexact Hat
    iintro %W' ⟨HO, Hat, Hc⟩
    ihave HO := (Entails.of_eq (congrArg (fun O => (owes (d : Thread nD τ) O W' : sProp 𝕄)) eO)) $$ HO
    ihave Hc := (chunk_parts m d k) $$ Hc
    icases Hc with ⟨Hq, H0, H1⟩
    icases Hr with ⟨Ht, Ht', Hs⟩
    rw [wpd_bind]
    rw [wpd_bind]
    iapply (wp_send m K d a k 0 hd (by rw [h]; exact Nat.one_pos) (kids_ne_zero k d a (by rw [h]; exact List.mem_singleton_self _)) _ _)
    isplitr; · iexact HK
    isplitl [H0]; · iexact H0
    isplitl [Hs]; · iexact Hs
    isplitl [HO]; · iexact HO
    isplitl [Ht]; · iexact Ht
    isplitl [Ht']; · iexact Ht'
    iintro ⟨Hcr, HO⟩
    iapply wpd_pure
    iapply HQ
    isplitl [HO]; · iexact HO
    isplitl [Hq]; · iexact Hq
    isplitl [H1]; · iexact H1
    isplitl [Hat]; · iexact Hat
    isplitl [Hcr]; · iexact Hcr
    iexact Hu
  · have eO : osum (sendsL d (k :: l)) = osum (sendsL d l) + tallyAt (rCell b k) () N + tallyAt (rCell a k) () N := by
      rw [sendsL_cons, h]; rfl
    rw [h, slots_two h, eO]
    simp only [sendsP, bigSepL_cons', bigSepL_nil]
    iintro ⟨#HK, ⟨Hcr, Hat, Hr, Hu⟩, HO, HQ⟩
    rw [wpd_bind]
    iapply (wp_waitR m K d k hd (k :: l) hl W)
    isplitr; · iexact HK
    isplitl [Hcr]; · iexact Hcr
    isplitl [HO]; · ihave H := (Entails.of_eq (congrArg (fun O => (owes (d : Thread nD τ) O W : sProp 𝕄)) eO.symm)) $$ HO
                    iexact H
    isplitl [Hat]; · iexact Hat
    iintro %W' ⟨HO, Hat, Hc⟩
    ihave HO := (Entails.of_eq (congrArg (fun O => (owes (d : Thread nD τ) O W' : sProp 𝕄)) eO)) $$ HO
    ihave Hc := (chunk_parts m d k) $$ Hc
    icases Hc with ⟨Hq, H0, H1⟩
    icases Hr with ⟨⟨Ht, Ht', Hs⟩, ⟨Hu0, Hu0', Hs'⟩, -⟩
    rw [wpd_bind]
    rw [wpd_bind]
    iapply (wp_send m K d a k 0 hd (by rw [h]; exact Nat.two_pos) (kids_ne_zero k d a (by rw [h]; exact List.mem_cons_self)) _ _)
    isplitr; · iexact HK
    isplitl [H0]; · iexact H0
    isplitl [Hs]; · iexact Hs
    isplitl [HO]; · iexact HO
    isplitl [Ht]; · iexact Ht
    isplitl [Ht']; · iexact Ht'
    iintro ⟨Hcr, HO⟩
    rw [wpd_bind]
    iapply (wp_send m K d b k 1 hd (by rw [h]; exact Nat.one_lt_two) (kids_ne_zero k d b (by rw [h]; exact List.mem_cons_of_mem _ (List.mem_singleton_self _))) _ _)
    isplitr; · iexact HK
    isplitl [H1]; · iexact H1
    isplitl [Hs']; · iexact Hs'
    isplitl [HO]; · iexact HO
    isplitl [Hu0]; · iexact Hu0
    isplitl [Hu0']; · iexact Hu0'
    iintro ⟨Hcr', HO⟩
    iapply wpd_pure
    iapply HQ
    isplitl [HO]; · iexact HO
    isplitl [Hq]; · iexact Hq
    isplitr; · iempintro
    isplitl [Hat]; · iexact Hat
    isplitl [Hcr Hcr']
    · isplitl [Hcr]; · iexact Hcr
      isplitl [Hcr']; · iexact Hcr'
      iempintro
    iexact Hu

/-- A list of chunks. -/
theorem wp_pass (hd : d ≠ 0) (l' : List (Fin 16)) : ∀ (l : List (Fin 16)), okL d (l ++ l') →
    iprop(Know m K ∗ (∃ W, owes (d : Thread nD τ) (osum (sendsL d (l ++ l'))) W) ∗ bigSepL l (Awaited d))
      ⊢ wpd d (passP d l) fun _ => iprop((∃ W, owes (d : Thread nD τ) (osum (sendsL d l')) W) ∗ bigSepL l (Held m d)) := by
  intro l
  induction l with
  | nil =>
    intro _
    iintro ⟨-, HO, -⟩
    unfold passP
    iapply wpd_pure
    isplitl [HO]; · iexact HO
    rw [bigSepL_nil]; iempintro
  | cons k l ih =>
    intro ho
    rw [bigSepL_cons', bigSepL_cons']
    iintro ⟨#HK, ⟨%W, HO⟩, Ha, Hl⟩
    unfold passP
    iapply (wp_pass1 m K d hd k (l ++ l') ho.1 W)
    isplitr; · iexact HK
    isplitl [Ha]; · iexact Ha
    isplitl [HO]; · iexact HO
    iintro %W' ⟨HO, Hh⟩
    iapply wpd_wand
    isplitl [HO Hl]
    · iapply (ih ho.2)
      isplitr; · iexact HK
      isplitl [HO]; · iexists W'; iexact HO
      iexact Hl
    iintro %a ⟨HO, Hl⟩
    isplitl [HO]; · iexact HO
    isplitl [Hh]; · iexact Hh
    iexact Hl

end Pass

/-! ## Waiting until the forwards have left -/

section Leave
variable (K : Dev nD × Fin 51 → ℕ) (d : Dev nD)

theorem lent_eq (k : Fin 16) (j : Fin 2) (hd : d ≠ 0) : lent m d k j ⊢ chunkPts m d k (qs j) := by unfold lent; rw [if_neg hd]

theorem wp_leave1 (hd : d ≠ 0) (k : Fin 16) (W : Waits sig Unit) (R : PG F) (Q : PUnit → sProp 𝕄) :
    iprop(Know m K ∗ Tail m d k ∗ owes (d : Thread nD τ) 0 W
        ∗ (∀ W', (owes (d : Thread nD τ) 0 W' ∗ Settled m d k) -∗ wpd d R Q))
      ⊢ wpd d (do leftsP k (slots k d); R) Q := by
  unfold Tail owedBack spare unsent Settled
  rw [if_neg hd, if_neg hd, chunk_quarters]
  rcases kids_cases k d with h | ⟨a, h⟩ | ⟨a, b, h⟩
  · have e0 : roundS d k 0 = 0 := by unfold roundS; rw [h]; rfl
    have e1 : roundS d k 1 = 0 := by unfold roundS; rw [h]; rfl
    rw [h, slots_nil h, e0, e1]
    simp only [leftsP]
    iintro ⟨#HK, ⟨Hs, Hat, Hcr, Hu0, Hu1⟩, HO, HQ⟩
    rw [wpd_bind]
    iapply wpd_pure
    iapply HQ
    isplitl [HO]; · iexact HO
    isplitl [Hs]; · iexact Hs
    isplitr; · iempintro
    isplitl [Hat]; · iexact Hat
    isplitl [Hu0]; · iexact Hu0
    iexact Hu1
  · have e0 : roundS d k 0 = 1 := by unfold roundS; rw [h]; rfl
    have e1 : roundS d k 1 = 0 := by unfold roundS; rw [h]; rfl
    rw [h, slots_one h, e0, e1]
    simp only [leftsP, bigSepL_singleton]
    iintro ⟨#HK, ⟨Hs, Hat, Hcr, Hu0, Hu1⟩, HO, HQ⟩
    rw [wpd_bind, wpd_bind]
    iapply (wp_left m K d k 0 (by rw [h]; exact Nat.one_pos) W _ (cM k) (N_eq k))
    isplitr; · iexact HK
    isplitl [Hcr]; · iexact Hcr
    isplitl [HO]; · iexact HO
    isplitl [Hu0]; · iexact Hu0
    iintro %W' ⟨HO, Hu0, Hl⟩
    ihave Hl := (lent_eq m d k 0 hd) $$ Hl
    iapply wpd_pure
    iapply HQ
    isplitl [HO]; · iexact HO
    isplitl [Hs Hl]; · isplitl [Hl]; · iexact Hl
                       · iexact Hs
    isplitr; · iempintro
    isplitl [Hat]; · iexact Hat
    isplitl [Hu0]; · iexact Hu0
    iexact Hu1
  · have e0 : roundS d k 0 = 1 := by unfold roundS; rw [h]; rfl
    have e1 : roundS d k 1 = 1 := by unfold roundS; rw [h]; rfl
    rw [h, slots_two h, e0, e1]
    simp only [leftsP, bigSepL_cons', bigSepL_nil]
    iintro ⟨#HK, ⟨Hs, Hat, Hcr, Hu0, Hu1⟩, HO, HQ⟩
    icases Hcr with ⟨Hcr, Hcr', -⟩
    rw [wpd_bind, wpd_bind]
    iapply (wp_left m K d k 0 (by rw [h]; exact Nat.two_pos) W _ (cM k) (N_eq k))
    isplitr; · iexact HK
    isplitl [Hcr]; · iexact Hcr
    isplitl [HO]; · iexact HO
    isplitl [Hu0]; · iexact Hu0
    iintro %W' ⟨HO, Hu0, Hl⟩
    rw [wpd_bind]
    iapply (wp_left m K d k 1 (by rw [h]; exact Nat.one_lt_two) W' _ (cM k) (N_eq k))
    isplitr; · iexact HK
    isplitl [Hcr']; · iexact Hcr'
    isplitl [HO]; · iexact HO
    isplitl [Hu1]; · iexact Hu1
    iintro %W'' ⟨HO, Hu1, Hl'⟩
    ihave Hl := (lent_eq m d k 0 hd) $$ Hl
    ihave Hl' := (lent_eq m d k 1 hd) $$ Hl'
    iapply wpd_pure
    iapply HQ
    isplitl [HO]; · iexact HO
    isplitl [Hl Hl']; · isplitl [Hl]; · iexact Hl
                        · iexact Hl'
    isplitr; · iempintro
    isplitl [Hat]; · iexact Hat
    isplitl [Hu0]; · iexact Hu0
    iexact Hu1

theorem wp_leave (hd : d ≠ 0) : ∀ (l : List (Fin 16)),
    iprop(Know m K ∗ (∃ W, owes (d : Thread nD τ) 0 W) ∗ bigSepL l (Tail m d))
      ⊢ wpd d (leaveP d l) fun _ => iprop((∃ W, owes (d : Thread nD τ) 0 W) ∗ bigSepL l (Settled m d)) := by
  intro l
  induction l with
  | nil =>
    iintro ⟨-, HO, -⟩
    unfold leaveP
    iapply wpd_pure
    isplitl [HO]; · iexact HO
    rw [bigSepL_nil]; iempintro
  | cons k l ih =>
    rw [bigSepL_cons', bigSepL_cons']
    iintro ⟨#HK, ⟨%W, HO⟩, Ha, Hl⟩
    unfold leaveP
    iapply (wp_leave1 m K d hd k W)
    isplitr; · iexact HK
    isplitl [Ha]; · iexact Ha
    isplitl [HO]; · iexact HO
    iintro %W' ⟨HO, Hh⟩
    iapply wpd_wand
    isplitl [HO Hl]
    · iapply ih
      isplitr; · iexact HK
      isplitl [HO]; · iexists W'; iexact HO
      iexact Hl
    iintro %a ⟨HO, Hl⟩
    isplitl [HO]; · iexact HO
    isplitl [Hh]; · iexact Hh
    iexact Hl

end Leave

/-! ## Device 0 -/

section Zero
variable (K : Dev nD × Fin 51 → ℕ)

/-- What device 0 needs to send chunk `k`: half of its rows, and the rights. -/
def Ready (k : Fin 16) : sProp 𝕄 := iprop(hbmPts m k fullShare.left ∗ rights 0 k (slots k 0))

/-- Device 0's transfers of a list of chunks. -/
theorem wp_start : ∀ (l : List (Fin 16)) (W : Waits sig Unit),
    iprop(Know m K ∗ owes ((0 : Dev nD) : Thread nD τ) (osum (sendsL 0 l)) W ∗ bigSepL l (Ready m))
      ⊢ wpd 0 (startP l) fun _ => iprop(owes ((0 : Dev nD) : Thread nD τ) 0 W ∗ bigSepL l fun k => owedBack 0 k (slots k 0)) := by
  intro l W
  induction l with
  | nil =>
    iintro ⟨-, HO, -⟩
    unfold startP
    iapply wpd_pure
    isplitl [HO]; · iexact HO
    rw [bigSepL_nil]; iempintro
  | cons k l ih =>
    obtain ⟨a, h⟩ : ∃ a, kids k 0 = [a] := List.length_eq_one_iff.mp (kids_zero_length k)
    rw [bigSepL_cons', bigSepL_cons', sendsL_cons, slots_one h, h]
    unfold startP Ready rights owedBack
    rw [h, slots_one h]
    simp only [List.headD_cons, bigSepL_singleton, List.map_cons, List.map_nil, List.cons_append, List.nil_append, osum]
    iintro ⟨#HK, HO, ⟨Hh, Ht, Ht', Hs⟩, Hl⟩
    rw [wpd_bind]
    iapply (wp_sendH m K a k (kids_ne_zero k 0 a (by rw [h]; exact List.mem_singleton_self _)) _ _)
    isplitr; · iexact HK
    isplitl [Hh]; · iexact Hh
    isplitl [Hs]; · iexact Hs
    isplitl [HO]; · iexact HO
    isplitl [Ht]; · iexact Ht
    isplitl [Ht']; · iexact Ht'
    iintro ⟨Hcr, HO⟩
    iapply wpd_wand
    isplitl [HO Hl]
    · iapply ih
      isplitr; · iexact HK
      isplitl [HO]; · iexact HO
      unfold Ready rights; iexact Hl
    iintro %x ⟨HO, Hl⟩
    isplitl [HO]; · iexact HO
    isplitl [Hcr]; · iexact Hcr
    unfold owedBack; iexact Hl

/-- Device 0's waits at the end. -/
theorem wp_leaveH : ∀ (l : List (Fin 16)),
    iprop(Know m K ∗ (∃ W, owes ((0 : Dev nD) : Thread nD τ) 0 W) ∗ bigSepL l (Tail m 0))
      ⊢ wpd 0 (leaveHP l) fun _ => iprop((∃ W, owes ((0 : Dev nD) : Thread nD τ) 0 W) ∗ bigSepL l (Settled m 0)) := by
  intro l
  induction l with
  | nil =>
    iintro ⟨-, HO, -⟩
    unfold leaveHP
    iapply wpd_pure
    isplitl [HO]; · iexact HO
    rw [bigSepL_nil]; iempintro
  | cons k l ih =>
    obtain ⟨a, h⟩ : ∃ a, kids k 0 = [a] := List.length_eq_one_iff.mp (kids_zero_length k)
    have e0 : roundS 0 k 0 = 1 := by unfold roundS; rw [h]; rfl
    have e1 : roundS 0 k 1 = 0 := by unfold roundS; rw [h]; rfl
    rw [bigSepL_cons', bigSepL_cons']
    iintro ⟨#HK, ⟨%W, HO⟩, Ha, Hl⟩
    ihave Ha := (show Tail m 0 k ⊢ iprop(chunkPts m 0 k fullShare.right ∗ atPos ER (rCell 0 k) (roundR 0) ∅ 0
        ∗ cred (tallyAt (sCell 0 0 k) () N) ∗ atPos ER (sCell 0 0 k) 0 ∅ 0 ∗ atPos ER (sCell 1 0 k) 0 ∅ 0) from by
      unfold Tail owedBack spare unsent; rw [if_pos rfl, slots_one h, bigSepL_singleton]) $$ Ha
    icases Ha with ⟨Hs, Hat, Hcr, Hu0, Hu1⟩
    unfold leaveHP
    rw [wpd_bind]
    iapply (wp_left m K 0 k 0 (by rw [h]; exact Nat.one_pos) W _ (hM k) (N_h k))
    isplitr; · iexact HK
    isplitl [Hcr]; · iexact Hcr
    isplitl [HO]; · iexact HO
    isplitl [Hu0]; · iexact Hu0
    iintro %W' ⟨HO, Hu0, Hh⟩
    iapply wpd_wand
    isplitl [HO Hl]
    · iapply ih
      isplitr; · iexact HK
      isplitl [HO]; · iexists W'; iexact HO
      iexact Hl
    iintro %x ⟨HO, Hl⟩
    isplitl [HO]; · iexact HO
    isplitl [Hh Hs Hat Hu0 Hu1]
    · iapply (show iprop(chunkPts m 0 k fullShare.right ∗ lent m 0 k 0 ∗ atPos ER (rCell 0 k) (roundR 0) ∅ 0
        ∗ atPos ER (sCell 0 0 k) 1 ∅ 0 ∗ atPos ER (sCell 1 0 k) 0 ∅ 0) ⊢ Settled m 0 k from by
          unfold Settled lent; rw [if_pos rfl, if_pos rfl, e0, e1])
      isplitl [Hs]; · iexact Hs
      isplitl [Hh]; · iexact Hh
      isplitl [Hat]; · iexact Hat
      isplitl [Hu0]; · iexact Hu0
      iexact Hu1
    iexact Hl

end Zero

end Cert.Attn

end
-- ==== Proof.Script.lean ====
/-
# The kernel's program at each device

The printed body branches on the device's number between its computations. At each of the eight devices the branches are
decided, and what is left is one straight program: signal everyone and wait for everyone, then four times exchange a
stage's chunks and compute the stage's rows, then wait until the device's transfers have left.
-/
module

public import proofs.«01_k».proof.Proof.Acts

@[expose] public section

noncomputable section

namespace Cert.Attn

open Cert.KernelIdeal Cert.KernelIdeal.Gen
open Idealize.SL Idealize.SL.RA Idealize.SL.BI
open Idealize.ShloMosaic Idealize.ShloMosaic.TcCoe Idealize.SL.Sem

variable {F : FTy → Type} [FloatOps F] [Named F]

/-! ## The exchange -/

/-- Device 0 copies its keys (0) or values (1) into its own buffer; -/
def copyP (j : Fin 2) : PG F :=
  if j = 0 then Prog.lift (.enqueueDma khM (.here koM) (.dma (lS 0)) (Memref.isWhole_whole _).wordExact (Memref.isWhole_whole _).wordExact ⟨Or.inl rfl, trivial⟩)
  else Prog.lift (.enqueueDma vhM (.here voM) (.dma (lS 1)) (Memref.isWhole_whole _).wordExact (Memref.isWhole_whole _).wordExact ⟨Or.inl rfl, trivial⟩)
/-- and waits for that copy. -/
def copiedP (j : Fin 2) : PG F :=
  if j = 0 then Prog.lift (.waitDma2 (lS 0) khM koM (Memref.isWhole_whole _).wordExact (Memref.isWhole_whole _).wordExact)
  else Prog.lift (.waitDma2 (lS 1) vhM voM (Memref.isWhole_whole _).wordExact (Memref.isWhole_whole _).wordExact)
def openP : PG F := do startP chunks; copyP 0; copyP 1; copiedP 0; copiedP 1

/-- The exchange before the first stage; -/
def exchP (d : Dev nD) : PG F := if d = 0 then openP else passP d (ord 0 d)
/-- before stage `s`, on the devices from `a` up to `b`; -/
def segP (s a b : ℕ) (d : Dev nD) : PG F := if a ≤ d.val ∧ d.val < b then passP d (ord s d) else pure ⟨⟩
/-- the waits at the end, on the devices from `a` up to `b`. -/
def endP (a b : ℕ) (d : Dev nD) : PG F :=
  if a ≤ d.val ∧ d.val < b then (if d = 0 then leaveHP chunks else leaveP d chunks) else pure ⟨⟩

/-- Signal every device in turn and wait for a signal from each. -/
def helloP : List (Dev nD) → PG F
  | [] => semWaitWord barS 8#32
  | q :: l => do semSignalWord q barS 1#32; helloP l

/-! ## The computation of a stage -/

abbrev xM : Memref sig .tc .vmem S1x2048x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x2048x1024 .f32 := Memref.whole cc0_stg3_0
abbrev qM : Memref sig .tc .vmem S512x1024 .f32 := Memref.whole cc0_scratch2
abbrev scM : Memref sig .tc .vmem S512x2048 .f32 := Memref.whole cc0_scratch3
abbrev cxM : Memref sig .tc .vmem S512x1024 .f32 := Memref.whole cc0_scratch4

theorem inb_rows (s : Fin 4) : ∀ a, (![0, 512 * s.val, 0] : Fin 3 → ℕ) a + S1x512x1024.size a ≤ S1x2048x1024.size a := by
  revert s; decide
/-- The rows of stage `s`. -/
abbrev rowRect (s : Fin 4) : Rect S1x2048x1024 := Rect.unit (s := S1x2048x1024) ![0, 512 * s.val, 0] S1x512x1024.size (inb_rows s)

abbrev bigRect : Rect S1024x1024 := Rect.unit (s := S1024x1024) ![0, 0] S1024x1024.size inb_S1024x1024_S1024x1024_0_0
abbrev tileRect : Rect S512x1024 := Rect.unit (s := S512x1024) ![0, 0] S512x1024.size inb_S512x1024_S512x1024_0_0

/-- The projected queries of a stage, from its rows and the query weights; -/
def qPay (s : Fin 4) (x : Vec F S1x512x1024 .f32) (w : Vec F S1024x1024 .f32) : FVec F S512x1024 .f32 :=
  match s with | 0 => k0_pay32 (k0_pay31 x) w | 1 => k0_pay35 x w | 2 => k0_pay39 x w | 3 => k0_pay43 x w
/-- the output rows, from the attention's result and the output weights. -/
def oPay (s : Fin 4) (c : Vec F S512x1024 .f32) (w : Vec F S1024x1024 .f32) : FVec F S1x512x1024 .f32 :=
  match s with | 0 => k0_pay34 c w | 1 => k0_pay38 c w | 2 => k0_pay42 c w | 3 => k0_pay45 c w

/-- The trip of head `t` in stage `s`, as printed; -/
def body1 := k0_t1_body (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 0 0#32 (constant S512x1024 .f32 0#32)
def body2 := k0_t2_body (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 0 0#32 0#32
def body3 := k0_t3_body (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 0 0#32
def body4 := k0_t4_body (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 0#32
/-- the loop over the heads. -/
def loopP (s : Fin 4) : Prog (TpuEff nD τ sig (Elt F) Λ₀ .tc) Unit :=
  match s with
  | 0 => Scf.Loop.for k0_t1_loop k0_t1_ok ⟨⟩ body1
  | 1 => Scf.Loop.for k0_t2_loop k0_t2_ok ⟨⟩ body2
  | 2 => Scf.Loop.for k0_t3_loop k0_t3_ok ⟨⟩ body3
  | 3 => Scf.Loop.for k0_t4_loop k0_t4_ok ⟨⟩ body4

/-- A stage's rows; -/
def rowsP (s : Fin 4) : Prog (TpuEff nD τ sig (Elt F) Λ₀ .tc) (Vec F S1x512x1024 .f32) :=
  Prog.lift (.load xM (rowRect s).toLoadRect (View.loadsAt_vmem h_S1x512x1024))
/-- its queries; -/
def frontP (s : Fin 4) (x : Vec F S1x512x1024 .f32) : PG F := do
  let w : Vec F S1024x1024 .f32 ← Prog.lift (.load wqM bigRect.toLoadRect (View.loadsAt_vmem h_S1024x1024))
  let _ : Vec F S512x1024 .f32 ← Prog.lift (.load qM tileRect.toLoadRect (View.loadsAt_vmem h_S512x1024))
  Prog.lift (.store qM tileRect (qPay s x w) Finset.univ (View.stores_vmem_bits_univ h_S512x1024 rfl) (.inl rfl))
/-- the output of its rows. -/
def backP (s : Fin 4) : PG F := do
  let c : Vec F S512x1024 .f32 ← Prog.lift (.load cxM tileRect.toLoadRect (View.loadsAt_vmem h_S512x1024))
  let w' : Vec F S1024x1024 .f32 ← Prog.lift (.load woM bigRect.toLoadRect (View.loadsAt_vmem h_S1024x1024))
  let _ : Vec F S1x512x1024 .f32 ← Prog.lift (.load outM (rowRect s).toLoadRect (View.loadsAt_vmem h_S1x512x1024))
  Prog.lift (.store outM (rowRect s) (oPay s c w') Finset.univ (View.stores_vmem_bits_univ h_S1x512x1024 rfl) (.inl rfl))

/-! ## The printed body is made of these -/

/-- Which of the eight a device is, as the body computes it. -/
def word (d : Dev nD) : BitVec 32 := Scalar.remsi (Scalar.divsi (Dev.word d) 1#32) 8#32

abbrev P82 (d : Dev nD) (x : Vec F S1x512x1024 .f32) := k0_part82 (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 d (word d) (k0_pay31 x)
abbrev P83 (d : Dev nD) (v : BitVec 32) := k0_part83 (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 d (word d) v
abbrev P84 (d : Dev nD) := k0_part84 (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 d (word d)
abbrev P85 (d : Dev nD) := k0_part85 (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 d (word d)
abbrev P86 (d : Dev nD) := k0_part86 (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 (word d)

/-- A program that begins by asking for the device's number, told it. -/
def told (d : Dev nD) (p : PG F) : PG F :=
  match p with
  | .op (.deviceId) k => k d
  | p => p

theorem wpd_told (d : Dev nD) (p : PG F) (Q : PUnit → sProp (MT nD τ sig Unit (Elt F) ℕ UU ℕ)) : wpd d p Q = wpd d (told d p) Q := by
  unfold told
  split
  · unfold wpd; rw [wp_deviceId]
  · rfl

abbrev bodyP : PG F := cc0__fused_body (F := F) (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8

set_option maxRecDepth 65536 in
theorem told_eq (d : Dev nD) : told (F := F) d bodyP =
    (do helloP devs; exchP d; let x ← rowsP 0; let v ← P82 d x; P83 d v; P84 d; P85 d; P86 d; endP 4 8 d) :=
  match d with
  | 0 => rfl
  | 1 => rfl
  | 2 => rfl
  | 3 => rfl
  | 4 => rfl
  | 5 => rfl
  | 6 => rfl
  | 7 => rfl

set_option maxRecDepth 65536 in
theorem p82_eq (d : Dev nD) (x : Vec F S1x512x1024 .f32) : P82 d x =
    (do frontP 0 x; loopP 0; backP 0; segP 1 1 5 d; pure (Scalar.extui (Scalar.cmpi .eq (word d) 5#32))) :=
  match d with
  | 0 => rfl
  | 1 => rfl
  | 2 => rfl
  | 3 => rfl
  | 4 => rfl
  | 5 => rfl
  | 6 => rfl
  | 7 => rfl

set_option maxRecDepth 65536 in
theorem p83_eq (d : Dev nD) (v : BitVec 32) : P83 (F := F) d v =
    (do segP 1 5 8 d; let x ← rowsP 1; frontP 1 x; loopP 1; backP 1; segP 2 1 2 d) :=
  match d with
  | 0 => rfl
  | 1 => rfl
  | 2 => rfl
  | 3 => rfl
  | 4 => rfl
  | 5 => rfl
  | 6 => rfl
  | 7 => rfl

set_option maxRecDepth 65536 in
theorem p84_eq (d : Dev nD) : P84 (F := F) d =
    (do segP 2 2 8 d; let x ← rowsP 2; frontP 2 x; loopP 2; pure ⟨⟩) :=
  match d with
  | 0 => rfl
  | 1 => rfl
  | 2 => rfl
  | 3 => rfl
  | 4 => rfl
  | 5 => rfl
  | 6 => rfl
  | 7 => rfl

set_option maxRecDepth 65536 in
theorem p85_eq (d : Dev nD) : P85 (F := F) d = (do backP 2; segP 3 1 8 d) :=
  match d with
  | 0 => rfl
  | 1 => rfl
  | 2 => rfl
  | 3 => rfl
  | 4 => rfl
  | 5 => rfl
  | 6 => rfl
  | 7 => rfl

set_option maxRecDepth 65536 in
theorem p86_eq (d : Dev nD) : P86 (F := F) d =
    (do let x ← rowsP 3; frontP 3 x; loopP 3; backP 3; endP 0 4 d) :=
  match d with
  | 0 => rfl
  | 1 => rfl
  | 2 => rfl
  | 3 => rfl
  | 4 => rfl
  | 5 => rfl
  | 6 => rfl
  | 7 => rfl

end Cert.Attn

end
-- ==== Proof.Trip.lean ====
/-
# A trip of the loop over the heads

In each stage the printed loop takes one trip per head: it scores the head's queries against each block of 512 keys, turns
the rows of scores into weights, and adds the blocks' values by them. The four loops differ only in how many blocks there
are; one text, in the stage and the head, is each of their trips.
-/
module

public import proofs.«01_k».proof.Proof.Script

@[expose] public section

noncomputable section

namespace Cert.Attn

open Cert.KernelIdeal Cert.KernelIdeal.Gen
open Idealize.SL Idealize.SL.RA Idealize.SL.BI
open Idealize.ShloMosaic Idealize.ShloMosaic.TcCoe Idealize.SL.Sem

variable {F : FTy → Type} [FloatOps F] [Named F]

/-! ## The rectangles -/

theorem inb_head (t : Fin 8) : ∀ a, (![0, 128 * t.val] : Fin 2 → ℕ) a + S512x128.size a ≤ S512x1024.size a := by
  revert t; decide
theorem inb_kv (k : Fin 4) (t : Fin 8) : ∀ a, (![512 * k.val, 128 * t.val] : Fin 2 → ℕ) a + S512x128.size a ≤ S2048x1024.size a := by
  revert k t; decide
theorem inb_blk (k : Fin 4) : ∀ a, (![0, 512 * k.val] : Fin 2 → ℕ) a + S512x512.size a ≤ S512x2048.size a := by
  revert k; decide
/-- The scores a stage reads back: as many columns as there are keys. -/
abbrev wSh (s : Fin 4) : Shape := ⟨2, ![512, 512 * (s.val + 1)]⟩
theorem inb_wide (s : Fin 4) : ∀ a, (![0, 0] : Fin 2 → ℕ) a + (wSh s).size a ≤ S512x2048.size a := by
  revert s; decide
/-- Head `t`'s columns of the queries and of the result; -/
abbrev headRect (t : Fin 8) : Rect S512x1024 := Rect.unit (s := S512x1024) ![0, 128 * t.val] S512x128.size (inb_head t)
/-- block `k`'s rows of the keys and of the values in them; -/
abbrev kvRect (k : Fin 4) (t : Fin 8) : Rect S2048x1024 := Rect.unit (s := S2048x1024) ![512 * k.val, 128 * t.val] S512x128.size (inb_kv k t)
/-- block `k`'s columns of the scores; -/
abbrev blkRect (k : Fin 4) : Rect S512x2048 := Rect.unit (s := S512x2048) ![0, 512 * k.val] S512x512.size (inb_blk k)
/-- the first blocks up to `s`. -/
abbrev wideRect (s : Fin 4) : Rect S512x2048 := Rect.unit (s := S512x2048) ![0, 0] (wSh s).size (inb_wide s)

/-! ## The values -/

/-- The number of the block of 64 an index lies in. -/
def floor64 (v : IVec S512x512 32) : IVec S512x512 32 :=
  select (andi (cmpi .ne (subi (extui 32 (cmpi .sgt v (broadcast S512x512 0#32)) natLt_1_32) (extui 32 (cmpi .slt v (broadcast S512x512 0#32)) natLt_1_32))
        (broadcast S512x512 (Scalar.subi (Scalar.extui (Scalar.cmpi .sgt 64#32 0#32)) (Scalar.extui (Scalar.cmpi .slt 64#32 0#32)))))
      (cmpi .ne (remsi v (broadcast S512x512 64#32)) (broadcast S512x512 0#32)))
    (subi (divsi v (broadcast S512x512 64#32)) (broadcast S512x512 1#32))
    (divsi v (broadcast S512x512 64#32))
/-- Which keys of the diagonal block a query sees. -/
def sees : IVec S512x512 1 :=
  cmpi .sle (floor64 (iota .tc S512x512 32 [1] iota_S512x512_d1_w32)) (floor64 (iota .tc S512x512 32 [0] iota_S512x512_d0_w32))
/-- The scaled products of queries and keys; -/
def rawSc (q k : Vec F S512x128 .f32) : FVec F S512x512 .f32 :=
  mulf (matmul dot_S512x128_S512x128_S512x512_1_1_0_0_n_n none q k (constant S512x512 .f32 0x00000000#32))
    (broadcast S512x512 (Scalar.ofBits .f32 0x3DB504F3#32))
/-- the scores of block `k` in stage `s`: masked in the diagonal block. -/
def scPay (s k : Fin 4) (q v : Vec F S512x128 .f32) : FVec F S512x512 .f32 :=
  if k = s then shapeCast S512x512 (select sees (rawSc q v) (broadcast S512x512 (Named.named κ "mask" 0xCE6E6B28#32))) shapeCasts_S512x512_S512x512
  else shapeCast S512x512 (rawSc q v) shapeCasts_S512x512_S512x512
theorem wide_red (s : Fin 4) : (wSh s).Reduces [1] S512 :=
  match s with | 0 => reduces_S512x512_S512 | 1 => reduces_S512x1024_S512 | 2 => reduces_S512x1536_S512 | 3 => reduces_S512x2048_S512
theorem wide_bc (s : Fin 4) : S512x1.Broadcasts (wSh s) :=
  match s with | 0 => broadcasts_S512x1_S512x512 | 1 => broadcasts_S512x1_S512x1024 | 2 => broadcasts_S512x1_S512x1536 | 3 => broadcasts_S512x1_S512x2048
theorem wide_sc (s : Fin 4) : (wSh s).ShapeCasts (wSh s) :=
  match s with | 0 => shapeCasts_S512x512_S512x512 | 1 => shapeCasts_S512x1024_S512x1024 | 2 => shapeCasts_S512x1536_S512x1536 | 3 => shapeCasts_S512x2048_S512x2048
/-- A row's values, one to each of its columns. -/
def spread (s : Fin 4) (v : FVec F S512 .f32) : FVec F (wSh s) .f32 := broadcastTo (wSh s) (shapeCast S512x1 v shapeCasts_S512_S512x1) (wide_bc s)
/-- The scores less their row's largest, exponentiated; -/
def smE (s : Fin 4) (v : Vec F (wSh s) .f32) : FVec F (wSh s) .f32 :=
  exp (subf v (spread s (multiReduction .maximumf [1] S512 v 0xFF800000#32 (wide_red s) (.inl rfl) rfl)))
/-- and divided by their row's sum. -/
def smPay (s : Fin 4) (v : Vec F (wSh s) .f32) : FVec F (wSh s) .f32 :=
  shapeCast (wSh s) (divf (smE s v) (spread s (multiReduction .add [1] S512 (smE s v) 0x00000000#32 (wide_red s) (.inl rfl) rfl))) (wide_sc s)
/-- A block's values added by their weights; -/
def avPay (p : Vec F S512x512 .f32) (v : Vec F S512x128 .f32) : FVec F S512x128 .f32 :=
  matmul dot_S512x512_S512x128_S512x128_1_0_0_1_n_n none p v (constant S512x128 .f32 0x00000000#32)
/-- the blocks' sums, added from the first on. -/
def accPay (p : Vec F S512x512 .f32) (v : Vec F S512x128 .f32) (l : List (Vec F S512x512 .f32 × Vec F S512x128 .f32)) : FVec F S512x128 .f32 :=
  shapeCast S512x128 (l.foldl (fun a x => addf a (avPay x.1 x.2)) (avPay p v)) shapeCasts_S512x128_S512x128

/-! ## The program -/

/-- The blocks of stage `s`. -/
def later (s : Fin 4) : List (Fin 4) := match s with | 0 => [] | 1 => [1] | 2 => [1, 2] | 3 => [1, 2, 3]

/-- The scores of the listed blocks; -/
def scoresP (s : Fin 4) (t : Fin 8) (q : Vec F S512x128 .f32) : List (Fin 4) → PG F
  | [] => pure ⟨⟩
  | k :: l => do
    let v : Vec F S512x128 .f32 ← Prog.lift (.load koM (kvRect k t).toLoadRect (View.loadsAt_vmem h_S512x128))
    let _ : Vec F S512x512 .f32 ← Prog.lift (.load scM (blkRect k).toLoadRect (View.loadsAt_vmem h_S512x512))
    Prog.lift (.store scM (blkRect k) (scPay s k q v) Finset.univ (View.stores_vmem_bits_univ h_S512x512 rfl) (.inl rfl))
    scoresP s t q l
theorem wide_pos (s : Fin 4) : 0 < (wSh s).numel :=
  match s with | 0 => h_S512x512 | 1 => h_S512x1024 | 2 => h_S512x1536 | 3 => h_S512x2048
/-- the weights, from all of them; -/
def weighP (s : Fin 4) : PG F := do
  let e : Vec F (wSh s) .f32 ← Prog.lift (.load scM (wideRect s).toLoadRect (View.loadsAt_vmem (wide_pos s)))
  let _ : Vec F (wSh s) .f32 ← Prog.lift (.load scM (wideRect s).toLoadRect (View.loadsAt_vmem (wide_pos s)))
  Prog.lift (.store scM (wideRect s) (smPay s e) Finset.univ (View.stores_vmem_bits_univ (wide_pos s) rfl) (.inl rfl))
/-- the listed blocks' weights and values, after those read before, -/
def blocksP (t : Fin 8) : List (Fin 4) → List (Vec F S512x512 .f32 × Vec F S512x128 .f32) →
    Prog (TpuEff nD τ sig (Elt F) Λ₀ .tc) (List (Vec F S512x512 .f32 × Vec F S512x128 .f32))
  | [], r => pure r
  | k :: l, r => do
    let p : Vec F S512x512 .f32 ← Prog.lift (.load scM (blkRect k).toLoadRect (View.loadsAt_vmem h_S512x512))
    let v : Vec F S512x128 .f32 ← Prog.lift (.load voM (kvRect k t).toLoadRect (View.loadsAt_vmem h_S512x128))
    blocksP t l (r ++ [(p, v)])
/-- and the head's result. -/
def sumP (s : Fin 4) (t : Fin 8) : PG F := do
  let p : Vec F S512x512 .f32 ← Prog.lift (.load scM (blkRect 0).toLoadRect (View.loadsAt_vmem h_S512x512))
  let v : Vec F S512x128 .f32 ← Prog.lift (.load voM (kvRect 0 t).toLoadRect (View.loadsAt_vmem h_S512x128))
  let r ← blocksP t (later s) []
  let _ : Vec F S512x128 .f32 ← Prog.lift (.load cxM (headRect t).toLoadRect (View.loadsAt_vmem h_S512x128))
  Prog.lift (.store cxM (headRect t) (accPay p v r) Finset.univ (View.stores_vmem_bits_univ h_S512x128 rfl) (.inl rfl))
/-- The trip of head `t` in stage `s`. -/
def tripP (s : Fin 4) (t : Fin 8) : PG F := do
  let q : Vec F S512x128 .f32 ← Prog.lift (.load qM (headRect t).toLoadRect (View.loadsAt_vmem h_S512x128))
  scoresP s t q (0 :: later s)
  weighP s
  sumP s t

set_option maxRecDepth 65536 in
theorem trip1 (t : Fin 8) : body1 (F := F) ⟨t.val, t.isLt⟩ ⟨⟩ = tripP 0 t :=
  match t with | 0 => rfl | 1 => rfl | 2 => rfl | 3 => rfl | 4 => rfl | 5 => rfl | 6 => rfl | 7 => rfl
set_option maxRecDepth 65536 in
theorem trip2 (t : Fin 8) : body2 (F := F) ⟨t.val, t.isLt⟩ ⟨⟩ = tripP 1 t :=
  match t with | 0 => rfl | 1 => rfl | 2 => rfl | 3 => rfl | 4 => rfl | 5 => rfl | 6 => rfl | 7 => rfl
set_option maxRecDepth 65536 in
theorem trip3 (t : Fin 8) : body3 (F := F) ⟨t.val, t.isLt⟩ ⟨⟩ = tripP 2 t :=
  match t with | 0 => rfl | 1 => rfl | 2 => rfl | 3 => rfl | 4 => rfl | 5 => rfl | 6 => rfl | 7 => rfl
set_option maxRecDepth 65536 in
theorem trip4 (t : Fin 8) : body4 (F := F) ⟨t.val, t.isLt⟩ ⟨⟩ = tripP 3 t :=
  match t with | 0 => rfl | 1 => rfl | 2 => rfl | 3 => rfl | 4 => rfl | 5 => rfl | 6 => rfl | 7 => rfl

end Cert.Attn
-- ==== Proof.Stage.lean ====
/-
# A stage's computation

What the loop over the heads leaves, as a function of the queries, the keys and the values: the scores of a head, read back
over all its blocks, the weights they become, and the head's columns of the result. The trip of a head runs to these
whatever the buffers held before.
-/
module

public import proofs.«01_k».proof.Proof.Trip
public import Idealize.ShloMosaic.Lib.Pointwise.Index

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Loads and stores of a whole buffer -/

theorem wpd_load {sp : CoreSpace} {s : Shape} {e : EltTy} (d : Dev nD) (M : Memref sig .tc sp s e) (r : LoadRect s) (hl : M.view.LoadsAt r)
    (S : Finset (Idx (M.view.loc (d : Thread nD τ)))) (q : PosShare TreeShare) (f : Buf (Elt F) (M.view.loc (d : Thread nD τ))) (hS : M.view.setOn r.set ⊆ S)
    (Q : (r.shape.Idx → Elt F e) → sProp 𝕄) :
    iprop((M.view.loc (d : Thread nD τ) ↦[S]{q} f : sProp 𝕄) ∗ ((M.view.loc (d : Thread nD τ) ↦[S]{q} f) -∗ Q (M.view.readAt (Elt F) r f)))
      ⊢ wpd d (Prog.lift (.load M r hl)) Q := by
  iintro ⟨H, HQ⟩
  unfold wpd Prog.lift
  iapply (wp_load (k := fun x => .ret x) 𝒱₀ (d : Thread nD τ) none Set.univ hS) $$ H
  iintro H
  iapply wpd_ret
  iapply HQ $$ H

theorem wpd_store {sp : CoreSpace} {s : Shape} {e : EltTy} (d : Dev nD) (M : Memref sig .tc sp s e) (r : Rect s) (w : r.shape.Idx → Elt F e)
    (hx : (M.access r).Stores Finset.univ) (hm : (Finset.univ : Finset r.shape.Idx) = Finset.univ ∨ ∀ a, r.stride a = 1)
    (f : Buf (Elt F) (M.view.loc (d : Thread nD τ))) (Q : PUnit → sProp 𝕄) :
    iprop((M.view.loc (d : Thread nD τ) ↦[Finset.univ]{fullShare} f : sProp 𝕄)
        ∗ ((M.view.loc (d : Thread nD τ) ↦[Finset.univ]{fullShare} ((M.access r).write (Elt F) f w Finset.univ)) -∗ Q ⟨⟩))
      ⊢ wpd d (Prog.lift (.store M r w Finset.univ hx hm)) Q := by
  iintro ⟨H, HQ⟩
  unfold wpd Prog.lift
  iapply (wp_store (k := fun x => .ret x) 𝒱₀ (d : Thread nD τ) none Set.univ (m := M) (r := r) (Finset.subset_univ _)) $$ H
  iintro H
  iapply wpd_ret
  iapply HQ $$ H

/-! ## What is read after a store -/

section
variable {sp : Space} {s : Shape} {e : EltTy} (M : Memref sig .tc sp s e)

theorem read_stored (r : Rect s) (f : M.view.ty.Contents (Elt F)) (w : r.shape.Idx → Elt F e) :
    M.view.readAt (Elt F) r.toLoadRect ((M.access r).write (Elt F) f w Finset.univ) = w := by
  rw [View.readAt_rect]; exact View.read_write_univ _ _

theorem read_kept (r r' : Rect s) (h : Disjoint r.set r'.set) (f : M.view.ty.Contents (Elt F)) (w : r.shape.Idx → Elt F e) :
    M.view.readAt (Elt F) r'.toLoadRect ((M.access r).write (Elt F) f w Finset.univ) = M.view.readAt (Elt F) r'.toLoadRect f := by
  refine View.readAt_congr fun i hi => View.write_of_not_mem _ _ _ ?_
  intro hi'
  rw [View.setOn, Finset.mem_map] at hi
  unfold Memref.access at hi'
  rw [View.setOn_univ, View.set_slice, Finset.mem_map] at hi'
  obtain ⟨y, hy, e1⟩ := hi
  obtain ⟨y', hy', e2⟩ := hi'
  have : y = y' := M.view.emb.injective (e1.trans e2.symm)
  subst this
  exact (Finset.disjoint_left.1 h) hy' hy
end

/-! ## The values -/

/-- Head `t`'s queries; -/
def headQ (Q : S512x1024.Idx → Elt F .f32) (t : Fin 8) : Vec F S512x128 .f32 := qM.view.readAt (Elt F) (headRect t).toLoadRect Q
/-- its keys in block `k`; -/
def headK (B : S2048x1024.Idx → Elt F .f32) (k : Fin 4) (t : Fin 8) : Vec F S512x128 .f32 := koM.view.readAt (Elt F) (kvRect k t).toLoadRect B
/-- its values there; -/
def headV (B : S2048x1024.Idx → Elt F .f32) (k : Fin 4) (t : Fin 8) : Vec F S512x128 .f32 := voM.view.readAt (Elt F) (kvRect k t).toLoadRect B
/-- its scores against the block; -/
def scoreOf (s : Fin 4) (t : Fin 8) (Q : S512x1024.Idx → Elt F .f32) (K : S2048x1024.Idx → Elt F .f32) (k : Fin 4) : FVec F S512x512 .f32 :=
  scPay s k (headQ Q t) (headK K k t)

theorem blk_lt (s : Fin 4) (i : (wSh s).Idx) : (i 1).val / 512 < 4 := by
  have h : (i 1).val < 512 * (s.val + 1) := (i 1).isLt
  have := s.isLt
  omega
/-- all its scores; -/
def wideOf (s : Fin 4) (t : Fin 8) (Q : S512x1024.Idx → Elt F .f32) (K : S2048x1024.Idx → Elt F .f32) : Vec F (wSh s) .f32 := fun i =>
  scoreOf s t Q K ⟨(i 1).val / 512, blk_lt s i⟩ (ix2 (n0 := 512) (n1 := 512) ⟨(i 0).val, (i 0).isLt⟩ ⟨(i 1).val % 512, Nat.mod_lt _ (by decide)⟩)
/-- the weights of block `k`; -/
def wBlk (s : Fin 4) (t : Fin 8) (Q : S512x1024.Idx → Elt F .f32) (K : S2048x1024.Idx → Elt F .f32) (k : Fin 4) : Vec F S512x512 .f32 := fun i =>
  smPay s (wideOf s t Q K) (ix2 (n0 := 512) (n1 := 512 * (s.val + 1)) ⟨(i 0).val, (i 0).isLt⟩ ⟨(512 * k.val + (i 1).val) % (512 * (s.val + 1)), Nat.mod_lt _ (by omega)⟩)
/-- its columns of the result; -/
def headOf (s : Fin 4) (t : Fin 8) (Q : S512x1024.Idx → Elt F .f32) (K V : S2048x1024.Idx → Elt F .f32) : FVec F S512x128 .f32 :=
  accPay (wBlk s t Q K 0) (headV V 0 t) ((later s).map fun k => (wBlk s t Q K k, headV V k t))
/-- and the result. -/
def ctxOf (s : Fin 4) (Q : S512x1024.Idx → Elt F .f32) (K V : S2048x1024.Idx → Elt F .f32) : S512x1024.Idx → Elt F .f32 := fun j =>
  headOf s ⟨(j 1).val / 128, by have h : (j 1).val < 1024 := (j 1).isLt; omega⟩ Q K V
    (ix2 (n0 := 512) (n1 := 128) ⟨(j 0).val, (j 0).isLt⟩ ⟨(j 1).val % 128, Nat.mod_lt _ (by decide)⟩)

/-! ## The rectangles against each other -/

theorem blk_disj (k k' : Fin 4) (h : k ≠ k') : Disjoint (blkRect k).set (blkRect k').set := by
  rw [Finset.disjoint_left]
  intro y h1 h2
  rw [Rect.mem_set_unit] at h1 h2
  have a1 := h1 1
  have a2 := h2 1
  have e1 : (![0, 512 * k.val] : Fin 2 → ℕ) 1 = 512 * k.val := rfl
  have e2 : (![0, 512 * k'.val] : Fin 2 → ℕ) 1 = 512 * k'.val := rfl
  have e3 : S512x512.size 1 = 512 := rfl
  rw [e1, e3] at a1
  rw [e2, e3] at a2
  exact h (Fin.ext (by omega))
theorem head_disj (t t' : Fin 8) (h : t ≠ t') : Disjoint (headRect t).set (headRect t').set := by
  rw [Finset.disjoint_left]
  intro y h1 h2
  rw [Rect.mem_set_unit] at h1 h2
  have a1 := h1 1
  have a2 := h2 1
  have e1 : (![0, 128 * t.val] : Fin 2 → ℕ) 1 = 128 * t.val := rfl
  have e2 : (![0, 128 * t'.val] : Fin 2 → ℕ) 1 = 128 * t'.val := rfl
  have e3 : S512x128.size 1 = 128 := rfl
  rw [e1, e3] at a1
  rw [e2, e3] at a2
  exact h (Fin.ext (by omega))

theorem mem_blocks (s k : Fin 4) (h : k.val ≤ s.val) : k ∈ (0 :: later s : List (Fin 4)) := by
  revert s k; decide
theorem blocks_le (s k : Fin 4) (h : k ∈ (0 :: later s : List (Fin 4))) : k.val ≤ s.val := by
  revert s k; decide
theorem blocks_nodup (s : Fin 4) : (0 :: later s : List (Fin 4)).Nodup := by
  revert s; decide

/-- The blocks' scores, each where it belongs, read back together. -/
theorem wide_read (s : Fin 4) (t : Fin 8) (Q : S512x1024.Idx → Elt F .f32) (K : S2048x1024.Idx → Elt F .f32) (f : S512x2048.Idx → Elt F .f32)
    (h : ∀ k ∈ (0 :: later s : List (Fin 4)), scM.view.readAt (Elt F) (blkRect k).toLoadRect f = scoreOf s t Q K k) :
    scM.view.readAt (Elt F) (wideRect s).toLoadRect f = wideOf s t Q K := by
  funext i
  have hi : (i 1).val < 512 * (s.val + 1) := (i 1).isLt
  rw [wideOf, ← h ⟨(i 1).val / 512, blk_lt s i⟩ (mem_blocks s _ (by show (i 1).val / 512 ≤ s.val; omega)), View.readAt_apply, View.readAt_apply]
  refine congrArg (scM.view.read (Elt F) f) (funext fun a => Fin.ext ?_)
  match a with
  | ⟨0, _⟩ => rfl
  | ⟨1, _⟩ =>
    show 0 + 1 * (i 1).val = 512 * ((i 1).val / 512) + 1 * ((i 1).val % 512)
    omega
/-- The weights, stored together, read block by block. -/
theorem wide_stored (s : Fin 4) (t : Fin 8) (Q : S512x1024.Idx → Elt F .f32) (K : S2048x1024.Idx → Elt F .f32) (f : S512x2048.Idx → Elt F .f32)
    (h : scM.view.readAt (Elt F) (wideRect s).toLoadRect f = smPay s (wideOf s t Q K)) (k : Fin 4) (hk : k ∈ (0 :: later s : List (Fin 4))) :
    scM.view.readAt (Elt F) (blkRect k).toLoadRect f = wBlk s t Q K k := by
  funext i
  have hi : (i 1).val < 512 := (i 1).isLt
  have hs := blocks_le s k hk
  rw [wBlk, ← h, View.readAt_apply, View.readAt_apply]
  refine congrArg (scM.view.read (Elt F) f) (funext fun a => Fin.ext ?_)
  match a with
  | ⟨0, _⟩ => rfl
  | ⟨1, _⟩ =>
    show 512 * k.val + 1 * (i 1).val = 0 + 1 * ((512 * k.val + (i 1).val) % (512 * (s.val + 1)))
    rw [Nat.mod_eq_of_lt (by omega)]; omega
/-- The heads' columns make up the result. -/
theorem ctx_read (s : Fin 4) (Q : S512x1024.Idx → Elt F .f32) (K V : S2048x1024.Idx → Elt F .f32) (f : S512x1024.Idx → Elt F .f32)
    (h : ∀ t : Fin 8, cxM.view.readAt (Elt F) (headRect t).toLoadRect f = headOf s t Q K V) : f = ctxOf s Q K V := by
  funext j
  have hj : (j 1).val < 1024 := (j 1).isLt
  rw [ctxOf, ← h, View.readAt_apply]
  show f j = f _
  refine congrArg f (funext fun a => Fin.ext ?_)
  match a with
  | ⟨0, _⟩ => show (j 0).val = 0 + 1 * (j 0).val; omega
  | ⟨1, _⟩ =>
    show (j 1).val = 128 * ((j 1).val / 128) + 1 * ((j 1).val % 128)
    omega

/-! ## The trip -/

section
variable (d : Dev nD) (s : Fin 4) (t : Fin 8) (Q : S512x1024.Idx → Elt F .f32) (K V : S2048x1024.Idx → Elt F .f32)
  (SK SV : Finset S2048x1024.Idx) (q : PosShare TreeShare)

/-- The rows of keys, and of values, a stage reads; -/
def kPts : sProp 𝕄 := koM.view.loc (d : Thread nD τ) ↦[SK]{q} K
def vPts : sProp 𝕄 := voM.view.loc (d : Thread nD τ) ↦[SV]{q} V
/-- the queries; -/
def qPts : sProp 𝕄 := qM.view.loc (d : Thread nD τ) ↦[Finset.univ]{fullShare} Q
/-- the scores' buffer, of which something is known; -/
def scPts (P : (S512x2048.Idx → Elt F .f32) → Prop) : sProp 𝕄 :=
  iprop(∃ f : S512x2048.Idx → Elt F .f32, ⌜P f⌝ ∗ (scM.view.loc (d : Thread nD τ) ↦[Finset.univ]{fullShare} f))
/-- the result's. -/
def cxPts (P : (S512x1024.Idx → Elt F .f32) → Prop) : sProp 𝕄 :=
  iprop(∃ f : S512x1024.Idx → Elt F .f32, ⌜P f⌝ ∗ (cxM.view.loc (d : Thread nD τ) ↦[Finset.univ]{fullShare} f))

theorem wp_scores (l D : List (Fin 4)) (hn : (D ++ l).Nodup) (hS : ∀ k ∈ l, koM.view.setOn (kvRect k t).set ⊆ SK) :
    iprop(kPts d K SK q ∗ scPts d (fun f => ∀ k ∈ D, scM.view.readAt (Elt F) (blkRect k).toLoadRect f = scoreOf s t Q K k))
      ⊢ wpd d (scoresP s t (headQ Q t) l) (fun _ => iprop(kPts d K SK q
          ∗ scPts d (fun f => ∀ k ∈ D ++ l, scM.view.readAt (Elt F) (blkRect k).toLoadRect f = scoreOf s t Q K k))) := by
  induction l generalizing D with
  | nil =>
    rw [List.append_nil]
    exact wpd_pure d _ _
  | cons k l ih =>
    have e : D ++ k :: l = (D ++ [k]) ++ l := by simp
    have hnk : ∀ k' ∈ D, k ≠ k' := by
      intro k' hk' he
      subst he
      exact (List.nodup_append.1 hn).2.2 _ hk' _ (List.mem_cons_self) rfl
    rw [e] at hn
    rw [e]
    have ih' := ih (D ++ [k]) hn (fun k' h => hS k' (List.mem_cons_of_mem _ h))
    show _ ⊢ wpd d (_ >>= _) _
    rw [wpd_bind]
    unfold scPts kPts
    iintro ⟨HK, %f, %hf, Hs⟩
    iapply (wpd_load d koM (kvRect k t).toLoadRect _ SK q K (hS k List.mem_cons_self)) $$ [$HK Hs]
    iintro HK
    rw [wpd_bind]
    iapply (wpd_load d scM (blkRect k).toLoadRect _ Finset.univ fullShare f (Finset.subset_univ _)) $$ [$Hs HK]
    iintro Hs
    rw [wpd_bind]
    iapply (wpd_store d scM (blkRect k) _ _ _ f) $$ [$Hs HK]
    iintro Hs
    iapply ih'
    unfold scPts kPts
    isplitl [HK]
    · iexact HK
    iexists _
    isplitr [Hs]
    · ipureintro
      intro k' hk'
      rcases List.mem_append.1 hk' with h | h
      · rw [read_kept scM _ _ (blk_disj k k' (hnk k' h))]; exact hf k' h
      · rw [List.mem_singleton.1 h]; exact read_stored scM _ _ _
    · iexact Hs

theorem wp_weigh :
    scPts d (fun f => ∀ k ∈ (0 :: later s : List (Fin 4)), scM.view.readAt (Elt F) (blkRect k).toLoadRect f = scoreOf s t Q K k)
      ⊢ wpd d (weighP s) (fun _ => scPts d (fun f => ∀ k ∈ (0 :: later s : List (Fin 4)), scM.view.readAt (Elt F) (blkRect k).toLoadRect f = wBlk s t Q K k)) := by
  unfold weighP scPts
  iintro ⟨%f, %hf, Hs⟩
  rw [wpd_bind]
  iapply (wpd_load d scM (wideRect s).toLoadRect _ Finset.univ fullShare f (Finset.subset_univ _)) $$ [$Hs]
  iintro Hs
  rw [wpd_bind]
  iapply (wpd_load d scM (wideRect s).toLoadRect _ Finset.univ fullShare f (Finset.subset_univ _)) $$ [$Hs]
  iintro Hs
  iapply (wpd_store d scM (wideRect s) _ _ _ f) $$ [$Hs]
  iintro Hs
  iexists ((scM.access (wideRect s)).write (Elt F) f (smPay s (scM.view.readAt (Elt F) (wideRect s).toLoadRect f)) Finset.univ)
  isplitr [Hs]
  · ipureintro
    refine wide_stored s t Q K _ ?_
    rw [wide_read s t Q K f hf]
    exact read_stored scM _ _ _
  · iexact Hs

theorem wp_blocks (l : List (Fin 4)) (r : List (Vec F S512x512 .f32 × Vec F S512x128 .f32)) (hl : ∀ k ∈ l, k ∈ (0 :: later s : List (Fin 4)))
    (hS : ∀ k ∈ l, voM.view.setOn (kvRect k t).set ⊆ SV) (f : S512x2048.Idx → Elt F .f32)
    (hf : ∀ k ∈ (0 :: later s : List (Fin 4)), scM.view.readAt (Elt F) (blkRect k).toLoadRect f = wBlk s t Q K k) :
    iprop(vPts d V SV q ∗ (scM.view.loc (d : Thread nD τ) ↦[Finset.univ]{fullShare} f))
      ⊢ wpd d (blocksP t l r) (fun x => iprop(⌜x = r ++ l.map fun k => (wBlk s t Q K k, headV V k t)⌝ ∗ vPts d V SV q
          ∗ (scM.view.loc (d : Thread nD τ) ↦[Finset.univ]{fullShare} f))) := by
  induction l generalizing r with
  | nil =>
    refine BIBase.Entails.trans ?_ (wpd_pure d _ _)
    iintro H
    isplitr [H]
    · ipureintro; simp
    · iexact H
  | cons k l ih =>
    have ih' := ih (r ++ [(wBlk s t Q K k, headV V k t)]) (fun k' h => hl k' (List.mem_cons_of_mem _ h)) (fun k' h => hS k' (List.mem_cons_of_mem _ h))
    show _ ⊢ wpd d (_ >>= _) _
    rw [wpd_bind]
    unfold vPts at ih' ⊢
    iintro ⟨HV, Hs⟩
    iapply (wpd_load d scM (blkRect k).toLoadRect _ Finset.univ fullShare f (Finset.subset_univ _)) $$ [$Hs HV]
    iintro Hs
    rw [wpd_bind]
    iapply (wpd_load d voM (kvRect k t).toLoadRect _ SV q V (hS k List.mem_cons_self)) $$ [$HV Hs]
    iintro HV
    rw [hf k (hl k List.mem_cons_self)]
    have e : r ++ (k :: l).map (fun k => (wBlk s t Q K k, headV V k t)) = (r ++ [(wBlk s t Q K k, headV V k t)]) ++ l.map fun k => (wBlk s t Q K k, headV V k t) := by simp
    rw [e]
    iapply ih'
    isplitl [HV]
    · iexact HV
    · iexact Hs

/-- What is held before the trip of head `n`: the heads before it have their columns. -/
def Heads (n : ℕ) : sProp 𝕄 :=
  iprop(qPts d Q ∗ kPts d K SK q ∗ vPts d V SV q ∗ scPts d (fun _ => True)
    ∗ cxPts d (fun f => ∀ t' : Fin 8, t'.val < n → cxM.view.readAt (Elt F) (headRect t').toLoadRect f = headOf s t' Q K V))

theorem wp_sum (hS : ∀ k ∈ (0 :: later s : List (Fin 4)), voM.view.setOn (kvRect k t).set ⊆ SV) :
    iprop(vPts d V SV q
        ∗ scPts d (fun f => ∀ k ∈ (0 :: later s : List (Fin 4)), scM.view.readAt (Elt F) (blkRect k).toLoadRect f = wBlk s t Q K k)
        ∗ cxPts d (fun f => ∀ t' : Fin 8, t'.val < t.val → cxM.view.readAt (Elt F) (headRect t').toLoadRect f = headOf s t' Q K V))
      ⊢ wpd d (sumP s t) (fun _ => iprop(vPts d V SV q ∗ scPts d (fun _ => True)
          ∗ cxPts d (fun f => ∀ t' : Fin 8, t'.val < t.val + 1 → cxM.view.readAt (Elt F) (headRect t').toLoadRect f = headOf s t' Q K V))) := by
  have hb := fun f hf => wp_blocks d s t Q K V SV q (later s) [] (fun k h => List.mem_cons_of_mem _ h) (fun k h => hS k (List.mem_cons_of_mem _ h)) f hf
  unfold sumP scPts cxPts
  unfold vPts at hb ⊢
  rw [wpd_bind]
  iintro ⟨HV, ⟨%f, %hf, Hs⟩, %g, %hg, Hc⟩
  iapply (wpd_load d scM (blkRect 0).toLoadRect _ Finset.univ fullShare f (Finset.subset_univ _)) $$ [$Hs HV Hc]
  iintro Hs
  rw [wpd_bind]
  iapply (wpd_load d voM (kvRect 0 t).toLoadRect _ SV q V (hS 0 List.mem_cons_self)) $$ [$HV Hs Hc]
  iintro HV
  rw [wpd_bind, hf 0 List.mem_cons_self]
  ihave H := (hb f hf) $$ [HV Hs]
  · isplitl [HV]
    · iexact HV
    · iexact Hs
  iapply wpd_wand
  isplitl [H]
  · iexact H
  iintro %x ⟨%hx, HV, Hs⟩
  subst hx
  rw [wpd_bind]
  iapply (wpd_load d cxM (headRect t).toLoadRect _ Finset.univ fullShare g (Finset.subset_univ _)) $$ [$Hc HV Hs]
  iintro Hc
  iapply (wpd_store d cxM (headRect t) _ _ _ g) $$ [$Hc HV Hs]
  iintro Hc
  isplitl [HV]
  · iexact HV
  isplitl [Hs]
  · iexists f
    isplitr [Hs]
    · ipureintro; trivial
    · iexact Hs
  iexists ((cxM.access (headRect t)).write (Elt F) g (headOf s t Q K V) Finset.univ)
  isplitr [Hc]
  · ipureintro
    intro t' ht'
    by_cases h : t' = t
    · subst h
      exact read_stored cxM _ _ _
    · rw [read_kept cxM _ _ (head_disj t t' (fun e => h e.symm))]
      exact hg t' (by have : t'.val ≠ t.val := fun e => h (Fin.ext e); omega)
  · iexact Hc

theorem wp_trip (hK : ∀ k ∈ (0 :: later s : List (Fin 4)), koM.view.setOn (kvRect k t).set ⊆ SK)
    (hV : ∀ k ∈ (0 :: later s : List (Fin 4)), voM.view.setOn (kvRect k t).set ⊆ SV) :
    Heads d s Q K V SK SV q t.val ⊢ wpd d (tripP s t) (fun _ => Heads d s Q K V SK SV q (t.val + 1)) := by
  have h1 := wp_scores d s t Q K SK q (0 :: later s) [] (by simpa using blocks_nodup s) hK
  have h2 := wp_weigh d s t Q K
  have h3 := wp_sum d s t Q K V SV q hV
  rw [List.nil_append] at h1
  have h0 : scPts (F := F) d (fun _ => True) ⊢ scPts d (fun f => ∀ k ∈ ([] : List (Fin 4)), scM.view.readAt (Elt F) (blkRect k).toLoadRect f = scoreOf s t Q K k) := by
    unfold scPts
    iintro ⟨%f, %hf, Hs⟩
    iexists f
    isplitr [Hs]
    · ipureintro
      intro k hk
      exact absurd hk (List.not_mem_nil)
    · iexact Hs
  unfold tripP Heads
  unfold qPts
  rw [wpd_bind]
  iintro ⟨HQ, HK, HV, Hs, Hc⟩
  iapply (wpd_load d qM (headRect t).toLoadRect _ Finset.univ fullShare Q (Finset.subset_univ _)) $$ [$HQ HK HV Hs Hc]
  iintro HQ
  rw [wpd_bind]
  ihave H := h1 $$ [HK Hs]
  · isplitl [HK]
    · iexact HK
    iapply h0 $$ Hs
  iapply wpd_wand
  isplitl [H]
  · iexact H
  iintro %_ ⟨HK, Hs⟩
  rw [wpd_bind]
  ihave H := h2 $$ Hs
  iapply wpd_wand
  isplitl [H]
  · iexact H
  iintro %_ Hs
  ihave H := h3 $$ [HV Hs Hc]
  · isplitl [HV]
    · iexact HV
    isplitl [Hs]
    · iexact Hs
    · iexact Hc
  iapply wpd_wand
  isplitl [H]
  · iexact H
  iintro %_ ⟨HV, Hs, Hc⟩
  isplitl [HQ]
  · iexact HQ
  isplitl [HK]
  · iexact HK
  isplitl [HV]
  · iexact HV
  isplitl [Hs]
  · iexact Hs
  · iexact Hc
end

/-! ## The loop, and what is around it -/

section
variable (d : Dev nD) (s : Fin 4) (Q : S512x1024.Idx → Elt F .f32) (K V : S2048x1024.Idx → Elt F .f32)
  (SK SV : Finset S2048x1024.Idx) (q : PosShare TreeShare)

theorem wp_for8 (lb ub st : BitVec 32) (hok : Scf.OK lb ub st) (body : Fin (Scf.trips lb ub st) → Unit → PG F) (h8 : Scf.trips lb ub st = 8)
    (hb : ∀ t : Fin 8, body ⟨t.val, h8.symm ▸ t.isLt⟩ ⟨⟩ = tripP s t)
    (hK : ∀ t, ∀ k ∈ (0 :: later s : List (Fin 4)), koM.view.setOn (kvRect k t).set ⊆ SK)
    (hV : ∀ t, ∀ k ∈ (0 :: later s : List (Fin 4)), voM.view.setOn (kvRect k t).set ⊆ SV) :
    Heads d s Q K V SK SV q 0 ⊢ wpd d (Scf.for lb ub st hok ⟨⟩ body) (fun _ => Heads d s Q K V SK SV q 8) := by
  refine BIBase.Entails.trans ?_ (Scf.wp_for frame (wpE (defs₀ (F := F)) 𝒱₀ (d : Thread nD τ) none) Set.univ lb ub st hok ⟨⟩ body
      (fun n _ => Heads d s Q K V SK SV q n) (fun t acc => ?_))
  · rw [h8]
    iintro H
    isplitl [H]
    · iexact H
    · iintro %_ H; iexact H
  · have h := wp_trip d s ⟨t.val, h8 ▸ t.isLt⟩ Q K V SK SV q (hK _) (hV _)
    rw [← hb ⟨t.val, h8 ▸ t.isLt⟩] at h
    exact h

theorem wp_loop (hK : ∀ t, ∀ k ∈ (0 :: later s : List (Fin 4)), koM.view.setOn (kvRect k t).set ⊆ SK)
    (hV : ∀ t, ∀ k ∈ (0 :: later s : List (Fin 4)), voM.view.setOn (kvRect k t).set ⊆ SV) :
    Heads d s Q K V SK SV q 0 ⊢ wpd d (loopP s) (fun _ => Heads d s Q K V SK SV q 8) := by
  match s with
  | 0 => exact wp_for8 d 0 Q K V SK SV q _ _ _ k0_t1_ok body1 (by decide) trip1 hK hV
  | 1 => exact wp_for8 d 1 Q K V SK SV q _ _ _ k0_t2_ok body2 (by decide) trip2 hK hV
  | 2 => exact wp_for8 d 2 Q K V SK SV q _ _ _ k0_t3_ok body3 (by decide) trip3 hK hV
  | 3 => exact wp_for8 d 3 Q K V SK SV q _ _ _ k0_t4_ok body4 (by decide) trip4 hK hV
end

/-- A stage's rows; -/
def rowsOf (s : Fin 4) (X : S1x2048x1024.Idx → Elt F .f32) : Vec F S1x512x1024 .f32 := xM.view.readAt (Elt F) (rowRect s).toLoadRect X
/-- their output; -/
def stageOut (s : Fin 4) (X : S1x2048x1024.Idx → Elt F .f32) (W WO : S1024x1024.Idx → Elt F .f32) (K V : S2048x1024.Idx → Elt F .f32) : FVec F S1x512x1024 .f32 :=
  oPay s (ctxOf s (qPay s (rowsOf s X) W) K V) WO
/-- and the whole output. -/
def outOf (X : S1x2048x1024.Idx → Elt F .f32) (W WO : S1024x1024.Idx → Elt F .f32) (K V : S2048x1024.Idx → Elt F .f32) : S1x2048x1024.Idx → Elt F .f32 := fun j =>
  stageOut ⟨(j 1).val / 512, by have h : (j 1).val < 2048 := (j 1).isLt; omega⟩ X W WO K V
    (ix3 (n0 := 1) (n1 := 512) (n2 := 1024) ⟨(j 0).val, (j 0).isLt⟩ ⟨(j 1).val % 512, Nat.mod_lt _ (by decide)⟩ ⟨(j 2).val, (j 2).isLt⟩)

theorem row_disj (s s' : Fin 4) (h : s ≠ s') : Disjoint (rowRect s).set (rowRect s').set := by
  rw [Finset.disjoint_left]
  intro y h1 h2
  rw [Rect.mem_set_unit] at h1 h2
  have a1 := h1 1
  have a2 := h2 1
  have e1 : (![0, 512 * s.val, 0] : Fin 3 → ℕ) 1 = 512 * s.val := rfl
  have e2 : (![0, 512 * s'.val, 0] : Fin 3 → ℕ) 1 = 512 * s'.val := rfl
  have e3 : S1x512x1024.size 1 = 512 := rfl
  rw [e1, e3] at a1
  rw [e2, e3] at a2
  exact h (Fin.ext (by omega))
/-- The stages' rows make up the output. -/
theorem out_read (X : S1x2048x1024.Idx → Elt F .f32) (W WO : S1024x1024.Idx → Elt F .f32) (K V : S2048x1024.Idx → Elt F .f32) (f : S1x2048x1024.Idx → Elt F .f32)
    (h : ∀ s : Fin 4, outM.view.readAt (Elt F) (rowRect s).toLoadRect f = stageOut s X W WO K V) : f = outOf X W WO K V := by
  funext j
  have hj : (j 1).val < 2048 := (j 1).isLt
  have h0 : (j 0).val < 1 := (j 0).isLt
  rw [outOf, ← h, View.readAt_apply]
  show f j = f _
  refine congrArg f (funext fun a => Fin.ext ?_)
  match a with
  | ⟨0, _⟩ => show (j 0).val = 0 + 1 * (j 0).val; omega
  | ⟨1, _⟩ =>
    show (j 1).val = 512 * ((j 1).val / 512) + 1 * ((j 1).val % 512)
    omega
  | ⟨2, _⟩ => show (j 2).val = 0 + 1 * (j 2).val; omega

theorem read_big (f : S1024x1024.Idx → Elt F .f32) : wqM.view.readAt (Elt F) bigRect.toLoadRect f = f :=
  Memref.readAt_unit_zero (Elt F) cc0_stg1_0 (by funext a; revert a; decide) _ f
theorem read_big' (f : S1024x1024.Idx → Elt F .f32) : woM.view.readAt (Elt F) bigRect.toLoadRect f = f :=
  Memref.readAt_unit_zero (Elt F) cc0_stg2_0 (by funext a; revert a; decide) _ f
theorem read_tile (f : S512x1024.Idx → Elt F .f32) : cxM.view.readAt (Elt F) tileRect.toLoadRect f = f :=
  Memref.readAt_unit_zero (Elt F) cc0_scratch4 (by funext a; revert a; decide) _ f
theorem write_tile (f w : S512x1024.Idx → Elt F .f32) : (qM.access tileRect).write (Elt F) f w Finset.univ = w :=
  Memref.write_access_unit_zero_univ (Elt F) cc0_scratch2 (by funext a; revert a; decide) _ f w

section
variable (d : Dev nD) (s : Fin 4) (X : S1x2048x1024.Idx → Elt F .f32) (W WO : S1024x1024.Idx → Elt F .f32) (Q : S512x1024.Idx → Elt F .f32)
  (K V : S2048x1024.Idx → Elt F .f32) (SK SV : Finset S2048x1024.Idx) (q : PosShare TreeShare)

def xPts : sProp 𝕄 := xM.view.loc (d : Thread nD τ) ↦[Finset.univ]{fullShare} X
def wqPts : sProp 𝕄 := wqM.view.loc (d : Thread nD τ) ↦[Finset.univ]{fullShare} W
def woPts : sProp 𝕄 := woM.view.loc (d : Thread nD τ) ↦[Finset.univ]{fullShare} WO
/-- The output before stage `n`: the stages before it have their rows. -/
def outPts (n : ℕ) : sProp 𝕄 :=
  iprop(∃ f : S1x2048x1024.Idx → Elt F .f32, ⌜∀ s' : Fin 4, s'.val < n → outM.view.readAt (Elt F) (rowRect s').toLoadRect f = stageOut s' X W WO K V⌝
    ∗ (outM.view.loc (d : Thread nD τ) ↦[Finset.univ]{fullShare} f))

theorem wp_rows : xPts d X ⊢ wpd d (rowsP s) (fun x => iprop(⌜x = rowsOf s X⌝ ∗ xPts d X)) := by
  unfold rowsP xPts
  iintro H
  iapply (wpd_load d xM (rowRect s).toLoadRect _ Finset.univ fullShare X (Finset.subset_univ _)) $$ [$H]
  iintro H
  isplitr [H]
  · ipureintro; rfl
  · iexact H

theorem wp_front (x : Vec F S1x512x1024 .f32) : iprop(wqPts d W ∗ qPts d Q) ⊢ wpd d (frontP s x) (fun _ => iprop(wqPts d W ∗ qPts d (qPay s x W))) := by
  unfold frontP wqPts qPts
  rw [wpd_bind]
  iintro ⟨HW, HQ⟩
  iapply (wpd_load d wqM bigRect.toLoadRect _ Finset.univ fullShare W (Finset.subset_univ _)) $$ [$HW HQ]
  iintro HW
  rw [wpd_bind, read_big]
  iapply (wpd_load d qM tileRect.toLoadRect _ Finset.univ fullShare Q (Finset.subset_univ _)) $$ [$HQ HW]
  iintro HQ
  iapply (wpd_store d qM tileRect _ _ _ Q) $$ [$HQ HW]
  rw [write_tile]
  iintro HQ
  isplitl [HW]
  · iexact HW
  · iexact HQ

theorem wp_back :
    iprop(woPts d WO ∗ cxPts d (fun f => ∀ t' : Fin 8, t'.val < 8 → cxM.view.readAt (Elt F) (headRect t').toLoadRect f = headOf s t' (qPay s (rowsOf s X) W) K V)
        ∗ outPts d X W WO K V s.val)
      ⊢ wpd d (backP s) (fun _ => iprop(woPts d WO ∗ cxPts d (fun _ => True) ∗ outPts d X W WO K V (s.val + 1))) := by
  unfold backP woPts cxPts outPts
  rw [wpd_bind]
  iintro ⟨HW, ⟨%f, %hf, Hc⟩, %g, %hg, Ho⟩
  iapply (wpd_load d cxM tileRect.toLoadRect _ Finset.univ fullShare f (Finset.subset_univ _)) $$ [$Hc HW Ho]
  iintro Hc
  rw [wpd_bind, read_tile]
  iapply (wpd_load d woM bigRect.toLoadRect _ Finset.univ fullShare WO (Finset.subset_univ _)) $$ [$HW Hc Ho]
  iintro HW
  rw [wpd_bind, read_big']
  iapply (wpd_load d outM (rowRect s).toLoadRect _ Finset.univ fullShare g (Finset.subset_univ _)) $$ [$Ho Hc HW]
  iintro Ho
  iapply (wpd_store d outM (rowRect s) _ _ _ g) $$ [$Ho Hc HW]
  iintro Ho
  isplitl [HW]
  · iexact HW
  isplitl [Hc]
  · iexists f
    isplitr [Hc]
    · ipureintro; trivial
    · iexact Hc
  iexists ((outM.access (rowRect s)).write (Elt F) g (oPay s f WO) Finset.univ)
  isplitr [Ho]
  · ipureintro
    intro s' hs'
    by_cases h : s' = s
    · subst h
      rw [read_stored outM, ctx_read s' _ K V f (fun t => hf t t.isLt)]; rfl
    · rw [read_kept outM _ _ (row_disj s s' (fun e => h e.symm))]
      exact hg s' (by have : s'.val ≠ s.val := fun e => h (Fin.ext e); omega)
  · iexact Ho
end

end Cert.Attn
-- ==== Proof.Rows.lean ====
/-
# Chunks and rows

The sixteen chunks a device receives are the rows of its key and value buffers: a stage's chunks, with those of the stages
before it, are the rows that stage's computation reads, and all sixteen are the two whole buffers.
-/
module

public import proofs.«01_k».proof.Proof.Stage
public import Idealize.ShloMosaic.Lib.Pipeline.TalkSched

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.TalkSites (bigSepL_perm)

variable {F : FTy → Type} [FloatOps F] [Named F]

local notation "𝕄" => MT nD τ sig Unit (Elt F) ℕ UU ℕ

variable (m : (ℓ : Loc nD τ sig) → Buf (Elt F) ℓ)

theorem chunk_K (d : Dev nD) (k : Fin 16) (q : PosShare TreeShare) (h : k.val < 8) :
    (chunkPts m d k q : sProp 𝕄) = kPts d (KB m) (chunkRect k).set q := by
  unfold chunkPts kPts
  have e : cM k = koM.slice (chunkRect k) (fun _ => rfl) := if_pos h
  have e2 : kv m k = (koM.slice (chunkRect k) (fun _ => rfl)).view.read (Elt F) (KB m) := if_pos h
  rw [e2]
  generalize cM k = M at e
  subst e
  rw [← pointsTo_rep]
  exact congrArg (fun S => (koM.view.loc (d : Thread nD τ) ↦[S]{q} KB m : sProp 𝕄)) (View.set_slice_whole cc0_scratch0 (chunkRect k))
theorem chunk_V (d : Dev nD) (k : Fin 16) (q : PosShare TreeShare) (h : ¬ k.val < 8) :
    (chunkPts m d k q : sProp 𝕄) = vPts d (VB m) (chunkRect k).set q := by
  unfold chunkPts vPts
  have e : cM k = voM.slice (chunkRect k) (fun _ => rfl) := if_neg h
  have e2 : kv m k = (voM.slice (chunkRect k) (fun _ => rfl)).view.read (Elt F) (VB m) := if_neg h
  rw [e2]
  generalize cM k = M at e
  subst e
  rw [← pointsTo_rep]
  exact congrArg (fun S => (voM.view.loc (d : Thread nD τ) ↦[S]{q} VB m : sProp 𝕄)) (View.set_slice_whole cc0_scratch1 (chunkRect k))

/-- Device 0's argument rows of a chunk of keys, or of values. -/
theorem hbm_K (k : Fin 16) (q : PosShare TreeShare) (h : k.val < 8) :
    (hbmPts m k q : sProp 𝕄) = (khM.view.loc ((0 : Dev nD) : Thread nD τ) ↦[(chunkRect k).set]{q} m (((0 : Dev nD) : Thread nD τ).loc main_arg2)) := by
  unfold hbmPts
  have e : hM k = khM.slice (chunkRect k) (fun _ => rfl) := if_pos h
  have e2 : kv m k = (khM.slice (chunkRect k) (fun _ => rfl)).view.read (Elt F) (m (((0 : Dev nD) : Thread nD τ).loc main_arg2)) := if_pos h
  rw [e2]
  generalize hM k = M at e
  subst e
  rw [← pointsTo_rep]
  exact congrArg (fun S => (khM.view.loc ((0 : Dev nD) : Thread nD τ) ↦[S]{q} m (((0 : Dev nD) : Thread nD τ).loc main_arg2) : sProp 𝕄)) (View.set_slice_whole main_arg2 (chunkRect k))
theorem hbm_V (k : Fin 16) (q : PosShare TreeShare) (h : ¬ k.val < 8) :
    (hbmPts m k q : sProp 𝕄) = (vhM.view.loc ((0 : Dev nD) : Thread nD τ) ↦[(chunkRect k).set]{q} m (((0 : Dev nD) : Thread nD τ).loc main_arg3)) := by
  unfold hbmPts
  have e : hM k = vhM.slice (chunkRect k) (fun _ => rfl) := if_neg h
  have e2 : kv m k = (vhM.slice (chunkRect k) (fun _ => rfl)).view.read (Elt F) (m (((0 : Dev nD) : Thread nD τ).loc main_arg3)) := if_neg h
  rw [e2]
  generalize hM k = M at e
  subst e
  rw [← pointsTo_rep]
  exact congrArg (fun S => (vhM.view.loc ((0 : Dev nD) : Thread nD τ) ↦[S]{q} m (((0 : Dev nD) : Thread nD τ).loc main_arg3) : sProp 𝕄)) (View.set_slice_whole main_arg3 (chunkRect k))

/-- A chunk's place, whatever it holds. -/
theorem spot_K (d : Dev nD) (k : Fin 16) (h : k.val < 8) :
    (spot (F := F) d k : sProp 𝕄) = iprop(∃ f : S2048x1024.Idx → Elt F .f32, kPts d f (chunkRect k).set fullShare) := by
  unfold spot kPts
  have e : cM k = koM.slice (chunkRect k) (fun _ => rfl) := if_pos h
  generalize cM k = M at e
  subst e
  exact congrArg (fun S => (iprop(∃ f : S2048x1024.Idx → Elt F .f32, koM.view.loc (d : Thread nD τ) ↦[S]{fullShare} f) : sProp 𝕄)) (View.set_slice_whole cc0_scratch0 (chunkRect k))
theorem spot_V (d : Dev nD) (k : Fin 16) (h : ¬ k.val < 8) :
    (spot (F := F) d k : sProp 𝕄) = iprop(∃ f : S2048x1024.Idx → Elt F .f32, vPts d f (chunkRect k).set fullShare) := by
  unfold spot vPts
  have e : cM k = voM.slice (chunkRect k) (fun _ => rfl) := if_neg h
  generalize cM k = M at e
  subst e
  exact congrArg (fun S => (iprop(∃ f : S2048x1024.Idx → Elt F .f32, voM.view.loc (d : Thread nD τ) ↦[S]{fullShare} f) : sProp 𝕄)) (View.set_slice_whole cc0_scratch1 (chunkRect k))

/-! ## The rows of the first stages -/

/-- The chunks of keys, and of values, of the stages below `n`; -/
def upK (n : ℕ) : List (Fin 16) := chunks.filter fun k => k.val < 8 ∧ stageOf k < n
def upV (n : ℕ) : List (Fin 16) := chunks.filter fun k => ¬ k.val < 8 ∧ stageOf k < n
/-- the rows they are. -/
def SK (n : ℕ) : Finset S2048x1024.Idx := (upK n).toFinset.biUnion fun k => (chunkRect k).set
def SV (n : ℕ) : Finset S2048x1024.Idx := (upV n).toFinset.biUnion fun k => (chunkRect k).set

theorem mem_chunks (k : Fin 16) : k ∈ chunks := by revert k; decide
theorem chunks_nodup : chunks.Nodup := by decide
theorem mem_upK (n : ℕ) (k : Fin 16) : k ∈ upK n ↔ k.val < 8 ∧ stageOf k < n := by
  unfold upK; rw [List.mem_filter, decide_eq_true_iff]; exact ⟨fun h => h.2, fun h => ⟨mem_chunks k, h⟩⟩
theorem mem_upV (n : ℕ) (k : Fin 16) : k ∈ upV n ↔ ¬ k.val < 8 ∧ stageOf k < n := by
  unfold upV; rw [List.mem_filter, decide_eq_true_iff]; exact ⟨fun h => h.2, fun h => ⟨mem_chunks k, h⟩⟩
theorem upK_nodup (n : ℕ) : (upK n).Nodup := chunks_nodup.filter _
theorem upV_nodup (n : ℕ) : (upV n).Nodup := chunks_nodup.filter _
theorem done_perm : ∀ (n : Fin 5) (d : Dev nD), (done n.val d).Perm (upK n.val ++ upV n.val) := by decide
theorem done_nodup : ∀ (n : Fin 5) (d : Dev nD), (done n.val d).Nodup := by decide
theorem chunks_perm : chunks.Perm (upK 4 ++ upV 4) := by decide

theorem mem_chunkRect (k : Fin 16) (i : S2048x1024.Idx) : i ∈ (chunkRect k).set ↔ (i 0).val / 256 = k.val % 8 := by
  rw [Rect.mem_set_unit]
  constructor
  · intro h
    have a := h 0
    have e1 : (![256 * (k.val % 8), 0] : Fin 2 → ℕ) 0 = 256 * (k.val % 8) := rfl
    have e3 : S256x1024.size 0 = 256 := rfl
    rw [e1, e3] at a
    omega
  · intro h a
    match a with
    | ⟨0, _⟩ =>
      have e1 : (![256 * (k.val % 8), 0] : Fin 2 → ℕ) 0 = 256 * (k.val % 8) := rfl
      have e3 : S256x1024.size 0 = 256 := rfl
      show (![256 * (k.val % 8), 0] : Fin 2 → ℕ) 0 ≤ (i 0).val ∧ (i 0).val < (![256 * (k.val % 8), 0] : Fin 2 → ℕ) 0 + S256x1024.size 0
      rw [e1, e3]; omega
    | ⟨1, _⟩ =>
      have h1 : (i 1).val < 1024 := (i 1).isLt
      show 0 ≤ (i 1).val ∧ (i 1).val < 0 + 1024
      omega

theorem mem_SK (n : ℕ) (i : S2048x1024.Idx) : i ∈ SK n ↔ (i 0).val / 512 < n := by
  have h0 : (i 0).val < 2048 := (i 0).isLt
  unfold SK
  rw [Finset.mem_biUnion]
  constructor
  · rintro ⟨k, hk, hi⟩
    rw [List.mem_toFinset, mem_upK] at hk
    rw [mem_chunkRect] at hi
    unfold stageOf at hk
    omega
  · intro h
    refine ⟨⟨(i 0).val / 256, by omega⟩, ?_, ?_⟩
    · rw [List.mem_toFinset, mem_upK]; unfold stageOf; dsimp only; omega
    · rw [mem_chunkRect]; dsimp only; omega
theorem mem_SV (n : ℕ) (i : S2048x1024.Idx) : i ∈ SV n ↔ (i 0).val / 512 < n := by
  have h0 : (i 0).val < 2048 := (i 0).isLt
  unfold SV
  rw [Finset.mem_biUnion]
  constructor
  · rintro ⟨k, hk, hi⟩
    rw [List.mem_toFinset, mem_upV] at hk
    rw [mem_chunkRect] at hi
    unfold stageOf at hk
    omega
  · intro h
    refine ⟨⟨8 + (i 0).val / 256, by omega⟩, ?_, ?_⟩
    · rw [List.mem_toFinset, mem_upV]; unfold stageOf; dsimp only; omega
    · rw [mem_chunkRect]; dsimp only; omega

theorem SK_all : SK 4 = Finset.univ := by
  ext i; have h0 : (i 0).val < 2048 := (i 0).isLt
  rw [mem_SK]; exact ⟨fun _ => Finset.mem_univ _, fun _ => by omega⟩
theorem SV_all : SV 4 = Finset.univ := by
  ext i; have h0 : (i 0).val < 2048 := (i 0).isLt
  rw [mem_SV]; exact ⟨fun _ => Finset.mem_univ _, fun _ => by omega⟩

theorem chunk_disj (k k' : Fin 16) (h : k.val % 8 ≠ k'.val % 8) : Disjoint (chunkRect k).set (chunkRect k').set := by
  rw [Finset.disjoint_left]
  intro i h1 h2
  rw [mem_chunkRect] at h1 h2
  exact h (h1.symm.trans h2)
theorem upK_disj (n : ℕ) : ∀ k ∈ (upK n).toFinset, ∀ k' ∈ (upK n).toFinset, k ≠ k' → Disjoint (chunkRect k).set (chunkRect k').set := by
  intro k hk k' hk' hne
  rw [List.mem_toFinset, mem_upK] at hk hk'
  exact chunk_disj k k' (fun e => hne (Fin.ext (by omega)))
theorem upV_disj (n : ℕ) : ∀ k ∈ (upV n).toFinset, ∀ k' ∈ (upV n).toFinset, k ≠ k' → Disjoint (chunkRect k).set (chunkRect k').set := by
  intro k hk k' hk' hne
  rw [List.mem_toFinset, mem_upV] at hk hk'
  exact chunk_disj k k' (fun e => hne (Fin.ext (by omega)))

/-- A stage reads rows it has. -/
theorem kv_mem (s k : Fin 4) (t : Fin 8) (h : k ∈ (0 :: later s : List (Fin 4))) (i : S2048x1024.Idx) (hi : i ∈ (kvRect k t).set) : (i 0).val / 512 < s.val + 1 := by
  rw [Rect.mem_set_unit] at hi
  have a := hi 0
  have e1 : (![512 * k.val, 128 * t.val] : Fin 2 → ℕ) 0 = 512 * k.val := rfl
  have e3 : S512x128.size 0 = 512 := rfl
  rw [e1, e3] at a
  have := blocks_le s k h
  omega
theorem kv_sub (s k : Fin 4) (t : Fin 8) (h : k ∈ (0 :: later s : List (Fin 4))) : koM.view.setOn (kvRect k t).set ⊆ SK (s.val + 1) := by
  intro i hi
  rw [View.setOn, Finset.mem_map] at hi
  obtain ⟨y, hy, rfl⟩ := hi
  exact (mem_SK _ _).2 (kv_mem s k t h y hy)
theorem vv_sub (s k : Fin 4) (t : Fin 8) (h : k ∈ (0 :: later s : List (Fin 4))) : voM.view.setOn (kvRect k t).set ⊆ SV (s.val + 1) := by
  intro i hi
  rw [View.setOn, Finset.mem_map] at hi
  obtain ⟨y, hy, rfl⟩ := hi
  exact (mem_SV _ _).2 (kv_mem s k t h y hy)

/-- The chunks of the first stages are the first rows of the two buffers. -/
theorem up_rows (n : ℕ) (d : Dev nD) (q : PosShare TreeShare) :
    (bigSepL (upK n ++ upV n) (fun k => chunkPts m d k q) : sProp 𝕄) = iprop(kPts d (KB m) (SK n) q ∗ vPts d (VB m) (SV n) q) := by
  rw [bigSepL_append]
  congr 1
  · rw [← bigSep_eq_bigSepL_of_eq (upK n) rfl (upK_nodup n)]
    refine (bigSep_congr fun k hk => ?_).trans (pointsTo_biUnion _ _ (upK_disj n)).symm
    rw [List.mem_toFinset, mem_upK] at hk
    exact chunk_K m d k q hk.1
  · rw [← bigSep_eq_bigSepL_of_eq (upV n) rfl (upV_nodup n)]
    refine (bigSep_congr fun k hk => ?_).trans (pointsTo_biUnion _ _ (upV_disj n)).symm
    rw [List.mem_toFinset, mem_upV] at hk
    exact chunk_V m d k q hk.1
theorem done_rows (n : Fin 5) (d : Dev nD) (q : PosShare TreeShare) :
    (bigSepL (done n.val d) (fun k => chunkPts m d k q) : sProp 𝕄) = iprop(kPts d (KB m) (SK n.val) q ∗ vPts d (VB m) (SV n.val) q) := by
  rw [bigSepL_perm (done_perm n d) (done_nodup n d), up_rows]
theorem chunks_rows (d : Dev nD) (q : PosShare TreeShare) :
    (bigSepL chunks (fun k => chunkPts m d k q) : sProp 𝕄) = iprop(kPts d (KB m) Finset.univ q ∗ vPts d (VB m) Finset.univ q) := by
  rw [bigSepL_perm chunks_perm chunks_nodup, up_rows, SK_all, SV_all]
/-- The same of device 0's arguments. -/
theorem hbm_rows (q : PosShare TreeShare) :
    (bigSepL chunks (fun k => hbmPts m k q) : sProp 𝕄)
      = iprop((khM.view.loc ((0 : Dev nD) : Thread nD τ) ↦[Finset.univ]{q} m (((0 : Dev nD) : Thread nD τ).loc main_arg2))
        ∗ (vhM.view.loc ((0 : Dev nD) : Thread nD τ) ↦[Finset.univ]{q} m (((0 : Dev nD) : Thread nD τ).loc main_arg3))) := by
  rw [bigSepL_perm chunks_perm chunks_nodup, bigSepL_append, ← SK_all]
  congr 1
  · rw [← bigSep_eq_bigSepL_of_eq (upK 4) rfl (upK_nodup 4)]
    refine (bigSep_congr fun k hk => ?_).trans (pointsTo_biUnion _ _ (upK_disj 4)).symm
    rw [List.mem_toFinset, mem_upK] at hk
    exact hbm_K m k q hk.1
  · rw [SK_all, ← SV_all, ← bigSep_eq_bigSepL_of_eq (upV 4) rfl (upV_nodup 4)]
    refine (bigSep_congr fun k hk => ?_).trans (pointsTo_biUnion _ _ (upV_disj 4)).symm
    rw [List.mem_toFinset, mem_upV] at hk
    exact hbm_V m k q hk.1
/-- Two whole buffers are the places of the sixteen chunks. -/
theorem spots (d : Dev nD) (f g : S2048x1024.Idx → Elt F .f32) :
    iprop(kPts d f Finset.univ fullShare ∗ vPts d g Finset.univ fullShare) ⊢ (bigSepL chunks (fun k => spot (F := F) d k) : sProp 𝕄) := by
  rw [bigSepL_perm chunks_perm chunks_nodup, bigSepL_append, ← SK_all]
  refine BI.sep_mono ?_ ?_
  · rw [← bigSep_eq_bigSepL_of_eq (upK 4) rfl (upK_nodup 4)]
    refine (Entails.of_eq (pointsTo_biUnion _ _ (upK_disj 4))).trans (bigSep_mono fun k hk => ?_)
    rw [List.mem_toFinset, mem_upK] at hk
    rw [spot_K d k hk.1]
    show (kPts d f (chunkRect k).set fullShare : sProp 𝕄) ⊢ iprop(∃ f : S2048x1024.Idx → Elt F .f32, kPts d f (chunkRect k).set fullShare)
    iintro H
    iexists f
    iexact H
  · rw [SK_all, ← SV_all, ← bigSep_eq_bigSepL_of_eq (upV 4) rfl (upV_nodup 4)]
    refine (Entails.of_eq (pointsTo_biUnion _ _ (upV_disj 4))).trans (bigSep_mono fun k hk => ?_)
    rw [List.mem_toFinset, mem_upV] at hk
    rw [spot_V d k hk.1]
    show (vPts d g (chunkRect k).set fullShare : sProp 𝕄) ⊢ iprop(∃ f : S2048x1024.Idx → Elt F .f32, vPts d f (chunkRect k).set fullShare)
    iintro H
    iexists g
    iexact H

end Cert.Attn
-- ==== Proof.Comm.lean ====
/-
# The exchange, as the body runs it

The opening handshake, device 0's own copies, the exchange before each stage, and the waits at the end. `Pend n d` is what
device `d` holds when the chunks of the stages below `n` have arrived.
-/
module

public import proofs.«01_k».proof.Proof.Rows

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (bigSepL_perm)

variable {F : FTy → Type} [FloatOps F] [Named F]

local notation "𝕄" => MT nD τ sig Unit (Elt F) ℕ UU ℕ

variable (m : (ℓ : Loc nD τ sig) → Buf (Elt F) ℓ)

theorem eqv {P Q : sProp 𝕄} (h : P ⊢ Q) (h' : Q ⊢ P) : P = Q := BI.Entails.antisymm h h'

/-! ## The handshake -/

/-- What device `d` needs to signal device `q`. -/
def Greet (d q : Dev nD) : sProp 𝕄 := iprop(dutyTok ER (barCell q) 0 d ∗ barPay q d)

theorem wp_hello (K : Dev nD × Fin 51 → ℕ) (d : Dev nD) (l : List (Fin 16)) : ∀ (qs : List (Dev nD)) (W : Waits sig Unit),
    iprop(Know m K ∗ owes (d : Thread nD τ) (osum (barsL qs ++ sendsL d l)) W ∗ bigSepL qs (Greet (F := F) d)
        ∗ atPos ER (barCell d) 0 ∅ 0 ∗ cred (tallyAt (barCell d) () 8))
      ⊢ wpd d (helloP qs) fun _ => iprop((∃ W, owes (d : Thread nD τ) (osum (sendsL d l)) W) ∗ atPos ER (barCell d) 1 ∅ 0
          ∗ bigSep Finset.univ fun i : Fin 8 => barPay (F := F) d i) := by
  intro qs
  induction qs with
  | nil =>
    intro W
    rw [bigSepL_nil]
    iintro ⟨#HK, HO, -, Hat, Hc⟩
    unfold helloP
    simp only [semWaitWord]
    iapply (Rounds.wp_wait_rest_token 𝒱₀ ER (sched m) (d : Thread nD τ) none (κ := K (d, 0))
        (wpE_semWait_eq 𝒱₀ (d : Thread nD τ) none Set.univ) (Set.mem_univ _) () (O := osum (sendsL d l)) (W := W) (R := 0) (m := 0) (T := ∅)
        (by rw [expect_bar]; decide)) $$ [Hc HO Hat]
    · isplitr; · iapply (inv_bar m K d); iexact HK
      isplitl [Hc]; · iexact Hc
      isplitl [HO]; · iexact HO
      isplitr; · iapply (mayWait_bar d l); iapply (know_lev m K); iexact HK
      iexact Hat
    iintro ⟨HO, Hat, -, Hp⟩
    iapply wpd_ret
    isplitl [HO]; · iexists _; iexact HO
    isplitl [Hat]; · iexact Hat
    iapply (Entails.of_eq (rest_bar m d)) $$ Hp
  | cons q qs ih =>
    intro W
    rw [bigSepL_cons']
    unfold Greet
    iintro ⟨#HK, HO, ⟨⟨Ht, Hp⟩, Hl⟩, Hat, Hc⟩
    unfold helloP
    rw [wpd_bind]
    simp only [semSignalWord]
    iapply (Rounds.wp_signal 𝒱₀ ER (sched m) (d : Thread nD τ) none (dst := (q : Thread nD τ)) (κ := K (q, 0)) (d := d)
        (by rw [duties_bar]; exact Finset.mem_univ _) ((amount_bar m q d).trans (by decide)) () (osum (barsL qs ++ sendsL d l)) rfl) $$ [HO Ht Hp]
    · isplitr; · iapply (inv_bar m K q); iexact HK
      isplitl [HO]; · iexact HO
      isplitl [Ht]; · iexact Ht
      isplitl [Hp]; · rw [pay_bar]; iexact Hp
      iapply (reached_bar m K q); iexact HK
    iintro HO
    iapply wpd_ret
    iapply (ih W)
    isplitr; · iexact HK
    isplitl [HO]; · iexact HO
    isplitl [Hl]; · unfold Greet; iexact Hl
    isplitl [Hat]; · iexact Hat
    iexact Hc

/-! ## Device 0's own copies -/

/-- The halves of its arguments device 0 copies from. -/
def kSrc : sProp 𝕄 := khM.view.loc ((0 : Dev nD) : Thread nD τ) ↦[Finset.univ]{fullShare.right} m (((0 : Dev nD) : Thread nD τ).loc main_arg2)
def vSrc : sProp 𝕄 := vhM.view.loc ((0 : Dev nD) : Thread nD τ) ↦[Finset.univ]{fullShare.right} m (((0 : Dev nD) : Thread nD τ).loc main_arg3)

theorem NL_K : koM.view.dmaCredit = NL := rfl
theorem NL_V : voM.view.dmaCredit = NL := by unfold NL; rfl
theorem whole_pts (d : Dev nD) (b : Ref sig .tc) (q : PosShare TreeShare) (f : Buf (Elt F) ((View.whole b).loc (d : Thread nD τ))) :
    ((View.whole b).loc (d : Thread nD τ) ↦[(View.whole b).set]{q} f : sProp 𝕄) = ((View.whole b).loc (d : Thread nD τ) ↦[Finset.univ]{q} f) :=
  congrArg (fun S => ((View.whole b).loc (d : Thread nD τ) ↦[S]{q} f : sProp 𝕄)) (View.set_whole b)

theorem copied_K : (copied m 0 : sProp 𝕄) = iprop(kPts 0 (KB m) Finset.univ fullShare ∗ kSrc m) := by
  unfold copied kPts kSrc; rw [if_pos rfl]; exact congrArg₂ (fun A B : sProp 𝕄 => iprop(A ∗ B)) (whole_pts 0 cc0_scratch0 _ _) (whole_pts 0 main_arg2 _ _)
theorem copied_V : (copied m 1 : sProp 𝕄) = iprop(vPts 0 (VB m) Finset.univ fullShare ∗ vSrc m) := by
  unfold copied vPts vSrc; rw [if_neg (by decide)]; exact congrArg₂ (fun A B : sProp 𝕄 => iprop(A ∗ B)) (whole_pts 0 cc0_scratch1 _ _) (whole_pts 0 main_arg3 _ _)

theorem wp_copyK (K : Dev nD × Fin 51 → ℕ) (f : S2048x1024.Idx → Elt F .f32) :
    iprop(Know m K ∗ kSrc m ∗ kPts 0 f Finset.univ fullShare ∗ dutyTok ER (lCell 0 0) 0 0)
      ⊢ wpd 0 (copyP 0) fun _ => cred (tallyAt (lCell 0 0) () NL) := by
  unfold kSrc kPts copyP
  rw [if_pos rfl]
  iintro ⟨#HK, Hs, Hd, Ht⟩
  iapply (Rounds.wp_copy_pointsTo 𝒱₀ ER (sched m) ((0 : Dev nD) : Thread nD τ) none (κ := K (0, iL 0)) (r := 0) (d := 0) (q := fullShare.right)
    (fs := m (((0 : Dev nD) : Thread nD τ).loc main_arg2)) (fd := f)
    (by rw [duties_L]; exact Finset.mem_singleton_self _) () NL (show koM.view.amount (.dma (lS 0)) = NL from NL_K) (amount_L m 0 0 0)
    (by rw [pay_L]; unfold copied; rw [if_pos rfl]; exact Entails.of_eq (congrArg (fun g => (iprop((koM.view.loc ((0 : Dev nD) : Thread nD τ) ↦[koM.view.set]{fullShare} g) ∗ _) : sProp 𝕄)) (View.write_whole_univ _ _ _)))) $$ [Hs Hd Ht]
  · isplitr; · iapply (inv_L m K 0 0); iexact HK
    isplitl [Hs]; · iapply (Entails.of_eq (whole_pts 0 main_arg2 _ _).symm); iexact Hs
    isplitl [Hd]; · iapply (Entails.of_eq (whole_pts 0 cc0_scratch0 _ _).symm); iexact Hd
    isplitl [Ht]; · iexact Ht
    iapply (reached_L m K 0 0); iexact HK
  iintro H
  iapply wpd_ret
  iexact H
theorem wp_copyV (K : Dev nD × Fin 51 → ℕ) (f : S2048x1024.Idx → Elt F .f32) :
    iprop(Know m K ∗ vSrc m ∗ vPts 0 f Finset.univ fullShare ∗ dutyTok ER (lCell 1 0) 0 0)
      ⊢ wpd 0 (copyP 1) fun _ => cred (tallyAt (lCell 1 0) () NL) := by
  unfold vSrc vPts copyP
  rw [if_neg (by decide)]
  iintro ⟨#HK, Hs, Hd, Ht⟩
  iapply (Rounds.wp_copy_pointsTo 𝒱₀ ER (sched m) ((0 : Dev nD) : Thread nD τ) none (κ := K (0, iL 1)) (r := 0) (d := 0) (q := fullShare.right)
    (fs := m (((0 : Dev nD) : Thread nD τ).loc main_arg3)) (fd := f)
    (by rw [duties_L]; exact Finset.mem_singleton_self _) () NL (show voM.view.amount (.dma (lS 1)) = NL from NL_V) (amount_L m 0 1 0)
    (by rw [pay_L]; unfold copied; rw [if_neg (by decide)]; exact Entails.of_eq (congrArg (fun g => (iprop((voM.view.loc ((0 : Dev nD) : Thread nD τ) ↦[voM.view.set]{fullShare} g) ∗ _) : sProp 𝕄)) (View.write_whole_univ _ _ _)))) $$ [Hs Hd Ht]
  · isplitr; · iapply (inv_L m K 0 1); iexact HK
    isplitl [Hs]; · iapply (Entails.of_eq (whole_pts 0 main_arg3 _ _).symm); iexact Hs
    isplitl [Hd]; · iapply (Entails.of_eq (whole_pts 0 cc0_scratch1 _ _).symm); iexact Hd
    isplitl [Ht]; · iexact Ht
    iapply (reached_L m K 0 1); iexact HK
  iintro H
  iapply wpd_ret
  iexact H

theorem wp_copied (K : Dev nD × Fin 51 → ℕ) (j : Fin 2) :
    iprop(Know m K ∗ cred (tallyAt (lCell j 0) () NL) ∗ (∃ W, owes ((0 : Dev nD) : Thread nD τ) 0 W) ∗ atPos ER (lCell j 0) 0 ∅ 0)
      ⊢ wpd 0 (copiedP j) fun _ => iprop((∃ W, owes ((0 : Dev nD) : Thread nD τ) 0 W) ∗ atPos ER (lCell j 0) 1 ∅ 0 ∗ copied m j) := by
  iintro ⟨#HK, Hc, ⟨%W, HO⟩, Hat⟩
  unfold copiedP
  match j with
  | 0 =>
    rw [if_pos rfl]
    iapply (Rounds.wp_wait_rest_token 𝒱₀ ER (sched m) ((0 : Dev nD) : Thread nD τ) none (κ := K (0, iL 0))
        (wpE_waitDma2_eq 𝒱₀ ((0 : Dev nD) : Thread nD τ) none Set.univ) (Set.mem_univ _) () (O := 0) (W := W) (R := 0) (m := 0) (T := ∅)
        (by rw [expect_L, Nat.zero_add, NL_K])) $$ [Hc HO Hat]
    · isplitr; · iapply (inv_L m K 0 0); iexact HK
      isplitl [Hc]; · rw [NL_K]; iexact Hc
      isplitl [HO]; · iexact HO
      isplitr; · rw [MayWait_zero]; iempintro
      iexact Hat
    iintro ⟨HO, Hat, -, Hp⟩
    iapply wpd_ret
    isplitl [HO]; · iexists _; iexact HO
    isplitl [Hat]; · iexact Hat
    iapply (Entails.of_eq (rest_L m 0)) $$ Hp
  | 1 =>
    rw [if_neg (by decide)]
    iapply (Rounds.wp_wait_rest_token 𝒱₀ ER (sched m) ((0 : Dev nD) : Thread nD τ) none (κ := K (0, iL 1))
        (wpE_waitDma2_eq 𝒱₀ ((0 : Dev nD) : Thread nD τ) none Set.univ) (Set.mem_univ _) () (O := 0) (W := W) (R := 0) (m := 0) (T := ∅)
        (by rw [expect_L, Nat.zero_add, NL_V])) $$ [Hc HO Hat]
    · isplitr; · iapply (inv_L m K 0 1); iexact HK
      isplitl [Hc]; · rw [NL_V]; iexact Hc
      isplitl [HO]; · iexact HO
      isplitr; · rw [MayWait_zero]; iempintro
      iexact Hat
    iintro ⟨HO, Hat, -, Hp⟩
    iapply wpd_ret
    isplitl [HO]; · iexists _; iexact HO
    isplitl [Hat]; · iexact Hat
    iapply (Entails.of_eq (rest_L m 1)) $$ Hp

/-- What device 0 starts the exchange with; -/
def Begin : sProp 𝕄 :=
  iprop((∃ W, owes ((0 : Dev nD) : Thread nD τ) (osum (sendsL 0 chunks)) W) ∗ bigSepL chunks (Ready m)
    ∗ (∃ f, kPts 0 f Finset.univ fullShare) ∗ (∃ f, vPts 0 f Finset.univ fullShare) ∗ kSrc m ∗ vSrc m
    ∗ dutyTok ER (lCell 0 0) 0 0 ∗ dutyTok ER (lCell 1 0) 0 0 ∗ atPos ER (lCell 0 0) 0 ∅ 0 ∗ atPos ER (lCell 1 0) 0 ∅ 0
    ∗ bigSepL chunks fun k => iprop(atPos ER (rCell 0 k) 0 ∅ 0 ∗ unsent (F := F) 0 k))
/-- what its own copies leave besides the buffers. -/
def Copies : sProp 𝕄 := iprop(kSrc m ∗ vSrc m ∗ atPos ER (lCell 0 0) 1 ∅ 0 ∗ atPos ER (lCell 1 0) 1 ∅ 0)

/-- A chunk's halves and its cells are the chunk held. -/
theorem held_zero : iprop(bigSepL chunks (fun k => chunkPts m 0 k fullShare) ∗ (bigSepL chunks fun k => owedBack 0 k (slots k 0))
      ∗ bigSepL chunks fun k => iprop(atPos ER (rCell 0 k) 0 ∅ 0 ∗ unsent (F := F) 0 k)) ⊢ (bigSepL chunks (Held m 0) : sProp 𝕄) := by
  generalize chunks = l
  induction l with
  | nil => rw [bigSepL_nil, bigSepL_nil, bigSepL_nil]; iintro -; iempintro
  | cons k l ih =>
    rw [bigSepL_cons', bigSepL_cons', bigSepL_cons', bigSepL_cons', chunk_halves]
    iintro ⟨⟨⟨Hq, Hr⟩, Hl⟩, ⟨Ho, Hol⟩, ⟨Ha, Hu⟩, Hal⟩
    isplitl [Hq Hr Ho Ha Hu]
    · unfold Held Tail spare roundR
      rw [if_pos rfl, if_pos rfl]
      isplitl [Hq]; · iexact Hq
      isplitl [Hr]; · iexact Hr
      isplitl [Ha]; · iexact Ha
      isplitl [Ho]; · iexact Ho
      iexact Hu
    iapply ih
    isplitl [Hl]; · iexact Hl
    isplitl [Hol]; · iexact Hol
    iexact Hal

theorem wp_open (K : Dev nD × Fin 51 → ℕ) :
    iprop(Know m K ∗ Begin m) ⊢ wpd 0 openP fun _ => iprop(((∃ W, owes ((0 : Dev nD) : Thread nD τ) 0 W) ∗ bigSepL chunks (Held m 0)) ∗ Copies m) := by
  unfold Begin Copies openP
  iintro ⟨#HK, ⟨%W, HO⟩, Hr, ⟨%f, Hk⟩, ⟨%g, Hv⟩, Hks, Hvs, Ht0, Ht1, Ha0, Ha1, Hu⟩
  rw [wpd_bind]
  ihave H := (wp_start m K chunks W) $$ [HO Hr]
  · isplitr; · iexact HK
    isplitl [HO]; · iexact HO
    iexact Hr
  iapply wpd_wand
  isplitl [H]; · iexact H
  iintro %x1 ⟨HO, Hb⟩
  rw [wpd_bind]
  ihave H := (wp_copyK m K f) $$ [Hks Hk Ht0]
  · isplitr; · iexact HK
    isplitl [Hks]; · iexact Hks
    isplitl [Hk]; · iexact Hk
    iexact Ht0
  iapply wpd_wand
  isplitl [H]; · iexact H
  iintro %x2 Hc0
  rw [wpd_bind]
  ihave H := (wp_copyV m K g) $$ [Hvs Hv Ht1]
  · isplitr; · iexact HK
    isplitl [Hvs]; · iexact Hvs
    isplitl [Hv]; · iexact Hv
    iexact Ht1
  iapply wpd_wand
  isplitl [H]; · iexact H
  iintro %x3 Hc1
  rw [wpd_bind]
  ihave H := (wp_copied m K 0) $$ [Hc0 HO Ha0]
  · isplitr; · iexact HK
    isplitl [Hc0]; · iexact Hc0
    isplitl [HO]; · iexists W; iexact HO
    iexact Ha0
  iapply wpd_wand
  isplitl [H]; · iexact H
  iintro %x4 ⟨HO, Ha0, Hp0⟩
  ihave H := (wp_copied m K 1) $$ [Hc1 HO Ha1]
  · isplitr; · iexact HK
    isplitl [Hc1]; · iexact Hc1
    isplitl [HO]; · iexact HO
    iexact Ha1
  iapply wpd_wand
  isplitl [H]; · iexact H
  iintro %x5 ⟨HO, Ha1, Hp1⟩
  ihave Hp0 := (Entails.of_eq (copied_K m)) $$ Hp0
  ihave Hp1 := (Entails.of_eq (copied_V m)) $$ Hp1
  icases Hp0 with ⟨Hk, Hks⟩
  icases Hp1 with ⟨Hv, Hvs⟩
  isplitl [HO Hk Hv Hb Hu]
  · isplitl [HO]; · iexact HO
    iapply (held_zero m)
    isplitl [Hk Hv]
    · iapply (Entails.of_eq (chunks_rows m 0 fullShare).symm)
      isplitl [Hk]; · iexact Hk
      iexact Hv
    isplitl [Hb]; · iexact Hb
    iexact Hu
  isplitl [Hks]; · iexact Hks
  isplitl [Hvs]; · iexact Hvs
  isplitl [Ha0]; · iexact Ha0
  iexact Ha1

/-! ## The exchange before a stage -/

/-- Device `d` once the chunks of the stages below `n` have arrived. (All of device 0's are there from the start.) -/
def Pend (n : ℕ) (d : Dev nD) : sProp 𝕄 :=
  iprop((∃ W, owes (d : Thread nD τ) (if d = 0 then 0 else osum (sendsL d (todo n d))) W) ∗ bigSepL (done n d) (Held m d)
    ∗ bigSepL (todo n d) fun k => if d = 0 then Held m d k else Awaited d k)

theorem done_todo : ∀ n : Fin 5, (done n.val 0 ++ todo n.val 0).Perm chunks := by decide
theorem done_todo_nodup : ∀ n : Fin 5, (done n.val 0 ++ todo n.val 0).Nodup := by decide

theorem pend_zero (n : Fin 5) : Pend m n.val 0 = iprop((∃ W, owes ((0 : Dev nD) : Thread nD τ) 0 W) ∗ bigSepL chunks (Held m 0)) := by
  unfold Pend
  rw [if_pos rfl]
  simp only [if_true]
  rw [← bigSepL_append, bigSepL_perm (done_todo n) (done_todo_nodup n)]

theorem pend_free (n : Fin 4) (d : Dev nD) : Pend m n.val d ⊢ Pend m (if d.val < 1 then n.val + 1 else n.val) d := by
  by_cases h : d.val < 1
  · have e : d = 0 := Fin.ext (Nat.lt_one_iff.mp h)
    subst e
    rw [if_pos h]
    exact Entails.of_eq ((pend_zero m n.castSucc).trans (pend_zero m n.succ).symm)
  · rw [if_neg h]

theorem todo_step : ∀ (n : Fin 4) (d : Dev nD), todo n.val d = ord n.val d ++ todo (n.val + 1) d := by decide
theorem done_step : ∀ (n : Fin 4) (d : Dev nD), done (n.val + 1) d = done n.val d ++ ord n.val d := by decide
theorem okL_from : ∀ (n : Fin 5) (d : Dev nD), okL d (todo n.val d) := by decide

theorem wp_stage (K : Dev nD × Fin 51 → ℕ) (n : Fin 4) (d : Dev nD) (hd : d ≠ 0) :
    iprop(Know m K ∗ Pend m n.val d) ⊢ wpd d (passP d (ord n.val d)) fun _ => Pend m (n.val + 1) d := by
  unfold Pend
  simp only [if_neg hd]
  rw [todo_step, done_step, bigSepL_append, bigSepL_append]
  iintro ⟨#HK, HO, Hd, Ho, Ht⟩
  ihave H := (wp_pass m K d hd (todo (n.val + 1) d) (ord n.val d) (by rw [← todo_step]; exact okL_from n.castSucc d)) $$ [HO Ho]
  · isplitr; · iexact HK
    isplitl [HO]; · iexact HO
    iexact Ho
  iapply wpd_wand
  isplitl [H]; · iexact H
  iintro %x ⟨HO, Ho⟩
  isplitl [HO]; · iexact HO
  isplitl [Hd Ho]
  · isplitl [Hd]; · iexact Hd
    iexact Ho
  iexact Ht

theorem wp_seg (K : Dev nD × Fin 51 → ℕ) (n : Fin 4) (a b : ℕ) (ha : 1 ≤ a) (hab : a ≤ b) (d : Dev nD) :
    iprop(Know m K ∗ Pend m (if d.val < a then n.val + 1 else n.val) d)
      ⊢ wpd d (segP n.val a b d) fun _ => Pend m (if d.val < b then n.val + 1 else n.val) d := by
  unfold segP
  by_cases h : a ≤ d.val ∧ d.val < b
  · rw [if_pos h, if_neg (by omega), if_pos h.2]
    exact wp_stage m K n d (fun e => by rw [e] at h; exact absurd (le_trans ha h.1) (by decide))
  · rw [if_neg h]
    have e : (if d.val < a then n.val + 1 else n.val) = if d.val < b then n.val + 1 else n.val := by
      by_cases h1 : d.val < a
      · rw [if_pos h1, if_pos (by omega)]
      · rw [if_neg h1, if_neg (by omega)]
    rw [e]
    iintro ⟨-, H⟩
    iapply wpd_pure
    iexact H

/-! ## The rows a stage reads -/

theorem bigSepL_sep2 {I : Type} (l : List I) (A B : I → sProp 𝕄) :
    (bigSepL l fun k => iprop(A k ∗ B k)) = iprop(bigSepL l A ∗ bigSepL l B) := by
  induction l with
  | nil =>
    rw [bigSepL_nil, bigSepL_nil, bigSepL_nil]
    refine eqv ?_ ?_
    · iintro -; isplitr <;> iempintro
    · iintro -; iempintro
  | cons k l ih =>
    rw [bigSepL_cons', bigSepL_cons', bigSepL_cons', ih]
    refine eqv ?_ ?_
    · iintro ⟨⟨Ha, Hb⟩, Hc, Hd⟩
      isplitl [Ha Hc]
      · isplitl [Ha]; · iexact Ha
        iexact Hc
      isplitl [Hb]; · iexact Hb
      iexact Hd
    · iintro ⟨⟨Ha, Hc⟩, Hb, Hd⟩
      isplitl [Ha Hb]
      · isplitl [Ha]; · iexact Ha
        iexact Hb
      isplitl [Hc]; · iexact Hc
      iexact Hd

/-- What `Pend` holds besides the rows; -/
def PendRest (n : ℕ) (d : Dev nD) : sProp 𝕄 :=
  iprop((∃ W, owes (d : Thread nD τ) (if d = 0 then 0 else osum (sendsL d (todo n d))) W) ∗ bigSepL (done n d) (Tail m d)
    ∗ bigSepL (todo n d) fun k => if d = 0 then Held m d k else Awaited d k)
/-- the rows. -/
theorem pend_rows (n : Fin 5) (d : Dev nD) :
    Pend m n.val d = iprop((kPts d (KB m) (SK n.val) qc ∗ vPts d (VB m) (SV n.val) qc) ∗ PendRest m n.val d) := by
  unfold Pend PendRest
  have e : (bigSepL (done n.val d) (Held m d) : sProp 𝕄)
      = iprop((kPts d (KB m) (SK n.val) qc ∗ vPts d (VB m) (SV n.val) qc) ∗ bigSepL (done n.val d) (Tail m d)) := by
    rw [← done_rows]; exact bigSepL_sep2 _ _ _
  rw [e]
  refine eqv ?_ ?_
  · iintro ⟨HO, ⟨Hk, Ht⟩, Hr⟩
    isplitl [Hk]; · iexact Hk
    isplitl [HO]; · iexact HO
    isplitl [Ht]; · iexact Ht
    iexact Hr
  · iintro ⟨Hk, HO, Ht, Hr⟩
    isplitl [HO]; · iexact HO
    isplitl [Hk Ht]
    · isplitl [Hk]; · iexact Hk
      iexact Ht
    iexact Hr

/-! ## The end -/

/-- Device `d` at the end: its forwards running, or all left. -/
def Ending (p : Prop) [Decidable p] (d : Dev nD) : sProp 𝕄 :=
  iprop((∃ W, owes (d : Thread nD τ) 0 W) ∗ bigSepL chunks (if p then Settled m d else Tail m d))

theorem all_perm : ∀ d : Dev nD, (done 4 d).Perm chunks := by decide
theorem pend_last (d : Dev nD) : PendRest m 4 d ⊢ Ending m (d.val < 0) d := by
  unfold PendRest Ending
  rw [if_neg (Nat.not_lt_zero _), ← bigSepL_perm (all_perm d) (done_nodup 4 d)]
  have e : (if d = 0 then 0 else osum (sendsL d (todo 4 d))) = (0 : CellTallies nD τ sig Unit) := by split <;> rfl
  rw [e]
  iintro ⟨HO, Ht, -⟩
  isplitl [HO]; · iexact HO
  iexact Ht

theorem wp_end (K : Dev nD × Fin 51 → ℕ) (a b : ℕ) (hab : a ≤ b) (d : Dev nD) :
    iprop(Know m K ∗ Ending m (d.val < a) d) ⊢ wpd d (endP a b d) fun _ => Ending m (d.val < b) d := by
  unfold endP Ending
  by_cases h : a ≤ d.val ∧ d.val < b
  · rw [if_pos h, if_neg (by omega), if_pos h.2]
    by_cases hd : d = 0
    · subst hd
      rw [if_pos rfl]
      exact wp_leaveH m K chunks
    · rw [if_neg hd]
      exact wp_leave m K d hd chunks
  · rw [if_neg h]
    have e : (if d.val < a then Settled m d else Tail m d) = if d.val < b then Settled m d else Tail m d := by
      by_cases h1 : d.val < a
      · rw [if_pos h1, if_pos (by omega)]
      · rw [if_neg h1, if_neg (by omega)]
    rw [e]
    iintro ⟨-, H⟩
    iapply wpd_pure
    iexact H

end Cert.Attn
-- ==== Proof.Body.lean ====
/-
# The body of one device

The handshake, the exchange and the four stages of the computation put together: from what a device is given at launch to
the whole output.
-/
module

public import proofs.«01_k».proof.Proof.Comm

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (bigSepL_perm)

variable {F : FTy → Type} [FloatOps F] [Named F]

local notation "𝕄" => MT nD τ sig Unit (Elt F) ℕ UU ℕ

/-! ## The computation of a stage, in place -/

section Stage
variable (d : Dev nD) (s : Fin 4) (X : S1x2048x1024.Idx → Elt F .f32) (W WO : S1024x1024.Idx → Elt F .f32) (K V : S2048x1024.Idx → Elt F .f32)

/-- The buffers of the computation when `n` stages are done. -/
def Comp (n : ℕ) : sProp 𝕄 :=
  iprop(xPts d X ∗ wqPts d W ∗ woPts d WO ∗ (∃ Q, qPts d Q) ∗ scPts d (fun _ => True) ∗ cxPts d (fun _ => True) ∗ outPts d X W WO K V n)
/-- The rows stage `n - 1` reads. -/
def KV (n : ℕ) : sProp 𝕄 := iprop(kPts d K (SK n) qc ∗ vPts d V (SV n) qc)
/-- In stage `s`, the heads done. -/
def Mid : sProp 𝕄 :=
  iprop(xPts d X ∗ wqPts d W ∗ woPts d WO ∗ qPts d (qPay s (rowsOf s X) W) ∗ scPts d (fun _ => True)
    ∗ cxPts d (fun f => ∀ t' : Fin 8, t'.val < 8 → cxM.view.readAt (Elt F) (headRect t').toLoadRect f = headOf s t' (qPay s (rowsOf s X) W) K V)
    ∗ outPts d X W WO K V s.val)

theorem wp_heads {α : Type} (R : Prog (TpuEff nD τ sig (Elt F) Λ₀ .tc) α) (Q : α → sProp 𝕄) :
    iprop(Comp d X W WO K V s.val ∗ KV d K V (s.val + 1) ∗ ((Mid d s X W WO K V ∗ KV d K V (s.val + 1)) -∗ wpd d R Q))
      ⊢ wpd d (do frontP s (rowsOf s X); loopP s; R) Q := by
  unfold Comp KV Mid
  iintro ⟨⟨Hx, Hw, Hwo, ⟨%Q0, Hq⟩, Hs, Hc, Ho⟩, ⟨Hk, Hv⟩, HR⟩
  rw [wpd_bind]
  ihave H := (wp_front d s W Q0 (rowsOf s X)) $$ [Hw Hq]
  · isplitl [Hw]; · iexact Hw
    iexact Hq
  iapply wpd_wand
  isplitl [H]; · iexact H
  iintro %x ⟨Hw, Hq⟩
  rw [wpd_bind]
  ihave H := (wp_loop d s (qPay s (rowsOf s X) W) K V (SK (s.val + 1)) (SV (s.val + 1)) qc (fun t k h => kv_sub s k t h) (fun t k h => vv_sub s k t h)) $$ [Hq Hk Hv Hs Hc]
  · unfold Heads
    isplitl [Hq]; · iexact Hq
    isplitl [Hk]; · iexact Hk
    isplitl [Hv]; · iexact Hv
    isplitl [Hs]; · iexact Hs
    unfold cxPts
    icases Hc with ⟨%f, %hf, Hc⟩
    iexists f
    isplitr [Hc]
    · ipureintro; intro t ht; exact absurd ht (Nat.not_lt_zero _)
    · iexact Hc
  iapply wpd_wand
  isplitl [H]; · iexact H
  unfold Heads
  iintro %y ⟨Hq, Hk, Hv, Hs, Hc⟩
  iapply HR
  isplitl [Hx Hw Hwo Hq Hs Hc Ho]
  · isplitl [Hx]; · iexact Hx
    isplitl [Hw]; · iexact Hw
    isplitl [Hwo]; · iexact Hwo
    isplitl [Hq]; · iexact Hq
    isplitl [Hs]; · iexact Hs
    isplitl [Hc]; · iexact Hc
    iexact Ho
  isplitl [Hk]; · iexact Hk
  iexact Hv

theorem wp_out (n' : ℕ) (e : s.val + 1 = n') {α : Type} (R : Prog (TpuEff nD τ sig (Elt F) Λ₀ .tc) α) (Q : α → sProp 𝕄) :
    iprop(Mid d s X W WO K V ∗ (Comp d X W WO K V n' -∗ wpd d R Q)) ⊢ wpd d (do backP s; R) Q := by
  subst e
  unfold Comp Mid
  iintro ⟨⟨Hx, Hw, Hwo, Hq, Hs, Hc, Ho⟩, HR⟩
  rw [wpd_bind]
  ihave H := (wp_back d s X W WO K V) $$ [Hwo Hc Ho]
  · isplitl [Hwo]; · iexact Hwo
    isplitl [Hc]; · iexact Hc
    iexact Ho
  iapply wpd_wand
  isplitl [H]; · iexact H
  iintro %x ⟨Hwo, Hc, Ho⟩
  iapply HR
  isplitl [Hx]; · iexact Hx
  isplitl [Hw]; · iexact Hw
  isplitl [Hwo]; · iexact Hwo
  isplitl [Hq]; · iexists _; iexact Hq
  isplitl [Hs]; · iexact Hs
  isplitl [Hc]; · iexact Hc
  iexact Ho

theorem wp_get (n : ℕ) {α : Type} (R : Vec F S1x512x1024 .f32 → Prog (TpuEff nD τ sig (Elt F) Λ₀ .tc) α) (Q : α → sProp 𝕄) :
    iprop(Comp d X W WO K V n ∗ (Comp d X W WO K V n -∗ wpd d (R (rowsOf s X)) Q)) ⊢ wpd d (do let x ← rowsP s; R x) Q := by
  unfold Comp
  iintro ⟨⟨Hx, Hl⟩, HR⟩
  rw [wpd_bind]
  ihave H := (wp_rows d s X) $$ [Hx]
  · iexact Hx
  iapply wpd_wand
  isplitl [H]; · iexact H
  iintro %x ⟨%hx, Hx⟩
  subst hx
  iapply HR
  isplitl [Hx]; · iexact Hx
  iexact Hl

end Stage

variable (m : (ℓ : Loc nD τ sig) → Buf (Elt F) ℓ)

/-! ## What a device is given -/

/-- The rights to credit the cells of chunk `k`'s transfers; -/
def Rights (d : Dev nD) (k : Fin 16) : sProp 𝕄 :=
  bigSepL (slots k d) fun x => iprop(dutyTok ER (sCell x.1 d k) 0 0 ∗ dutyTok ER (rCell x.2 k) 0 0)
/-- a device's own side of every chunk; -/
def Needs (d : Dev nD) : sProp 𝕄 :=
  bigSepL chunks fun k => iprop(cred (tallyAt (rCell d k) () N) ∗ atPos ER (rCell d k) 0 ∅ 0 ∗ Rights d k ∗ unsent d k)
/-- device 0's. -/
def Needs0 : sProp 𝕄 :=
  iprop((bigSepL chunks fun k => iprop(hbmPts m k fullShare.left ∗ Rights 0 k))
    ∗ (∃ f, kPts 0 f Finset.univ fullShare) ∗ (∃ f, vPts 0 f Finset.univ fullShare) ∗ kSrc m ∗ vSrc m
    ∗ dutyTok ER (lCell 0 0) 0 0 ∗ dutyTok ER (lCell 1 0) 0 0 ∗ atPos ER (lCell 0 0) 0 ∅ 0 ∗ atPos ER (lCell 1 0) 0 ∅ 0
    ∗ bigSepL chunks fun k => iprop(atPos ER (rCell 0 k) 0 ∅ 0 ∗ unsent (F := F) 0 k))

/-- The places a device's signals brought it, by chunk. -/
def Places (d : Dev nD) : sProp 𝕄 := bigSepL chunks fun k => bigSepL (slots k d) fun x => spot x.2 k

theorem chunks_univ : (Finset.univ : Finset (Fin 16)) = chunks.toFinset := by decide

theorem slots_kids (d : Dev nD) (k : Fin 16) (Φ : Dev nD → sProp 𝕄) : (bigSepL (slots k d) fun x => Φ x.2) = bigSepL (kids k d) Φ := by
  rcases kids_cases k d with h | ⟨a, h⟩ | ⟨a, b, h⟩
  · rw [slots_nil h, h, bigSepL_nil, bigSepL_nil]
  · rw [slots_one h, h, bigSepL_cons', bigSepL_cons', bigSepL_nil, bigSepL_nil]
  · rw [slots_two h, h, bigSepL_cons', bigSepL_cons', bigSepL_cons', bigSepL_cons', bigSepL_nil, bigSepL_nil]

/-- A product over all devices of what only a chunk's receivers have is the product over the receivers. -/
theorem over_kids (d : Dev nD) (k : Fin 16) (Φ : Dev nD → sProp 𝕄) :
    (bigSep Finset.univ fun j : Dev nD => if j ∈ kids k d then Φ j else iprop(emp)) = bigSepL (kids k d) Φ := by
  refine (bigSep_filter Finset.univ (fun j => j ∈ kids k d) Φ).symm.trans (bigSep_eq_bigSepL_of_eq (kids k d) ?_ (kids_nodup k d) Φ)
  ext j
  rw [Finset.mem_filter, List.mem_toFinset]
  exact ⟨fun h => h.2, fun h => ⟨Finset.mem_univ _, h⟩⟩

theorem places (d : Dev nD) : (bigSep Finset.univ fun i : Fin 8 => barPay (F := F) d i) = Places d := by
  unfold barPay Places
  rw [bigSep_univ_comm, bigSep_eq_bigSepL_of_eq chunks chunks_univ chunks_nodup]
  refine congrArg (bigSepL chunks) (funext fun k => ?_)
  rw [slots_kids d k fun j => spot j k]
  exact over_kids d k fun j => spot j k

theorem rights_eq (d : Dev nD) (k : Fin 16) :
    (rights d k (slots k d) : sProp 𝕄) = iprop(Rights d k ∗ bigSepL (slots k d) fun x => spot x.2 k) := by
  unfold rights Rights
  rw [← bigSepL_sep2]
  refine congrArg (bigSepL (slots k d)) (funext fun x => ?_)
  refine eqv ?_ ?_
  · iintro ⟨Ha, Hb, Hc⟩
    isplitl [Ha Hb]
    · isplitl [Ha]; · iexact Ha
      iexact Hb
    iexact Hc
  · iintro ⟨⟨Ha, Hb⟩, Hc⟩
    isplitl [Ha]; · iexact Ha
    isplitl [Hb]; · iexact Hb
    iexact Hc

theorem todo_perm : ∀ d : Dev nD, (todo 0 d).Perm chunks := by decide
theorem todo_nodup : ∀ d : Dev nD, (todo 0 d).Nodup := by decide

/-- A device other than 0, its signals received, awaits all chunks; -/
theorem pend_intro (d : Dev nD) (hd : d ≠ 0) :
    iprop((∃ W, owes (d : Thread nD τ) (osum (sendsL d (sendOrd d))) W) ∗ Needs d ∗ Places d) ⊢ Pend m 0 d := by
  have e : (bigSepL (todo 0 d) (fun k => if d = 0 then Held m d k else Awaited d k) : sProp 𝕄) = iprop(Needs d ∗ Places d) := by
    rw [bigSepL_perm (todo_perm d) (todo_nodup d)]
    unfold Needs Places
    rw [← bigSepL_sep2]
    refine congrArg (bigSepL chunks) (funext fun k => ?_)
    rw [if_neg hd]
    unfold Awaited
    rw [rights_eq]
    refine eqv ?_ ?_
    · iintro ⟨Ha, Hb, ⟨Hc, Hd⟩, He⟩
      isplitl [Ha Hb Hc He]
      · isplitl [Ha]; · iexact Ha
        isplitl [Hb]; · iexact Hb
        isplitl [Hc]; · iexact Hc
        iexact He
      iexact Hd
    · iintro ⟨⟨Ha, Hb, Hc, He⟩, Hd⟩
      isplitl [Ha]; · iexact Ha
      isplitl [Hb]; · iexact Hb
      isplitl [Hc Hd]
      · isplitl [Hc]; · iexact Hc
        iexact Hd
      iexact He
  unfold Pend
  rw [e, if_neg hd, show done 0 d = [] from rfl, bigSepL_nil, show sendOrd d = todo 0 d from if_neg hd]
  iintro ⟨HO, H⟩
  isplitl [HO]; · iexact HO
  isplitr; · iempintro
  iexact H
/-- device 0 is ready to begin. -/
theorem begin_intro :
    iprop((∃ W, owes ((0 : Dev nD) : Thread nD τ) (osum (sendsL 0 (sendOrd 0))) W) ∗ Needs0 m ∗ Places 0) ⊢ Begin m := by
  have e : (bigSepL chunks (Ready m) : sProp 𝕄) = iprop((bigSepL chunks fun k => iprop(hbmPts m k fullShare.left ∗ Rights 0 k)) ∗ Places 0) := by
    unfold Places
    rw [← bigSepL_sep2]
    refine congrArg (bigSepL chunks) (funext fun k => ?_)
    unfold Ready
    rw [rights_eq]
    refine eqv ?_ ?_
    · iintro ⟨Ha, Hb, Hc⟩
      isplitl [Ha Hb]
      · isplitl [Ha]; · iexact Ha
        iexact Hb
      iexact Hc
    · iintro ⟨⟨Ha, Hb⟩, Hc⟩
      isplitl [Ha]; · iexact Ha
      isplitl [Hb]; · iexact Hb
      iexact Hc
  unfold Begin Needs0
  rw [e, show sendOrd 0 = chunks from if_pos rfl]
  iintro ⟨HO, ⟨Hr, Hl⟩, Hp⟩
  isplitl [HO]; · iexact HO
  isplitl [Hr Hp]
  · isplitl [Hr]; · iexact Hr
    iexact Hp
  iexact Hl

/-- A device's own side, whichever it is; -/
def Setup (d : Dev nD) : sProp 𝕄 := if d = 0 then Needs0 m else Needs d
/-- what is left over when its exchange is done. -/
def Left (d : Dev nD) : sProp 𝕄 := if d = 0 then Copies m else iprop(emp)

theorem wp_exch (K : Dev nD × Fin 51 → ℕ) (d : Dev nD) :
    iprop(Know m K ∗ (∃ W, owes (d : Thread nD τ) (osum (sendsL d (sendOrd d))) W) ∗ Setup m d ∗ Places d)
      ⊢ wpd d (exchP d) fun _ => iprop(Pend m 1 d ∗ Left m d) := by
  unfold Setup Left exchP
  by_cases hd : d = 0
  · subst hd
    rw [if_pos rfl, if_pos rfl, if_pos rfl]
    have h := pend_zero m 1
    rw [show ((1 : Fin 5).val) = 1 from rfl] at h
    rw [h]
    iintro ⟨#HK, H⟩
    ihave H := (begin_intro m) $$ [H]
    · iexact H
    iapply (wp_open m K)
    isplitr; · iexact HK
    iexact H
  · rw [if_neg hd, if_neg hd, if_neg hd]
    iintro ⟨#HK, H⟩
    ihave H := (pend_intro m d hd) $$ [H]
    · iexact H
    ihave H := (wp_stage m K 0 d hd) $$ [H]
    · isplitr; · iexact HK
      iexact H
    iapply wpd_wand
    isplitl [H]; · iexact H
    iintro %x H
    isplitl [H]; · iexact H
    iempintro

/-! ## The body -/

section Whole
variable (K : Dev nD × Fin 51 → ℕ) (d : Dev nD) (X : S1x2048x1024.Idx → Elt F .f32) (W WO : S1024x1024.Idx → Elt F .f32)

abbrev CompM (n : ℕ) : sProp 𝕄 := Comp d X W WO (KB m) (VB m) n

theorem pend_kv (n : Fin 5) : Pend m n.val d = iprop(KV d (KB m) (VB m) n.val ∗ PendRest m n.val d) := pend_rows m n d

/-- A stage whose chunks have arrived, all but the output; -/
theorem wp_heads' (s : Fin 4) (n n' : ℕ) (e : s.val = n) (e' : n + 1 = n') {α : Type} (R : Prog (TpuEff nD τ sig (Elt F) Λ₀ .tc) α) (Q : α → sProp 𝕄) :
    iprop(CompM m d X W WO n ∗ Pend m n' d ∗ ((Mid d s X W WO (KB m) (VB m) ∗ Pend m n' d) -∗ wpd d R Q))
      ⊢ wpd d (do frontP s (rowsOf s X); loopP s; R) Q := by
  subst e
  subst e'
  have h := pend_kv m d s.succ
  rw [show s.succ.val = s.val + 1 from rfl] at h
  rw [h]
  iintro ⟨Hc, ⟨Hk, Hp⟩, HR⟩
  iapply (wp_heads d s X W WO (KB m) (VB m) R Q)
  isplitl [Hc]; · iexact Hc
  isplitl [Hk]; · iexact Hk
  iintro ⟨Hm, Hk⟩
  iapply HR
  isplitl [Hm]; · iexact Hm
  isplitl [Hk]; · iexact Hk
  iexact Hp

/-- A stretch of devices exchanges a stage's chunks. -/
theorem wp_seg' (n : Fin 4) (a b : ℕ) (ha : 1 ≤ a) (hab : a ≤ b) (l l' : ℕ) (e : n.val = l) (e' : l + 1 = l') {α : Type} (R : Prog (TpuEff nD τ sig (Elt F) Λ₀ .tc) α) (Q : α → sProp 𝕄) :
    iprop(Know m K ∗ Pend m (if d.val < a then l' else l) d ∗ (Pend m (if d.val < b then l' else l) d -∗ wpd d R Q))
      ⊢ wpd d (do segP l a b d; R) Q := by
  subst e
  subst e'
  iintro ⟨#HK, Hp, HR⟩
  rw [wpd_bind]
  ihave H := (wp_seg m K n a b ha hab d) $$ [Hp]
  · isplitr; · iexact HK
    iexact Hp
  iapply wpd_wand
  isplitl [H]; · iexact H
  iintro %x Hp
  iapply HR
  iexact Hp

theorem wp_segN (n : Fin 4) (a b : ℕ) (ha : 1 ≤ a) (hab : a ≤ b) (l l' : ℕ) (e : n.val = l) (e' : l + 1 = l') :
    iprop(Know m K ∗ Pend m (if d.val < a then l' else l) d) ⊢ wpd d (segP l a b d) fun _ => Pend m (if d.val < b then l' else l) d := by
  subst e
  subst e'
  exact wp_seg m K n a b ha hab d

theorem seg_top (l l' : ℕ) : Pend m (if d.val < 8 then l' else l) d = Pend m l' d := by rw [if_pos d.isLt]
theorem seg_bot (n : Fin 4) (l l' : ℕ) (e : n.val = l) (e' : l + 1 = l') : Pend m l d ⊢ Pend m (if d.val < 1 then l' else l) d := by
  subst e
  subst e'
  exact pend_free m n d

/-- What the body is given, -/
def Entry : sProp 𝕄 :=
  iprop((∃ W, owes (d : Thread nD τ) (O₀ d) W) ∗ bigSepL devs (Greet (F := F) d) ∗ atPos ER (barCell d) 0 ∅ 0
    ∗ cred (tallyAt (barCell d) () 8) ∗ Setup m d)
/-- and what it leaves. -/
def Exit : sProp 𝕄 :=
  iprop(KV d (KB m) (VB m) 4 ∗ Ending m (d.val < 8) d ∗ atPos ER (barCell d) 1 ∅ 0 ∗ Left m d)

theorem wp_whole : iprop(Know m K ∗ Entry m d ∗ CompM m d X W WO 0) ⊢ wpd d bodyP fun _ => iprop(CompM m d X W WO 4 ∗ Exit m d) := by
  rw [wpd_told, told_eq]
  unfold Entry O₀
  iintro ⟨#HK, ⟨⟨%W0, HO⟩, Hg, Hat, Hc, Hs⟩, Hcm⟩
  -- the handshake
  rw [wpd_bind]
  ihave H := (wp_hello m K d (sendOrd d) devs W0) $$ [HO Hg Hat Hc]
  · isplitr; · iexact HK
    isplitl [HO]; · iexact HO
    isplitl [Hg]; · iexact Hg
    isplitl [Hat]; · iexact Hat
    iexact Hc
  iapply wpd_wand
  isplitl [H]; · iexact H
  iintro %x0 ⟨HO, Hat, Hp⟩
  ihave Hp := (Entails.of_eq (places d)) $$ Hp
  -- the first exchange
  rw [wpd_bind]
  ihave H := (wp_exch m K d) $$ [HO Hs Hp]
  · isplitr; · iexact HK
    isplitl [HO]; · iexact HO
    isplitl [Hs]; · iexact Hs
    iexact Hp
  iapply wpd_wand
  isplitl [H]; · iexact H
  iintro %x1 ⟨Hp, Hleft⟩
  -- stage 0
  iapply (wp_get d 0 X W WO (KB m) (VB m) 0)
  isplitl [Hcm]; · iexact Hcm
  iintro Hcm
  rw [wpd_bind, p82_eq]
  iapply (wp_heads' m d X W WO 0 0 1 rfl rfl)
  isplitl [Hcm]; · iexact Hcm
  isplitl [Hp]; · iexact Hp
  iintro ⟨Hmid, Hp⟩
  iapply (wp_out d 0 X W WO (KB m) (VB m) 1 rfl)
  isplitl [Hmid]; · iexact Hmid
  iintro Hcm
  ihave Hp := (seg_bot m d 1 1 2 rfl rfl) $$ Hp
  iapply (wp_seg' m K d 1 1 5 (by decide) (by decide) 1 2 rfl rfl)
  isplitr; · iexact HK
  isplitl [Hp]; · iexact Hp
  iintro Hp
  iapply wpd_pure
  rw [wpd_bind, p83_eq]
  iapply (wp_seg' m K d 1 5 8 (by decide) (by decide) 1 2 rfl rfl)
  isplitr; · iexact HK
  isplitl [Hp]; · iexact Hp
  iintro Hp
  ihave Hp := (Entails.of_eq (seg_top m d 1 2)) $$ Hp
  -- stage 1
  iapply (wp_get d 1 X W WO (KB m) (VB m) 1)
  isplitl [Hcm]; · iexact Hcm
  iintro Hcm
  iapply (wp_heads' m d X W WO 1 1 2 rfl rfl)
  isplitl [Hcm]; · iexact Hcm
  isplitl [Hp]; · iexact Hp
  iintro ⟨Hmid, Hp⟩
  iapply (wp_out d 1 X W WO (KB m) (VB m) 2 rfl)
  isplitl [Hmid]; · iexact Hmid
  iintro Hcm
  ihave Hp := (seg_bot m d 2 2 3 rfl rfl) $$ Hp
  ihave H := (wp_segN m K d 2 1 2 (by decide) (by decide) 2 3 rfl rfl) $$ [Hp]
  · isplitr; · iexact HK
    iexact Hp
  iapply wpd_wand
  isplitl [H]; · iexact H
  iintro %x2 Hp
  rw [wpd_bind, p84_eq]
  iapply (wp_seg' m K d 2 2 8 (by decide) (by decide) 2 3 rfl rfl)
  isplitr; · iexact HK
  isplitl [Hp]; · iexact Hp
  iintro Hp
  ihave Hp := (Entails.of_eq (seg_top m d 2 3)) $$ Hp
  -- stage 2
  iapply (wp_get d 2 X W WO (KB m) (VB m) 2)
  isplitl [Hcm]; · iexact Hcm
  iintro Hcm
  iapply (wp_heads' m d X W WO 2 2 3 rfl rfl)
  isplitl [Hcm]; · iexact Hcm
  isplitl [Hp]; · iexact Hp
  iintro ⟨Hmid, Hp⟩
  iapply wpd_pure
  rw [wpd_bind, p85_eq]
  iapply (wp_out d 2 X W WO (KB m) (VB m) 3 rfl)
  isplitl [Hmid]; · iexact Hmid
  iintro Hcm
  ihave Hp := (seg_bot m d 3 3 4 rfl rfl) $$ Hp
  ihave H := (wp_segN m K d 3 1 8 (by decide) (by decide) 3 4 rfl rfl) $$ [Hp]
  · isplitr; · iexact HK
    iexact Hp
  iapply wpd_wand
  isplitl [H]; · iexact H
  iintro %x3 Hp
  ihave Hp := (Entails.of_eq (seg_top m d 3 4)) $$ Hp
  rw [wpd_bind, p86_eq]
  -- stage 3
  iapply (wp_get d 3 X W WO (KB m) (VB m) 3)
  isplitl [Hcm]; · iexact Hcm
  iintro Hcm
  iapply (wp_heads' m d X W WO 3 3 4 rfl rfl)
  isplitl [Hcm]; · iexact Hcm
  isplitl [Hp]; · iexact Hp
  iintro ⟨Hmid, Hp⟩
  iapply (wp_out d 3 X W WO (KB m) (VB m) 4 rfl)
  isplitl [Hmid]; · iexact Hmid
  iintro Hcm
  ihave Hp := (Entails.of_eq (show Pend m 4 d = iprop(KV d (KB m) (VB m) 4 ∗ PendRest m 4 d) from pend_kv m d 4)) $$ Hp
  icases Hp with ⟨Hkv, Hp⟩
  ihave Hp := (pend_last m d) $$ Hp
  -- the waits at the end
  ihave H := (wp_end m K 0 4 (by decide) d) $$ [Hp]
  · isplitr; · iexact HK
    iexact Hp
  iapply wpd_wand
  isplitl [H]; · iexact H
  iintro %x4 Hp
  ihave H := (wp_end m K 4 8 (by decide) d) $$ [Hp]
  · isplitr; · iexact HK
    iexact Hp
  iapply wpd_wand
  isplitl [H]; · iexact H
  iintro %x5 Hp
  isplitl [Hcm]; · iexact Hcm
  unfold Exit
  isplitl [Hkv]; · iexact Hkv
  isplitl [Hp]; · iexact Hp
  isplitl [Hat]; · iexact Hat
  iexact Hleft

end Whole

end Cert.Attn
-- ==== Proof.Deal.lean ====
/-
# Dealing out the launch

Every semaphore gets its invariant, and every device the positions of its own cells and the rights to the credits it is to
pay: a unit of every barrier, the transfers it sends, and its own copies.
-/
module

public import proofs.«01_k».proof.Proof.Body

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (bigSepL_perm)

variable {F : FTy → Type} [FloatOps F] [Named F]

local notation "𝕄" => MT nD τ sig Unit (Elt F) ℕ UU ℕ

variable (m : (ℓ : Loc nD τ sig) → Buf (Elt F) ℓ)

/-! ## A device's cells, listed -/

/-- The fifty-one cells of a device in the order of their use. -/
def cellList : List (Fin 51) := 0 :: (chunks.map iR ++ (chunks.map (iS 0) ++ (chunks.map (iS 1) ++ [iL 0, iL 1])))

theorem cellList_univ : (Finset.univ : Finset (Fin 51)) = cellList.toFinset := by decide
theorem cellList_nodup : cellList.Nodup := by decide

theorem cells_listed (Φ : Fin 51 → sProp 𝕄) :
    bigSep Finset.univ Φ = iprop(Φ 0 ∗ (bigSepL chunks fun k => Φ (iR k)) ∗ (bigSepL chunks fun k => Φ (iS 0 k)) ∗ (bigSepL chunks fun k => Φ (iS 1 k))
      ∗ Φ (iL 0) ∗ Φ (iL 1)) := by
  rw [bigSep_univ_eq_bigSepL cellList cellList_univ cellList_nodup]
  unfold cellList
  rw [bigSepL_cons', bigSepL_append, bigSepL_append, bigSepL_append, bigSepL_map, bigSepL_map, bigSepL_map, bigSepL_cons', bigSepL_cons', bigSepL_nil]
  refine congrArg (fun P => iprop(Φ 0 ∗ (bigSepL chunks fun k => Φ (iR k)) ∗ (bigSepL chunks fun k => Φ (iS 0 k)) ∗ (bigSepL chunks fun k => Φ (iS 1 k)) ∗ Φ (iL 0) ∗ P)) ?_
  refine eqv ?_ ?_
  · iintro ⟨H, -⟩; iexact H
  · iintro H; isplitl [H]; · iexact H
    iempintro

theorem kcell_R (d : Dev nD) (k : Fin 16) : kcell (d, iR k) = rCell d k := by unfold kcell; rw [csem_R]
theorem kcell_S (j : Fin 2) (d : Dev nD) (k : Fin 16) : kcell (d, iS j k) = sCell j d k := by unfold kcell; rw [csem_S]
theorem kcell_L (j : Fin 2) (d : Dev nD) : kcell (d, iL j) = lCell j d := by unfold kcell; rw [csem_L]

/-- The same for what depends on the cell. -/
theorem at_cells (d : Dev nD) (Φ : GSem nD τ sig → sProp 𝕄) :
    (bigSep Finset.univ fun i : Fin 51 => Φ (kcell (d, i)))
      = iprop(Φ (barCell d) ∗ (bigSepL chunks fun k => Φ (rCell d k)) ∗ (bigSepL chunks fun k => Φ (sCell 0 d k)) ∗ (bigSepL chunks fun k => Φ (sCell 1 d k))
        ∗ Φ (lCell 0 d) ∗ Φ (lCell 1 d)) := by
  rw [cells_listed]
  simp only [kcell_R, kcell_S, kcell_L]
  rfl

theorem csem_inj : Function.Injective csem := by decide
theorem kcell_inj : Function.Injective (kcell : Dev nD × Fin 51 → GSem nD τ sig) := by
  rintro ⟨c, i⟩ ⟨c', i'⟩ h
  have h1 : c = c' := congrArg (fun g : GSem nD τ sig => g.1.1) h
  have h2 : i = i' := csem_inj (congrArg Prod.snd h)
  rw [h1, h2]

/-! ## From the parents to the kids -/

/-- What belongs to a device other than 0 goes to its one parent; -/
theorem to_parent (k : Fin 16) (e : Dev nD) (P : sProp 𝕄) :
    P ⊢ bigSep Finset.univ fun q : Dev nD => if e ∈ kids k q then P else iprop(emp) := by
  by_cases he : e = 0
  · subst he
    rw [bigSep_congr fun q _ => if_neg fun h => kids_ne_zero k q 0 h rfl]
    exact (show P ⊢ (iprop(emp) : sProp 𝕄) by iintro -; iempintro).trans (BI.bigSep_of_persistent Finset.univ iprop(emp))
  · obtain ⟨p, hp⟩ := kids_parent k e he
    rw [bigSep_univ_at _ p, if_pos ((hp p).mpr rfl),
      bigSep_congr (s := Finset.univ.erase p) fun q hq => if_neg fun h => (Finset.mem_erase.mp hq).1 ((hp q).mp h)]
    have h0 : (iprop(emp) : sProp 𝕄) ⊢ bigSep (Finset.univ.erase p) fun _ : Dev nD => iprop(emp) := BI.bigSep_of_persistent _ _
    iintro H
    isplitl [H]; · iexact H
    iapply h0
    iempintro

/-- so what every device has for every chunk is, at every device, what its kids have. -/
theorem to_parents (Φ : Dev nD → Fin 16 → sProp 𝕄) :
    (bigSep Finset.univ fun e : Dev nD => bigSepL chunks (Φ e))
      ⊢ bigSep Finset.univ fun q : Dev nD => bigSepL chunks fun k => bigSepL (slots k q) fun x => Φ x.2 k := by
  have e (q : Dev nD) : (bigSepL chunks fun k => bigSepL (slots k q) fun x => Φ x.2 k)
      = bigSep Finset.univ fun k : Fin 16 => bigSep Finset.univ fun j : Dev nD => if j ∈ kids k q then Φ j k else iprop(emp) := by
    rw [bigSep_eq_bigSepL_of_eq chunks chunks_univ chunks_nodup]
    refine congrArg (bigSepL chunks) (funext fun k => ?_)
    rw [slots_kids q k fun j => Φ j k, over_kids q k fun j => Φ j k]
  rw [bigSep_congr fun q _ => e q, bigSep_congr fun d _ => (bigSep_eq_bigSepL_of_eq chunks chunks_univ chunks_nodup (Φ d)).symm]
  rw [bigSep_univ_comm (fun q k => bigSep Finset.univ fun j : Dev nD => if j ∈ kids k q then Φ j k else iprop(emp)),
    bigSep_univ_comm (fun d k => Φ d k)]
  refine bigSep_mono fun k _ => ?_
  rw [bigSep_univ_comm (fun q j => if j ∈ kids k q then Φ j k else iprop(emp))]
  exact bigSep_mono fun j _ => to_parent k j (Φ j k)

theorem devs_univ : (Finset.univ : Finset (Dev nD)) = devs.toFinset := by decide
theorem devs_nodup : devs.Nodup := by decide

/-- The places of a device's chunks, sorted by the signals that hand them over. -/
theorem spots_greet (d : Dev nD) : (bigSepL chunks (spot (F := F) d) : sProp 𝕄) ⊢ bigSepL devs fun q => barPay (F := F) q d := by
  rw [← bigSep_univ_eq_bigSepL devs devs_univ devs_nodup, ← bigSep_eq_bigSepL_of_eq chunks chunks_univ chunks_nodup]
  unfold barPay
  rw [bigSep_univ_comm (fun q k => if d ∈ kids k q then spot (F := F) d k else iprop(emp))]
  exact bigSep_mono fun k _ => to_parent k d (spot d k)
/-- Device 0 hands nothing over. -/
theorem none_greet : (iprop(emp) : sProp 𝕄) ⊢ bigSepL devs fun q => barPay (F := F) q 0 := by
  rw [← bigSep_univ_eq_bigSepL devs devs_univ devs_nodup]
  refine (BI.bigSep_of_persistent Finset.univ iprop(emp)).trans (bigSep_mono fun q _ => ?_)
  unfold barPay
  rw [bigSep_congr fun k _ => if_neg fun h => kids_ne_zero k q 0 h rfl]
  exact BI.bigSep_of_persistent _ _

/-! ## The tokens -/

/-- The rights to a device's payments. -/
def Pays (d : Dev nD) : sProp 𝕄 :=
  iprop((bigSepL devs fun q => dutyTok ER (barCell q) 0 d) ∗ bigSepL chunks (Rights d) ∗ dutyTok ER (lCell 0 d) 0 0 ∗ dutyTok ER (lCell 1 d) 0 0)

/-- All tokens of a device's own cells. -/
def Toks (d : Dev nD) : sProp 𝕄 :=
  bigSep Finset.univ fun i : Fin 51 => bigSep Finset.univ fun j : Fin 8 => dutyTok ER (kcell (d, i)) 0 j

theorem own_sends (d : Dev nD) (k : Fin 16) :
    iprop(dutyTok ER (sCell 0 d k) 0 0 ∗ dutyTok ER (sCell 1 d k) 0 0) ⊢ (bigSepL (slots k d) fun x => dutyTok ER (sCell x.1 d k) 0 0 : sProp 𝕄) := by
  rcases kids_cases k d with h | ⟨a, h⟩ | ⟨a, b, h⟩
  · rw [slots_nil h, bigSepL_nil]
    iintro -
    iempintro
  · rw [slots_one h, bigSepL_cons', bigSepL_nil]
    iintro ⟨H, -⟩
    isplitl [H]; · iexact H
    iempintro
  · rw [slots_two h, bigSepL_cons', bigSepL_cons', bigSepL_nil]
    iintro ⟨H, H'⟩
    isplitl [H]; · iexact H
    isplitl [H']; · iexact H'
    iempintro

theorem bigSepL_le {I : Type} (l : List I) (A B : I → sProp 𝕄) (h : ∀ i, A i ⊢ B i) : bigSepL l A ⊢ bigSepL l B := by
  induction l with
  | nil => exact BI.Entails.refl _
  | cons i l ih => rw [bigSepL_cons', bigSepL_cons']; exact BI.sep_mono (h i) ih

/-- A device's own tokens, those of no use left out. -/
theorem toks_listed (d : Dev nD) :
    Toks d ⊢ (iprop((bigSep Finset.univ fun j : Fin 8 => dutyTok ER (barCell d) 0 j) ∗ (bigSepL chunks fun k => dutyTok ER (rCell d k) 0 0)
      ∗ (bigSepL chunks fun k => bigSepL (slots k d) fun x => dutyTok ER (sCell x.1 d k) 0 0)
      ∗ dutyTok ER (lCell 0 d) 0 0 ∗ dutyTok ER (lCell 1 d) 0 0) : sProp 𝕄) := by
  unfold Toks
  rw [at_cells d fun g => bigSep Finset.univ fun j : Fin 8 => dutyTok ER g 0 j]
  have one (g : GSem nD τ sig) : (bigSep Finset.univ fun j : Fin 8 => dutyTok ER g 0 j : sProp 𝕄) ⊢ dutyTok ER g 0 0 := bigSep_elim (Finset.mem_univ 0)
  have hs : iprop((bigSepL chunks fun k => bigSep Finset.univ fun j : Fin 8 => dutyTok ER (sCell 0 d k) 0 j)
      ∗ (bigSepL chunks fun k => bigSep Finset.univ fun j : Fin 8 => dutyTok ER (sCell 1 d k) 0 j))
        ⊢ (bigSepL chunks fun k => bigSepL (slots k d) fun x => dutyTok ER (sCell x.1 d k) 0 0 : sProp 𝕄) := by
    rw [← bigSepL_sep2]
    exact bigSepL_le _ _ _ fun k => (BI.sep_mono (one _) (one _)).trans (own_sends d k)
  iintro ⟨Hb, Hr, H0, H1, Hl, Hl'⟩
  isplitl [Hb]; · iexact Hb
  isplitl [Hr]; · iapply (bigSepL_le chunks _ _ fun k => one (rCell d k)); iexact Hr
  isplitl [H0 H1]
  · iapply hs
    isplitl [H0]; · iexact H0
    iexact H1
  isplitl [Hl]; · iapply (one (lCell 0 d)); iexact Hl
  iapply (one (lCell 1 d)); iexact Hl'

theorem rights_split (d : Dev nD) :
    (bigSepL chunks (Rights (F := F) d) : sProp 𝕄)
      = iprop((bigSepL chunks fun k => bigSepL (slots k d) fun x => dutyTok ER (sCell x.1 d k) 0 0)
        ∗ bigSepL chunks fun k => bigSepL (slots k d) fun x => dutyTok ER (rCell x.2 k) 0 0) := by
  rw [← bigSepL_sep2]
  refine congrArg (bigSepL chunks) (funext fun k => ?_)
  unfold Rights
  rw [bigSepL_sep2]

/-- The tokens go to the devices that pay. -/
theorem deal : (bigSep Finset.univ fun d : Dev nD => (Toks d : sProp 𝕄)) ⊢ bigSep Finset.univ fun d : Dev nD => Pays d := by
  refine (show _ ⊢ _ from bigSep_mono fun d _ => toks_listed d).trans ?_
  unfold Pays
  rw [bigSep_congr (s := Finset.univ) fun (d : Dev nD) _ => congrArg (fun P => iprop((bigSepL devs fun q => dutyTok ER (barCell q) 0 d) ∗ P ∗ dutyTok ER (lCell 0 d) 0 0 ∗ dutyTok ER (lCell 1 d) 0 0)) (rights_split (F := F) d)]
  simp only [bigSep_sep']
  have hb : (bigSep Finset.univ fun d : Dev nD => bigSep Finset.univ fun j : Fin 8 => dutyTok ER (barCell d) 0 j : sProp 𝕄)
      ⊢ bigSep Finset.univ fun d : Dev nD => bigSepL devs fun q => dutyTok ER (barCell q) 0 d := by
    rw [bigSep_univ_comm (fun (d : Dev nD) (j : Fin 8) => (dutyTok ER (barCell d) 0 j : sProp 𝕄))]
    exact Entails.of_eq (bigSep_congr fun j _ => bigSep_univ_eq_bigSepL devs devs_univ devs_nodup _)
  have hr := to_parents (F := F) fun e k => dutyTok ER (rCell e k) 0 0
  iintro ⟨Hb, Hr, Hs, Hl, Hl'⟩
  isplitl [Hb]; · iapply hb; iexact Hb
  isplitl [Hr Hs]
  · isplitl [Hs]; · iexact Hs
    iapply hr; iexact Hr
  isplitl [Hl]; · iexact Hl
  iexact Hl'

/-! ## Minting and allocating -/

def allCells : Finset (GSem nD τ sig) := Finset.univ.map ⟨kcell, kcell_inj⟩

abbrev tokOf (x : (Dev nD × Fin 51) × Fin 8) : GSem nD τ sig × ℕ × Fin 8 := (kcell x.1, 0, x.2)
theorem tokOf_inj : Function.Injective tokOf := by
  rintro ⟨x, j⟩ ⟨x', j'⟩ h
  have h1 : x = x' := kcell_inj (congrArg Prod.fst h)
  have h2 : j = j' := congrArg (fun t : GSem nD τ sig × ℕ × Fin 8 => t.2.2) h
  rw [h1, h2]
def allToks : Finset (GSem nD τ sig × ℕ × Fin 8) := Finset.univ.map ⟨tokOf, tokOf_inj⟩

/-- The launch's element of the resource algebra. -/
def u₀ : UU :=
  (initOf (Pipeline.cells cfgs cellOf_inj) (Pipeline.launchToks cfgs cellOf_inj), initOf allCells allToks)

/-- The kernel's own semaphores. -/
abbrev osem (i : Fin 50) : SemLoc sig := .dma ⟨4 + i.val, by have := i.isLt; show _ < 54; omega⟩

/-- What a device is dealt. -/
def Dealt (d : Dev nD) : sProp 𝕄 :=
  iprop((bigSep Finset.univ fun i : Fin 51 => roundState ER (sched m) (kcell (d, i)) 0)
    ∗ (bigSep Finset.univ fun i : Fin 51 => iprop(atPos ER (kcell (d, i)) 0 ∅ 0 ∗ reached ER (kcell (d, i)) 0)) ∗ Toks d)

theorem fund : BI.own (ER (initOf allCells allToks)) ⊢ (|==> bigSep Finset.univ (Dealt m) : sProp 𝕄) := by
  have hX (Φ : GSem nD τ sig → sProp 𝕄) : bigSep allCells Φ = bigSep Finset.univ fun d : Dev nD => bigSep Finset.univ fun i : Fin 51 => Φ (kcell (d, i)) := by
    unfold allCells; rw [bigSep_map, bigSep_univ_prod]; rfl
  have hT : bigSep allToks (fun x => (dutyTok ER x.1 x.2.1 x.2.2 : sProp 𝕄)) = bigSep Finset.univ fun d : Dev nD => Toks d := by
    unfold allToks; rw [bigSep_map, bigSep_univ_prod, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Dealt; simp only [bigSep_sep']
  isplitl [Hst']; · iexact Hst'
  isplitl [Hat' Hr']
  · isplitl [Hat'] <;> iassumption
  iexact Htok'

theorem bar_unscoped : (Finset.univ.filter fun sm : SemLoc sig => ¬ sm.isScoped .tc) = [SemLoc.reg barS].toFinset := by decide

theorem unscopedSems_eq (d : Dev nD) : (unscopedSems0 d : sProp 𝕄) = semVal (barCell d) 0 := by
  unfold unscopedSems0; rw [bigSep_eq_bigSepL_of_eq [SemLoc.reg barS] bar_unscoped (by decide)]; rfl

theorem csem_succ (i : Fin 50) : csem i.succ = osem i := by revert i; decide

/-- A device's cells are its own semaphores and the barrier. -/
theorem sems_eq (d : Dev nD) :
    (bigSep Finset.univ fun i : Fin 51 => semVal (kcell (d, i)) 0 : sProp 𝕄)
      = iprop(unscopedSems0 d ∗ Pipeline.ownSems0 (Ix := Unit) (Name := ℕ) (U := UU) (Lvl := ℕ) (Val := Elt F) (τ := τ) osem d) := by
  rw [unscopedSems_eq, bigSep_univ_at _ (0 : Fin 51)]
  have e : (Finset.univ.erase (0 : Fin 51)) = Finset.univ.map ⟨Fin.succ, Fin.succ_injective 50⟩ := by decide
  rw [e, bigSep_map]
  unfold Pipeline.ownSems0
  refine congrArg (fun P => iprop(semVal (barCell d) 0 ∗ P)) (bigSep_congr fun i _ => ?_)
  show semVal ((d : Thread nD τ), csem i.succ) 0 = _
  rw [csem_succ]

theorem core_alloc (d : Dev nD) :
    iprop(Pipeline.ownSems0 (Ix := Unit) (Name := ℕ) (U := UU) (Lvl := ℕ) (Val := Elt F) (τ := τ) osem d ∗ unscopedSems0 d ∗ Dealt m d)
      ⊢ |={Set.univ}=> iprop((bigSep Finset.univ fun i => iprop(∃ κ : ℕ, cellInv ER (sched m) κ (kcell (d, i))))
          ∗ (bigSep Finset.univ fun i => iprop(atPos ER (kcell (d, i)) 0 ∅ 0 ∗ reached ER (kcell (d, i)) 0)) ∗ Toks d) := by
  unfold Dealt
  iintro ⟨Hos, Hus, Hst, Hat, Htok⟩
  ihave Hv := (Entails.of_eq (sems_eq (F := F) d).symm) $$ [Hos Hus]
  · isplitl [Hus] <;> iassumption
  imod (show iprop((bigSep Finset.univ fun i : Fin 51 => semVal (kcell (d, i)) 0) ∗ bigSep Finset.univ fun i : Fin 51 => roundState ER (sched m) (kcell (d, i)) 0)
      ⊢ (|={Set.univ}=> bigSep Finset.univ fun i => iprop(∃ κ : ℕ, cellInv ER (sched m) κ (kcell (d, i))) : sProp 𝕄) from by
        rw [← bigSep_sep']
        exact (bigSep_mono fun i _ => (Rounds.body_intro ER (sched m) (kcell (d, i))).trans inv_alloc).trans (bigSep_fupd _ _)) $$ [Hv Hst] with Hinv
  · isplitl [Hv] <;> iassumption
  imodintro
  isplitl [Hinv]; · iexact Hinv
  isplitl [Hat]; · iexact Hat
  iexact Htok

/-- The positions of a device's cells. -/
def Pos (d : Dev nD) : sProp 𝕄 := bigSep Finset.univ fun i : Fin 51 => atPos ER (kcell (d, i)) 0 ∅ 0

/-- What a device starts with: all invariants, its cells' positions and its rights. -/
def Given (d : Dev nD) : sProp 𝕄 := iprop(∃ K, records m K ∗ Pos d ∗ Pays d)

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun d : Dev nD => iprop((bigSep Finset.univ fun i => iprop(∃ κ : ℕ, cellInv ER (sched m) κ (kcell (d, i))))
          ∗ (bigSep Finset.univ fun i => iprop(atPos ER (kcell (d, i)) 0 ∅ 0 ∗ reached ER (kcell (d, i)) 0)) ∗ Toks d) : sProp 𝕄)
      ⊢ bigSep Finset.univ (Given m) := by
  rw [bigSep_sep', bigSep_sep', ← bigSep_univ_prod (fun x : Dev nD × Fin 51 => iprop(∃ κ : ℕ, cellInv ER (sched m) κ (kcell x))),
    bigSep_congr (s := Finset.univ) (fun (d : Dev nD) _ => bigSep_sep' Finset.univ (fun i : Fin 51 => (atPos ER (kcell (d, i)) 0 ∅ 0 : sProp 𝕄)) (fun i => reached ER (kcell (d, i)) 0)),
    bigSep_sep', ← bigSep_univ_prod (fun x : Dev nD × Fin 51 => (reached ER (kcell x) 0 : sProp 𝕄))]
  iintro ⟨HI, ⟨Hat, #HR⟩, Htok⟩
  ihave HK := (BI.bigSep_exists_pi Finset.univ (fun (x : Dev nD × Fin 51) (κ : ℕ) => (cellInv ER (sched m) κ (kcell x) : sProp 𝕄))) $$ HI
  icases HK with ⟨%K, #HI⟩
  ihave Htk := (deal (F := F)) $$ Htok
  have hg : iprop(records m K ∗ bigSep Finset.univ fun d : Dev nD => iprop(Pos (F := F) d ∗ Pays d)) ⊢ bigSep Finset.univ (Given m) :=
    with_all fun d _ => by
      unfold Given
      iintro H
      iexists K
      iexact H
  iapply hg
  isplitr
  · unfold records; isplitl; · iexact HI
    iexact HR
  · rw [bigSep_sep']
    isplitl [Hat]; · unfold Pos; iexact Hat
    iexact Htk

/-- All semaphores of all devices, their invariants allocated at once. -/
theorem glob : (bigSep Finset.univ fun d => iprop(Pipeline.ownSems0 (Ix := Unit) (Name := ℕ) (U := UU) (Lvl := ℕ) (Val := Elt F) (τ := τ) osem d ∗ unscopedSems0 d ∗ Dealt m d) : sProp 𝕄)
    ⊢ |={Set.univ}=> bigSep Finset.univ (Given m) :=
  ((bigSep_mono fun d _ => core_alloc m d).trans (bigSep_fupd _ _)).trans (BI.fupd_mono (regroup m))

/-! ## The launch's credit -/

theorem osum_apply (l : List (GSem nD τ sig × ℕ)) (g : GSem nD τ sig) : osum l g () = (l.map fun x => if x.1 = g then x.2 else 0).sum := by
  induction l with
  | nil => rfl
  | cons x l ih =>
    unfold osum
    rw [Pi.add_apply, Finsupp.add_apply, ih, tallyAt_apply, List.map_cons, List.sum_cons, Nat.add_comm]
    congr 1
    by_cases h : x.1 = g
    · rw [if_pos ⟨h.symm, rfl⟩, if_pos h]
    · rw [if_neg fun h' => h h'.1.symm, if_neg h]

theorem osum_append (l l' : List (GSem nD τ sig × ℕ)) (g : GSem nD τ sig) : osum (l ++ l') g () = osum l g () + osum l' g () := by
  rw [osum_apply, osum_apply, osum_apply, List.map_append, List.sum_append]

theorem bar_inj {a b : Dev nD} : barCell a = barCell b ↔ a = b := ⟨fun h => congrArg (fun g : GSem nD τ sig => g.1.1) h, fun h => h ▸ rfl⟩
theorem r_inj {a b : Dev nD} {k l : Fin 16} : rCell a k = rCell b l ↔ a = b ∧ k = l := by
  rw [← kcell_R, ← kcell_R]
  refine ⟨fun h => ?_, fun h => by rw [h.1, h.2]⟩
  have h' := kcell_inj h
  refine ⟨congrArg Prod.fst h', ?_⟩
  have h2 : iR k = iR l := congrArg Prod.snd h'
  exact (by decide : Function.Injective iR) h2
theorem r_ne_bar (a b : Dev nD) (k : Fin 16) : rCell a k ≠ barCell b := fun h => by
  have h' : SemLoc.dma (rS k) = SemLoc.reg barS := congrArg Prod.snd h
  cases h'

theorem bars_bar (q : Dev nD) : osum (barsL devs) (barCell q) () = 1 := by
  rw [osum_apply]
  unfold barsL
  rw [List.map_map]
  rw [show ((fun x : GSem nD τ sig × ℕ => if x.1 = barCell q then x.2 else 0) ∘ fun q' : Dev nD => (barCell q', 1)) = fun q' : Dev nD => if q' = q then 1 else 0 from
    funext fun q' => by show (if barCell q' = barCell q then 1 else 0) = _; simp only [bar_inj]]
  revert q; decide
theorem bars_r (e : Dev nD) (k : Fin 16) (l : List (Dev nD)) : osum (barsL l) (rCell e k) () = 0 := by
  rw [osum_apply]
  unfold barsL
  rw [List.map_map, List.sum_eq_zero]
  intro x hx
  obtain ⟨q, _, rfl⟩ := List.mem_map.mp hx
  exact if_neg fun h => r_ne_bar e q k h.symm
theorem sends_bar (d q : Dev nD) (l : List (Fin 16)) : osum (sendsL d l) (barCell q) () = 0 := by
  rw [osum_apply, List.sum_eq_zero]
  intro x hx
  obtain ⟨y, hy, rfl⟩ := List.mem_map.mp hx
  obtain ⟨k, _, e, _, rfl⟩ := mem_sendsL hy
  exact if_neg (r_ne_bar e q k)

/-- Device `d`'s transfers to `e` of chunk `k`. -/
def count (d e : Dev nD) (k : Fin 16) : ℕ := ((sendOrd d).flatMap fun k' => (kids k' d).map fun e' => if e' = e ∧ k' = k then 1 else 0).sum

theorem sends_r (d e : Dev nD) (k : Fin 16) : osum (sendsL d (sendOrd d)) (rCell e k) () = count d e k * N := by
  rw [osum_apply]
  unfold count sendsL
  generalize sendOrd d = l
  induction l with
  | nil => simp
  | cons k' l ih =>
    rw [List.flatMap_cons, List.flatMap_cons, List.map_append, List.sum_append, List.sum_append, Nat.add_mul, ih]
    congr 1
    generalize kids k' d = ks
    induction ks with
    | nil => simp
    | cons e' ks ih' =>
      rw [List.map_cons, List.map_cons, List.map_cons, List.sum_cons, List.sum_cons, Nat.add_mul, ih']
      congr 1
      show (if rCell e' k' = rCell e k then N else 0) = _
      simp only [r_inj]
      split
      · rw [Nat.one_mul]
      · rw [Nat.zero_mul]

theorem count_one : ∀ (k : Fin 16) (e : Dev nD), e ≠ 0 → ∑ d : Dev nD, count d e k = 1 := by decide +kernel

theorem launch_bar (q : Dev nD) :
    tallyOn (barCell q) (launchCredit (Pipeline.owing O₀) 0 (barCell q)) = (tallyAt (barCell q) () 8 : CellTallies nD τ sig Unit) := by
  unfold tallyAt; refine congrArg _ (Finsupp.ext fun u => ?_); cases u
  rw [Pipeline.launchCredit_owing, Finsupp.single_eq_same, Finset.sum_congr rfl fun d _ => show O₀ d (barCell q) () = 1 by
    unfold O₀; rw [osum_append, bars_bar, sends_bar]]
  rw [Finset.sum_const, Finset.card_univ, Fintype.card_fin, smul_eq_mul]
  rfl

theorem launch_r (e : Dev nD) (k : Fin 16) (he : e ≠ 0) :
    tallyOn (rCell e k) (launchCredit (Pipeline.owing O₀) 0 (rCell e k)) = (tallyAt (rCell e k) () N : CellTallies nD τ sig Unit) := by
  unfold tallyAt; refine congrArg _ (Finsupp.ext fun u => ?_); cases u
  rw [Pipeline.launchCredit_owing, Finsupp.single_eq_same, Finset.sum_congr rfl fun d _ => show O₀ d (rCell e k) () = count d e k * N by
    unfold O₀; rw [osum_append, bars_r, sends_r, Nat.zero_add]]
  rw [← Finset.sum_mul, count_one k e he, Nat.one_mul]

/-- The credit a device starts with. -/
def Credit (d : Dev nD) : sProp 𝕄 :=
  iprop(cred (tallyAt (barCell d) () 8) ∗ if d = 0 then iprop(emp) else bigSepL chunks fun k => cred (tallyAt (rCell d k) () N))

theorem credit (d : Dev nD) : (Pipeline.launchCred O₀ d : sProp 𝕄) ⊢ Credit d := by
  unfold Pipeline.launchCred Credit
  have e := bigSep_univ_at (fun sm : SemLoc sig => (cred (tallyOn ((d.tc : Thread nD τ), sm) (launchCredit (Pipeline.owing O₀) 0 ((d.tc : Thread nD τ), sm))) : sProp 𝕄)) (SemLoc.reg barS)
  rw [e, launch_bar]
  refine sep_mono_right ?_
  by_cases hd : d = 0
  · rw [if_pos hd]
    iintro -
    iempintro
  · rw [if_neg hd, ← bigSep_eq_bigSepL_of_eq chunks chunks_univ chunks_nodup,
      bigSep_congr (s := Finset.univ) fun k _ => congrArg (fun t => (cred t : sProp 𝕄)) (launch_r d k hd).symm]
    have hm := bigSep_map (s := (Finset.univ : Finset (Fin 16))) ⟨fun k => SemLoc.dma (rS k), (by decide : Function.Injective fun k : Fin 16 => (SemLoc.dma (rS k) : SemLoc sig))⟩
      (Φ := fun sm : SemLoc sig => (cred (tallyOn ((d.tc : Thread nD τ), sm) (launchCredit (Pipeline.owing O₀) 0 ((d.tc : Thread nD τ), sm))) : sProp 𝕄))
    refine (bigSep_subset ?_).trans (Entails.of_eq hm)
    intro sm hsm
    obtain ⟨k, _, rfl⟩ := Finset.mem_map.mp hsm
    exact Finset.mem_erase.mpr ⟨(fun h => by cases h), Finset.mem_univ _⟩

end Cert.Attn
-- ==== Proof.Launch.lean ====
/-
# The run

What a device starts its body with and what it leaves, and the run of the whole program: every execution ends with every
device's result array at `outOf` of its own queries and weights and device 0's keys and values, the arguments unchanged
and every semaphore at zero.
-/
module

public import proofs.«01_k».proof.Proof.Deal
public import Idealize.ShloMosaic.Lib.Pipeline.CollectiveSegs

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Into the body -/

/-- A device's key and value arguments. -/
def Args (d : Dev nD) : sProp 𝕄 :=
  iprop((((d : Thread nD τ).loc main_arg2) ↦{fullShare} m ((d : Thread nD τ).loc main_arg2))
    ∗ (((d : Thread nD τ).loc main_arg3) ↦{fullShare} m ((d : Thread nD τ).loc main_arg3)))

/-- What a device other than 0 has no use for. -/
def Kept (d : Dev nD) : sProp 𝕄 :=
  if d = 0 then iprop(emp) else iprop(Args m d ∗ atPos ER (lCell 0 d) 0 ∅ 0 ∗ atPos ER (lCell 1 d) 0 ∅ 0)

theorem args_zero : (Args m 0 : sProp 𝕄) = iprop((bigSepL chunks fun k => hbmPts m k fullShare.left) ∗ kSrc m ∗ vSrc m) := by
  rw [hbm_rows]
  unfold Args kSrc vSrc
  rw [share_eq _ _ _ fullShare]
  have e : (((((0 : Dev nD) : Thread nD τ).loc main_arg3) ↦{fullShare} m (((0 : Dev nD) : Thread nD τ).loc main_arg3)) : sProp 𝕄) = _ := share_eq _ _ _ fullShare
  rw [e]
  refine eqv ?_ ?_
  · iintro ⟨⟨Ha, Hb⟩, Hc, Hd⟩
    isplitl [Ha Hc]
    · isplitl [Ha]; · iexact Ha
      iexact Hc
    isplitl [Hb]; · iexact Hb
    iexact Hd
  · iintro ⟨⟨Ha, Hc⟩, Hb, Hd⟩
    isplitl [Ha Hb]
    · isplitl [Ha]; · iexact Ha
      iexact Hb
    isplitl [Hc]; · iexact Hc
    iexact Hd

theorem greets (d : Dev nD) : (bigSepL devs (Greet (F := F) d) : sProp 𝕄)
    = iprop((bigSepL devs fun q => dutyTok ER (barCell q) 0 d) ∗ bigSepL devs fun q => barPay q d) := by
  rw [← bigSepL_sep2]; rfl

/-- What a device has when it enters. -/
def Ready0 (d : Dev nD) : sProp 𝕄 :=
  iprop(Pos d ∗ Pays d ∗ Credit d ∗ Args m d ∗ (∃ f, kPts d f Finset.univ fullShare) ∗ (∃ f, vPts d f Finset.univ fullShare))

theorem pos_listed (d : Dev nD) : (Pos d : sProp 𝕄)
    = iprop(atPos ER (barCell d) 0 ∅ 0 ∗ (bigSepL chunks fun k => atPos ER (rCell d k) 0 ∅ 0) ∗ (bigSepL chunks fun k => atPos ER (sCell 0 d k) 0 ∅ 0)
      ∗ (bigSepL chunks fun k => atPos ER (sCell 1 d k) 0 ∅ 0) ∗ atPos ER (lCell 0 d) 0 ∅ 0 ∗ atPos ER (lCell 1 d) 0 ∅ 0) :=
  at_cells d fun g => atPos ER g 0 ∅ 0

theorem entry_zero : iprop((∃ W, owes ((0 : Dev nD) : Thread nD τ) (O₀ 0) W) ∗ Ready0 m 0) ⊢ iprop(Entry m 0 ∗ Kept m 0) := by
  unfold Ready0 Entry Kept Setup Credit Pays Needs0
  rw [pos_listed, greets, args_zero, if_pos rfl, if_pos rfl, if_pos rfl, bigSepL_sep2]
  have hu : (bigSepL chunks fun k => iprop(atPos ER (rCell 0 k) 0 ∅ 0 ∗ unsent (F := F) 0 k) : sProp 𝕄)
      = iprop((bigSepL chunks fun k => atPos ER (rCell 0 k) 0 ∅ 0) ∗ (bigSepL chunks fun k => atPos ER (sCell 0 0 k) 0 ∅ 0) ∗ bigSepL chunks fun k => atPos ER (sCell 1 0 k) 0 ∅ 0) := by
    unfold unsent; rw [bigSepL_sep2, bigSepL_sep2]
  rw [hu]
  iintro ⟨HO, ⟨Hab, Har, Hs0, Hs1, Hl0, Hl1⟩, ⟨Hb, HR, Ht0, Ht1⟩, ⟨Hc, -⟩, ⟨Hh, Hk, Hv⟩, Hko, Hvo⟩
  isplitl
  · isplitl [HO]; · iexact HO
    isplitl [Hb]
    · isplitl [Hb]; · iexact Hb
      iapply (none_greet (F := F))
      iempintro
    isplitl [Hab]; · iexact Hab
    isplitl [Hc]; · iexact Hc
    isplitl [Hh HR]
    · isplitl [Hh]; · iexact Hh
      iexact HR
    isplitl [Hko]; · iexact Hko
    isplitl [Hvo]; · iexact Hvo
    isplitl [Hk]; · iexact Hk
    isplitl [Hv]; · iexact Hv
    isplitl [Ht0]; · iexact Ht0
    isplitl [Ht1]; · iexact Ht1
    isplitl [Hl0]; · iexact Hl0
    isplitl [Hl1]; · iexact Hl1
    isplitl [Har]; · iexact Har
    isplitl [Hs0]; · iexact Hs0
    iexact Hs1
  · iempintro

theorem entry_other (d : Dev nD) (hd : d ≠ 0) : iprop((∃ W, owes (d : Thread nD τ) (O₀ d) W) ∗ Ready0 m d) ⊢ iprop(Entry m d ∗ Kept m d) := by
  unfold Ready0 Entry Kept Setup Credit Pays Needs
  rw [pos_listed, greets, if_neg hd, if_neg hd, if_neg hd, bigSepL_sep2, bigSepL_sep2, bigSepL_sep2]
  have hu : (bigSepL chunks (fun k => unsent (F := F) d k) : sProp 𝕄)
      = iprop((bigSepL chunks fun k => atPos ER (sCell 0 d k) 0 ∅ 0) ∗ bigSepL chunks fun k => atPos ER (sCell 1 d k) 0 ∅ 0) := by
    unfold unsent; rw [bigSepL_sep2]
  rw [hu]
  iintro ⟨HO, ⟨Hab, Har, Hs0, Hs1, Hl0, Hl1⟩, ⟨Hb, HR, -, -⟩, ⟨Hc, Hcr⟩, Ha, ⟨%f, Hko⟩, ⟨%g, Hvo⟩⟩
  ihave Hsp := (spots d f g) $$ [Hko Hvo]
  · isplitl [Hko]; · iexact Hko
    iexact Hvo
  isplitr [Ha Hl0 Hl1]
  · isplitl [HO]; · iexact HO
    isplitl [Hb Hsp]
    · isplitl [Hb]; · iexact Hb
      iapply (spots_greet (F := F) d)
      iexact Hsp
    isplitl [Hab]; · iexact Hab
    isplitl [Hc]; · iexact Hc
    isplitl [Hcr]; · iexact Hcr
    isplitl [Har]; · iexact Har
    isplitl [HR]; · iexact HR
    isplitl [Hs0]; · iexact Hs0
    iexact Hs1
  · isplitl [Ha]; · iexact Ha
    isplitl [Hl0]; · iexact Hl0
    iexact Hl1

theorem entry (d : Dev nD) : iprop((∃ W, owes (d : Thread nD τ) (O₀ d) W) ∗ Ready0 m d) ⊢ iprop(Entry m d ∗ Kept m d) := by
  by_cases hd : d = 0
  · subst hd; exact entry_zero m
  · exact entry_other m d hd

/-! ## Out of the body -/

/-- The round at which a cell is done with. -/
def endR (g : GSem nD τ sig) : ℕ := if dutyOf g.1.1 (useOf g.2) = ∅ then 0 else 1

theorem end_done (g : GSem nD τ sig) : ∀ r, endR g ≤ r → (sched (F := F) m).duties g r = ∅ := fun r hr => by
  by_cases h : dutyOf g.1.1 (useOf g.2) = ∅
  · dsimp only [sched]
    rw [h, ite_self]
  · unfold endR at hr
    rw [if_neg h] at hr
    exact duties_later m g r hr

theorem end_bar (d : Dev nD) : endR (barCell d) = 1 := if_neg (by show ¬ (Finset.univ : Finset (Fin 8)) = ∅; decide)
theorem end_R (d : Dev nD) (k : Fin 16) : endR (rCell d k) = roundR d := by
  unfold endR roundR
  rw [use_R]
  show (if (if d = 0 then (∅ : Finset (Fin 8)) else {0}) = ∅ then 0 else 1) = _
  by_cases hd : d = 0
  · rw [if_pos hd, if_pos rfl, if_pos hd]
  · rw [if_neg hd, if_neg (by decide), if_neg hd]
theorem end_S (j : Fin 2) (d : Dev nD) (k : Fin 16) : endR (sCell j d k) = roundS d k j := by
  unfold endR roundS
  rw [use_S]
  show (if (if j.val < (kids k d).length then ({0} : Finset (Fin 8)) else ∅) = ∅ then 0 else 1) = _
  by_cases h : j.val < (kids k d).length
  · rw [if_pos h, if_neg (by decide), if_pos h]
  · rw [if_neg h, if_pos rfl, if_neg h]
theorem end_L (j : Fin 2) (d : Dev nD) : endR (lCell j d) = if d = 0 then 1 else 0 := by
  unfold endR
  rw [use_L]
  show (if (if d = 0 then ({0} : Finset (Fin 8)) else ∅) = ∅ then 0 else 1) = _
  by_cases hd : d = 0
  · rw [if_pos hd, if_neg (by decide), if_pos hd]
  · rw [if_neg hd, if_pos rfl, if_neg hd]

/-- All cells of a device, done with. -/
def Done (d : Dev nD) : sProp 𝕄 := bigSep Finset.univ fun i : Fin 51 => atPos ER (kcell (d, i)) (endR (kcell (d, i))) ∅ 0

theorem done_listed (d : Dev nD) : (Done d : sProp 𝕄)
    = iprop(atPos ER (barCell d) 1 ∅ 0 ∗ (bigSepL chunks fun k => atPos ER (rCell d k) (roundR d) ∅ 0) ∗ (bigSepL chunks fun k => atPos ER (sCell 0 d k) (roundS d k 0) ∅ 0)
      ∗ (bigSepL chunks fun k => atPos ER (sCell 1 d k) (roundS d k 1) ∅ 0) ∗ atPos ER (lCell 0 d) (if d = 0 then 1 else 0) ∅ 0 ∗ atPos ER (lCell 1 d) (if d = 0 then 1 else 0) ∅ 0) := by
  unfold Done
  rw [at_cells d fun g => atPos ER g (endR g) ∅ 0]
  simp only [end_bar, end_R, end_S, end_L]

/-- What remains when the body is done. -/
def Final (d : Dev nD) : sProp 𝕄 :=
  iprop((∃ W, owes (d : Thread nD τ) 0 W) ∗ Done d ∗ Args m d ∗ kPts d (KB m) Finset.univ fullShare ∗ vPts d (VB m) Finset.univ fullShare)

theorem settled (d : Dev nD) : (bigSepL chunks (Settled m d) : sProp 𝕄)
    = iprop((kPts d (KB m) Finset.univ fullShare.right ∗ vPts d (VB m) Finset.univ fullShare.right)
      ∗ (bigSepL chunks fun k => if d = 0 then hbmPts m k fullShare.left else iprop(emp)) ∗ (bigSepL chunks fun k => atPos ER (rCell d k) (roundR d) ∅ 0)
      ∗ (bigSepL chunks fun k => atPos ER (sCell 0 d k) (roundS d k 0) ∅ 0) ∗ bigSepL chunks fun k => atPos ER (sCell 1 d k) (roundS d k 1) ∅ 0) := by
  rw [← chunks_rows]
  unfold Settled
  rw [bigSepL_sep2, bigSepL_sep2, bigSepL_sep2, bigSepL_sep2]

theorem kv_whole (d : Dev nD) : iprop(KV d (KB m) (VB m) 4 ∗ kPts d (KB m) Finset.univ fullShare.right ∗ vPts d (VB m) Finset.univ fullShare.right)
    ⊢ iprop(kPts d (KB m) Finset.univ fullShare ∗ vPts d (VB m) Finset.univ fullShare) := by
  have ek : (kPts d (KB m) Finset.univ fullShare : sProp 𝕄) = iprop(kPts d (KB m) Finset.univ qc ∗ kPts d (KB m) Finset.univ fullShare.right) := share_eq _ _ _ fullShare
  have ev : (vPts d (VB m) Finset.univ fullShare : sProp 𝕄) = iprop(vPts d (VB m) Finset.univ qc ∗ vPts d (VB m) Finset.univ fullShare.right) := share_eq _ _ _ fullShare
  unfold KV
  rw [SK_all, SV_all, ek, ev]
  iintro ⟨⟨Hk, Hv⟩, Hk', Hv'⟩
  isplitl [Hk Hk']
  · isplitl [Hk]; · iexact Hk
    iexact Hk'
  isplitl [Hv]; · iexact Hv
  iexact Hv'

theorem leave_zero : iprop(Exit m 0 ∗ Kept m 0) ⊢ Final m 0 := by
  unfold Exit Kept Final Ending Left Copies
  rw [if_pos (show ((0 : Dev nD)).val < 8 by decide), settled, done_listed, args_zero, if_pos rfl]
  simp only [if_pos (rfl : (0 : Dev nD) = 0)]
  iintro ⟨⟨Hkv, ⟨HO, ⟨Hk, Hv⟩, Hh, Hr, Hs0, Hs1⟩, Hb, Hks, Hvs, Hl0, Hl1⟩, -⟩
  isplitl [HO]; · iexact HO
  isplitl [Hb Hr Hs0 Hs1 Hl0 Hl1]
  · isplitl [Hb]; · iexact Hb
    isplitl [Hr]; · iexact Hr
    isplitl [Hs0]; · iexact Hs0
    isplitl [Hs1]; · iexact Hs1
    isplitl [Hl0]; · iexact Hl0
    iexact Hl1
  isplitl [Hh Hks Hvs]
  · isplitl [Hh]; · iexact Hh
    isplitl [Hks]; · iexact Hks
    iexact Hvs
  iapply (kv_whole m 0)
  isplitl [Hkv]; · iexact Hkv
  isplitl [Hk]; · iexact Hk
  iexact Hv

theorem leave_other (d : Dev nD) (hd : d ≠ 0) : iprop(Exit m d ∗ Kept m d) ⊢ Final m d := by
  unfold Exit Kept Final Ending Left
  rw [if_pos (show d.val < 8 from d.isLt), settled, done_listed]
  simp only [if_neg hd]
  iintro ⟨⟨Hkv, ⟨HO, ⟨Hk, Hv⟩, -, Hr, Hs0, Hs1⟩, Hb, -⟩, Ha, Hl0, Hl1⟩
  isplitl [HO]; · iexact HO
  isplitl [Hb Hr Hs0 Hs1 Hl0 Hl1]
  · isplitl [Hb]; · iexact Hb
    isplitl [Hr]; · iexact Hr
    isplitl [Hs0]; · iexact Hs0
    isplitl [Hs1]; · iexact Hs1
    isplitl [Hl0]; · iexact Hl0
    iexact Hl1
  isplitl [Ha]; · iexact Ha
  iapply (kv_whole m d)
  isplitl [Hkv]; · iexact Hkv
  isplitl [Hk]; · iexact Hk
  iexact Hv

theorem leave (d : Dev nD) : iprop(Exit m d ∗ Kept m d) ⊢ Final m d := by
  by_cases hd : d = 0
  · subst hd; exact leave_zero m
  · exact leave_other m d hd

/-- The cells, closed. -/
theorem close_cells (K : Dev nD × Fin 51 → ℕ) (d : Dev nD) :
    iprop(records m K ∗ Done d) ⊢ |={Set.univ}=> (bigSep Finset.univ fun i : Fin 51 => semVal (kcell (d, i)) 0 : sProp 𝕄) := by
  have h := Rounds.cells_close (ER (F := F)) (sched m) (Finset.univ : Finset (Fin 51)) (fun i => kcell (d, i)) (fun i => K (d, i)) (Es := Set.univ)
    (fun _ _ => Set.mem_univ _) (fun _ _ h => h) (fun i => endR (kcell (d, i))) (fun i _ => end_done m (kcell (d, i)))
  refine BIBase.Entails.trans ?_ h
  unfold Done
  exact with_all fun i _ => by
    unfold records
    iintro ⟨⟨#HI, #HR⟩, H⟩
    isplitr
    · iapply (show (bigSep Finset.univ fun x : Dev nD × Fin 51 => (cellInv ER (sched m) (K x) (kcell x) : sProp 𝕄)) ⊢ cellInv ER (sched m) (K (d, i)) (kcell (d, i)) from bigSep_elim (Finset.mem_univ (d, i)))
      iexact HI
    iexact H

/-! ## The pipeline's data -/

/-- A device's arguments. -/
abbrev Xof (d : Dev nD) : S1x2048x1024.Idx → Elt F .f32 := m ((d : Thread nD τ).loc main_arg0)
abbrev Wof (d : Dev nD) : S1024x1024.Idx → Elt F .f32 := m ((d : Thread nD τ).loc main_arg1)
abbrev WOof (d : Dev nD) : S1024x1024.Idx → Elt F .f32 := m ((d : Thread nD τ).loc main_arg4)
/-- The result. -/
abbrev resOf (d : Dev nD) : S1x2048x1024.Idx → Elt F .f32 := outOf (Xof m d) (Wof m d) (WOof m d) (KB m) (VB m)

/-- Before the body; -/
def Φ₀ (d : Dev nD) : sProp 𝕄 := iprop((Given m d ∗ Credit d ∗ Args m d ∗ levAts L lv) ∗ Pipeline.scopedRest cfg0.spec d)
/-- after it. -/
def Φ₁ (d : Dev nD) : sProp 𝕄 := iprop(Args m d ∗ Pipeline.scopedRest cfg0.spec d ∗ bigSep Finset.univ fun i : Fin 51 => semVal (kcell (d, i)) 0)

def dats (_ : Fin 1) (d : Dev nD) : Dat τ (Elt F) Unit ℕ UU ℕ cfg0 d where
  A w := m ((cfg0.win w).arr.view.loc (d : Thread nD τ))
  after w _ := match w with
    | ⟨0, _⟩ => Xof m d
    | ⟨1, _⟩ => Wof m d
    | ⟨2, _⟩ => WOof m d
    | ⟨3, _⟩ => resOf m d
  Φ t := match t with
    | ⟨0, _⟩ => Φ₀ m d
    | ⟨_ + 1, _⟩ => Φ₁ m d
  q _ := fullShare
  owed t := match t with
    | ⟨0, _⟩ => O₀ d
    | ⟨_ + 1, _⟩ => 0

theorem blk_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem blk_wq (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem blk_wo (f : main_arg4.ty.Contents (Elt F)) : (win0_2.blk (0 : Fin 1)).view.read (Elt F) f = f :=
  Memref.read_access_unit_zero (Elt F) main_arg4 (funext fun a => by fin_cases a <;> decide) (fun a => by fin_cases a <;> decide) f
theorem blk_out (f : main_v1.ty.Contents (Elt F)) : (win0_3.blk (0 : Fin 1)).view.read (Elt F) f = f :=
  Memref.read_access_unit_zero (Elt F) main_v1 (funext fun a => by fin_cases a <;> decide) (fun a => by fin_cases a <;> decide) f

theorem before_x (d : Dev nD) (g) : (dats m 0 d).before (0 : Fin 4) t0_0 g = Xof m d := by
  unfold Dat.before; rw [if_pos (fetch0_0 _)]; exact blk_x (F := F) _
theorem before_wq (d : Dev nD) (g) : (dats m 0 d).before (1 : Fin 4) t0_0 g = Wof m d := by
  unfold Dat.before; rw [if_pos (fetch0_1 _)]; exact blk_wq (F := F) _
theorem before_wo (d : Dev nD) (g) : (dats m 0 d).before (2 : Fin 4) t0_0 g = WOof m d := by
  unfold Dat.before; rw [if_pos (fetch0_2 _)]; exact blk_wo (F := F) _

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ (((d : Thread nD τ).loc b) ↦{fullShare} f)) := by
  unfold owns; simp only [Memref.view_whole, View.read_whole, View.set_whole]

/-! ## The body's obligation -/

abbrev stg (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))

def bodyPre (d : Dev nD) : sProp 𝕄 :=
  iprop(Φ₀ m d ∗ (dats m 0 d).owesAt () t0_0.castSucc
    ∗ (∃ g, stg d cc0_stg0_0 ((dats m 0 d).before (0 : Fin 4) t0_0 g)) ∗ (∃ g, stg d cc0_stg1_0 ((dats m 0 d).before (1 : Fin 4) t0_0 g))
    ∗ (∃ g, stg d cc0_stg2_0 ((dats m 0 d).before (2 : Fin 4) t0_0 g)) ∗ (∃ g, stg d cc0_stg3_0 ((dats m 0 d).before (3 : Fin 4) t0_0 g)))

def bodyPost (d : Dev nD) : sProp 𝕄 :=
  iprop(Φ₁ m d ∗ (dats m 0 d).owesAt () t0_0.succ
    ∗ stg d cc0_stg0_0 (Xof m d) ∗ stg d cc0_stg1_0 (Wof m d) ∗ stg d cc0_stg2_0 (WOof m d) ∗ stg d cc0_stg3_0 (resOf m d))

/-- The computation's buffers as the body finds them; -/
def Bufs (d : Dev nD) : sProp 𝕄 :=
  iprop((∃ f : S512x1024.Idx → Elt F .f32, qPts d f) ∗ scPts d (fun _ => True) ∗ cxPts d (fun _ => True))

theorem comp_start (d : Dev nD) (X : S1x2048x1024.Idx → Elt F .f32) (W WO : S1024x1024.Idx → Elt F .f32) :
    iprop(stg d cc0_stg0_0 X ∗ stg d cc0_stg1_0 W ∗ stg d cc0_stg2_0 WO ∗ (∃ g, stg d cc0_stg3_0 g) ∗ Bufs d) ⊢ CompM m d X W WO 0 := by
  unfold CompM Comp Bufs outPts stg xPts wqPts woPts
  iintro ⟨⟨%f0, %h0, H0⟩, ⟨%f1, %h1, H1⟩, ⟨%f2, %h2, H2⟩, ⟨%g3, %f3, -, H3⟩, Hq, Hs, Hc⟩
  subst h0 h1 h2
  isplitl [H0]; · iexact H0
  isplitl [H1]; · iexact H1
  isplitl [H2]; · iexact H2
  isplitl [Hq]; · iexact Hq
  isplitl [Hs]; · iexact Hs
  isplitl [Hc]; · iexact Hc
  iexists f3
  isplitr; · ipureintro; intro s h; exact absurd h (Nat.not_lt_zero _)
  iexact H3

theorem comp_end (d : Dev nD) (X : S1x2048x1024.Idx → Elt F .f32) (W WO : S1024x1024.Idx → Elt F .f32) :
    CompM m d X W WO 4 ⊢ iprop(stg d cc0_stg0_0 X ∗ stg d cc0_stg1_0 W ∗ stg d cc0_stg2_0 WO ∗ stg d cc0_stg3_0 (outOf X W WO (KB m) (VB m)) ∗ Bufs d) := by
  unfold CompM Comp Bufs outPts stg xPts wqPts woPts
  iintro ⟨H0, H1, H2, Hq, Hs, Hc, ⟨%f3, %h3, H3⟩⟩
  isplitl [H0]
  · iexists X; isplitr; · ipureintro; rfl
    iexact H0
  isplitl [H1]
  · iexists W; isplitr; · ipureintro; rfl
    iexact H1
  isplitl [H2]
  · iexists WO; isplitr; · ipureintro; rfl
    iexact H2
  isplitl [H3]
  · iexists f3; isplitr; · ipureintro; exact out_read X W WO (KB m) (VB m) f3 fun s => h3 s s.isLt
    iexact H3
  isplitl [Hq]; · iexact Hq
  isplitl [Hs]; · iexact Hs
  iexact Hc

theorem scratch_in (d : Dev nD) : (Pipeline.scopedRest cfg0.spec d : sProp 𝕄)
    ⊢ iprop((∃ f, kPts d f Finset.univ fullShare) ∗ (∃ f, vPts d f Finset.univ fullShare) ∗ Bufs d) := by
  rw [scopedRest0_eq]
  unfold Bufs scPts cxPts kPts vPts qPts
  iintro ⟨⟨%f0, H0⟩, ⟨%f1, H1⟩, ⟨%f2, H2⟩, ⟨%f3, H3⟩, ⟨%f4, H4⟩⟩
  isplitl [H0]; · iexists f0; iexact H0
  isplitl [H1]; · iexists f1; iexact H1
  isplitl [H2]; · iexists f2; iexact H2
  isplitl [H3]
  · iexists f3; isplitr; · ipureintro; trivial
    iexact H3
  iexists f4; isplitr; · ipureintro; trivial
  iexact H4

theorem scratch_out (d : Dev nD) (f g : S2048x1024.Idx → Elt F .f32) :
    iprop(kPts d f Finset.univ fullShare ∗ vPts d g Finset.univ fullShare ∗ Bufs d) ⊢ (Pipeline.scopedRest cfg0.spec d : sProp 𝕄) := by
  rw [scopedRest0_eq]
  unfold Bufs scPts cxPts kPts vPts qPts
  iintro ⟨H0, H1, ⟨%f2, H2⟩, ⟨%f3, -, H3⟩, ⟨%f4, -, H4⟩⟩
  isplitl [H0]; · iexists f; iexact H0
  isplitl [H1]; · iexists g; iexact H1
  isplitl [H2]; · iexists f2; iexact H2
  isplitl [H3]; · iexists f3; iexact H3
  iexists f4; iexact H4

theorem sound (d : Dev nD) : bodyPre m d ⊢ wpd d bodyP fun _ => bodyPost m d := by
  unfold bodyPre Φ₀ Given
  simp only [before_x, before_wq, before_wo]
  unfold Dat.owesAt Pipeline.owesWithin
  rw [show (dats m 0 d).owed t0_0.castSucc = O₀ d from rfl]
  iintro ⟨⟨⟨⟨%K, #HK, Hpos, Hpay⟩, Hcr, Ha, #Hlev⟩, Hsc⟩, ⟨%W, -, HO⟩, ⟨%g0, H0⟩, ⟨%g1, H1⟩, ⟨%g2, H2⟩, ⟨%g3, H3⟩⟩
  ihave Hsc := (scratch_in d) $$ Hsc
  icases Hsc with ⟨Hk, Hv, Hbufs⟩
  ihave HE := (entry m d) $$ [HO Hpos Hpay Hcr Ha Hk Hv]
  · unfold Ready0
    isplitl [HO]; · iexists W; iexact HO
    isplitl [Hpos]; · iexact Hpos
    isplitl [Hpay]; · iexact Hpay
    isplitl [Hcr]; · iexact Hcr
    isplitl [Ha]; · iexact Ha
    isplitl [Hk]; · iexact Hk
    iexact Hv
  icases HE with ⟨HE, Hkept⟩
  ihave HC := (comp_start m d (Xof m d) (Wof m d) (WOof m d)) $$ [H0 H1 H2 H3 Hbufs]
  · isplitl [H0]; · iexact H0
    isplitl [H1]; · iexact H1
    isplitl [H2]; · iexact H2
    isplitl [H3]; · iexists ((dats m 0 d).before (3 : Fin 4) t0_0 g3); iexact H3
    iexact Hbufs
  ihave H := (wp_whole m K d (Xof m d) (Wof m d) (WOof m d)) $$ [HE HC]
  · isplitr
    · unfold Know
      isplitr; · iexact HK
      iexact Hlev
    isplitl [HE]; · iexact HE
    iexact HC
  iapply (wp_fupd (Fr := frame) (wpE := wpE (defs₀ (F := F)) 𝒱₀ (d : Thread nD τ) none) (E := Set.univ))
  iapply wpd_wand
  isplitl [H]; · iexact H
  iintro %x ⟨HC, HX⟩
  ihave HF := (leave m d) $$ [HX Hkept]
  · isplitl [HX]; · iexact HX
    iexact Hkept
  unfold Final
  icases HF with ⟨⟨%W', HO⟩, Hd, Ha, Hk, Hv⟩
  imod (close_cells m K d) $$ [Hd] with Hsem
  · isplitr; · iexact HK
    iexact Hd
  imodintro
  ihave HC := (comp_end m d (Xof m d) (Wof m d) (WOof m d)) $$ HC
  icases HC with ⟨H0, H1, H2, H3, Hbufs⟩
  unfold bodyPost Φ₁ Dat.owesAt Pipeline.owesWithin
  isplitl [Ha Hk Hv Hbufs Hsem]
  · isplitl [Ha]; · iexact Ha
    isplitl [Hk Hv Hbufs]
    · iapply (scratch_out d (KB m) (VB m))
      isplitl [Hk]; · iexact Hk
      isplitl [Hv]; · iexact Hv
      iexact Hbufs
    iexact Hsem
  isplitl [HO]
  · iexists W'
    isplitr; · ipureintro; exact fun _ _ => Or.inl trivial
    iexact HO
  isplitl [H0]; · iexact H0
  isplitl [H1]; · iexact H1
  isplitl [H2]; · iexact H2
  iexact H3

set_option maxRecDepth 8000 in
theorem body_obligation (d : Dev nD) : BodyObligation (dats m 0 d) (defs₀ (F := F)) 𝒱₀ () Set.univ := fun t => by
  rw [fin_N0 t]
  rw [bigSep_W, bigSep_W]
  simp only [owns_whole]
  exact sound m d

/-! ## The launch -/

theorem ownSemFacts : Pipeline.OwnSemFacts cfg0.spec osem := by decide

theorem dats_share (d : Dev nD) (w : Fin cfg0.W) : (dats m 0 d).share w = fullShare := by unfold Dat.share; split <;> rfl

def start (d : Dev nD) : sProp 𝕄 := iprop(Given m d ∗ Credit d ∗ Args m d ∗ levAts L lv)

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ Given m d)
      ⊢ |={Set.univ}=> iprop(start m d ∗ emp) := by
  rw [Pipeline.unscopedRestP_none, unscopedRest0_eq]
  iintro ⟨Ha, Hlev, Hcr, -, HG⟩
  ihave Hc := (credit (F := F) d) $$ Hcr
  imodintro
  unfold start Args
  isplitl
  · isplitl [HG]; · iexact HG
    isplitl [Hc]; · iexact Hc
    isplitl [Ha]; · iexact Ha
    iexact Hlev
  · iempintro

theorem phi0_intro (d : Dev nD) :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl]
  unfold Φ₀ start
  iintro ⟨Hs, -, Hr⟩
  isplitl [Hs]; · iexact Hs
  iexact Hr

/-- What is read when all is over: the unscoped arguments and the barrier. -/
def atEnd (d : Dev nD) : sProp 𝕄 := iprop(Args m d ∗ unscopedSems0 d)

theorem phi1_exit (d : Dev nD) :
    (dats m 0 d).Φ (Fin.last cfg0.N) ⊢ iprop(atEnd m d ∗ Pipeline.ownSems0 osem d ∗ Pipeline.scopedRest cfg0.spec d) := by
  rw [show (dats m 0 d).Φ (Fin.last cfg0.N) = Φ₁ m d from rfl]
  unfold Φ₁ atEnd
  rw [sems_eq]
  iintro ⟨Ha, Hr, Hu, Ho⟩
  isplitl [Ha Hu]
  · isplitl [Ha]; · iexact Ha
    iexact Hu
  isplitl [Ho]; · iexact Ho
  iexact Hr

theorem waits (d : Dev nD) : (levAts L lv : sProp 𝕄) ⊢ Pipeline.cellsWaits cfgs (dats m) () 0 d :=
  Pipeline.cellsWaits_intro cfgs (dats m) () 0 d fun w s t =>
    mayWait_stage d _ (by fin_cases w <;> fin_cases s <;> decide) _ (by
      rcases t with ⟨_ | _, ht⟩
      · exact Or.inl rfl
      · exact Or.inr rfl)

/-- Every array after the run. -/
def finalA (d : Dev nD) (w : Fin cfg0.W) : Buf (Elt F) ((cfg0.win w).arr.view.loc (d : Thread nD τ)) := (dats m 0 d).arrAt w cfg0.N

def AtEnd (d : Dev nD) (s : MemSt nD τ sig (Elt F)) : Prop :=
  (s.mem ((d : Thread nD τ).loc main_arg2) = m ((d : Thread nD τ).loc main_arg2) ∧ s.mem ((d : Thread nD τ).loc main_arg3) = m ((d : Thread nD τ).loc main_arg3))
    ∧ ∀ sm : SemLoc sig, sm.isScoped .tc = false → s.sem ((d.tc : Thread nD τ), sm) = 0

theorem read_end (d : Dev nD) (s' : Phys nD τ sig (Elt F)) :
    iprop(atEnd m d ∗ emp ∗ SI s') ⊢ |={Set.univ}=> iprop(⌜AtEnd m d s'.mem⌝ ∗ SI s') := by
  unfold atEnd Args
  iintro ⟨⟨⟨Hk, Hv⟩, Hu⟩, -, HSI⟩
  icombine HSI Hk gives %hk
  icombine HSI Hv gives %hv
  imod (Pipeline.unscopedSems0_read (X := unscopedSems0 d) (c := d) fupd_intro s') $$ [Hu HSI] with ⟨%hz, HSI⟩
  · isplitl [Hu] <;> iassumption
  imodintro
  isplitr
  · ipureintro
    exact ⟨⟨Buf.eq_of_forall_mem_univ hk, Buf.eq_of_forall_mem_univ hv⟩, hz⟩
  iexact HSI

def QC (r : PUnit × MemSt nD τ sig (Elt F)) : Prop :=
  ∀ d : Dev nD, (∀ w : Fin cfg0.W, r.2.mem ((cfg0.win w).arr.view.loc (d : Thread nD τ)) = finalA m d w) ∧ AtEnd m d r.2

set_option maxRecDepth 8000 in
theorem run_all : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun d => body_obligation m d) (hne := block_pos0) (harr := arr_whole0) (hstage := stage_whole0) (hshare := dats_share m)
    (hdistinct := winFacts0.arr_inj)
    (O₀ := O₀) (howed₀ := fun _ => rfl) (howedN := fun _ => rfl)
    (L := L) (lv := lv) (hL := L_of_ne) (hwaits := waits m)
    (G := Dealt m) (G' := Given m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := atEnd m) (Z := fun _ => iprop(emp))
    (hX := start_intro m ρ) (hin := phi0_intro m) (hout := phi1_exit m)
    (QY := AtEnd m) (hY := read_end m)
    (hQ := fun _ h hs => ⟨fun d => ⟨(h d).1, (h d).2.2⟩, sem_eq_zero hs fun d => (h d).2.2.2⟩)

/-- The result array: its one block is the whole. -/
theorem final_out (d : Dev nD) : finalA m d (3 : Fin 4) = resOf m d := by
  have e : (win0_3.blk (0 : Fin 1)).view.read (Elt F) (finalA m d (3 : Fin 4)) = resOf m d := by
    unfold finalA
    rw [show cfg0.N = ((0 : Fin 1) : Fin cfg0.N).val + 1 from rfl, (dats m 0 d).arrAt_succ (3 : Fin 4) (0 : Fin 1)]
    rw [show (cfg0.win (3 : Fin 4)).flush (0 : Fin 1) = true from by decide, if_pos rfl]
    exact View.read_write_univ _ _
  exact (blk_out (F := F) _).symm.trans e

/-- THE RUN: every device's result array at `resOf`, the five arguments unchanged, every semaphore at zero. -/
theorem run_main : θ_run defs (onTc (τ := τ) (main (F := F))) (s₀ m ρ) (fun r =>
    (∀ d : Dev nD, r.2.mem ((d.tc : Thread nD τ).loc main_v1) = resOf m d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4))
    ∧ r.2.sem = fun _ => 0) :=
  (θ_run defs _ _).mono (fun r h => ⟨fun d => ⟨((h.1 d).1 (3 : Fin 4)).trans (final_out m d),
      ((h.1 d).1 (0 : Fin 4)).trans ((dats m 0 d).arrAt_in (0 : Fin 4) rfl _),
      ((h.1 d).1 (1 : Fin 4)).trans ((dats m 0 d).arrAt_in (1 : Fin 4) rfl _),
      (h.1 d).2.1.1, (h.1 d).2.1.2,
      ((h.1 d).1 (2 : Fin 4)).trans ((dats m 0 d).arrAt_in (2 : Fin 4) rfl _)⟩, h.2⟩) (run_all m ρ)

end Cert.Attn
-- ==== Proof.Frames.lean ====
/-
# What the three programs do with their arguments

The kernel and its idealization are one text but for the four masks, which the idealization names. At the hardware's
values a named constant is its bits, so the idealization's run, written once for any values, is the kernel's too.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Attn

open Idealize.ShloMosaic Idealize.SL.Sem

/-- A named constant at the hardware's values: its bits. -/
instance namedBits : Named Bits where
  named _ _ bits := FloatOps.ofBits bits

set_option maxRecDepth 20000 in
theorem bodies_eq : @Cert.KernelIdeal.defs₀ Bits _ _ Cert.KernelIdeal.Gen.facts = @Cert.Kernel.defs₀ Bits _ Cert.Kernel.Gen.facts := by
  unfold Cert.KernelIdeal.defs₀ Cert.Kernel.defs₀
  refine congrArg Defs.onTc (funext fun i => funext fun a => ?_)
  match i, a with
  | 0, (t, s) => rfl

theorem defs_eq : @Cert.KernelIdeal.defs Bits _ _ Cert.KernelIdeal.Gen.facts = @Cert.Kernel.defs Bits _ Cert.Kernel.Gen.facts :=
  congrArg (Pipeline.defs (Cert.KernelIdeal.pcfgs (F := Bits))) bodies_eq

theorem quiescent_kernel : Cert.quiescent_Kernel (hKernel := Cert.Kernel.Gen.facts) := fun m ρ _ => by
  have h := run_main (F := Bits) m ρ
  rw [defs_eq] at h
  exact (θ_run (Cert.Kernel.defs (F := Bits)) _ _).mono (fun _ h => ⟨fun c => (h.1 c).2, h.2⟩) h

theorem quiescent_kernelIdeal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

theorem preserves : Cert.preserves_Kernel_KernelIdeal := IdealRules.named_const.statement Cert.KernelIdeal.κ "mask" .f32 0xCE6E6B28#32 ⊥ rfl

theorem quiescent_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Attn
-- ==== Proof.Softmax.lean ====
/-
# Attention over a row's keys, on extended reals

The weights of a row's keys and their sum with the values, over the first `n` keys of a numbered list; keys whose score is
the mask's `⊥` weigh nothing, so a row may be read over more of them. Every weight's divisor is the row's sum of
exponentials, which must not be zero: some score is a real number and none is `⊤`.
-/
module

public import Idealize.ShloMosaic.Lib.IdealHost

@[expose] public section

noncomputable section

namespace Cert.Attn

open Idealize.ShloMosaic

/-- The largest of the first `n` scores; -/
def peak (n : ℕ) (S : ℕ → EReal) : EReal := (Finset.range n).sup S
/-- the sum of their exponentials, each less the largest; -/
def mass (n : ℕ) (S : ℕ → EReal) : EReal := ∑ j ∈ Finset.range n, Ideal.exp (S j - peak n S)
/-- a key's weight; -/
def weight (n : ℕ) (S : ℕ → EReal) (j : ℕ) : EReal := Ideal.div (Ideal.exp (S j - peak n S)) (mass n S)
/-- the values' sum by weight. -/
def attn (n : ℕ) (S v : ℕ → EReal) : EReal := ∑ j ∈ Finset.range n, weight n S j * v j

/-! ## Only the scores read matter -/

theorem peak_congr {n : ℕ} {S S' : ℕ → EReal} (h : ∀ j < n, S j = S' j) : peak n S = peak n S' :=
  Finset.sup_congr rfl fun j hj => h j (Finset.mem_range.1 hj)

theorem mass_congr {n : ℕ} {S S' : ℕ → EReal} (h : ∀ j < n, S j = S' j) : mass n S = mass n S' :=
  Finset.sum_congr rfl fun j hj => by rw [h j (Finset.mem_range.1 hj), peak_congr h]

theorem weight_congr {n : ℕ} {S S' : ℕ → EReal} (h : ∀ j < n, S j = S' j) {j : ℕ} (hj : j < n) : weight n S j = weight n S' j := by
  unfold weight
  rw [h j hj, peak_congr h, mass_congr h]

theorem attn_congr {n : ℕ} {S S' v v' : ℕ → EReal} (h : ∀ j < n, S j = S' j) (hv : ∀ j < n, v j = v' j) : attn n S v = attn n S' v' :=
  Finset.sum_congr rfl fun j hj => by rw [weight_congr h (Finset.mem_range.1 hj), hv j (Finset.mem_range.1 hj)]

/-! ## The sum of exponentials is not zero -/

theorem exp_nonneg (x : EReal) : 0 ≤ Ideal.exp x := by
  induction x with
  | bot => exact le_rfl
  | top => exact le_top
  | coe r => exact EReal.coe_nonneg.2 (Real.exp_pos r).le

theorem exp_zero : Ideal.exp 0 = 1 := by
  have h : Ideal.exp ((0 : ℝ) : EReal) = ((Real.exp 0 : ℝ) : EReal) := rfl
  rw [Real.exp_zero] at h
  exact h

theorem mass_ne_zero {n : ℕ} {S : ℕ → EReal} (ht : ∀ j < n, S j ≠ ⊤) (hb : ∃ j < n, S j ≠ ⊥) : mass n S ≠ 0 := by
  obtain ⟨k, hk, hk'⟩ := hb
  obtain ⟨j, hj, e⟩ := Finset.exists_mem_eq_sup (Finset.range n) ⟨k, Finset.mem_range.2 hk⟩ S
  have e' : peak n S = S j := e
  have hle : S k ≤ S j := e ▸ Finset.le_sup (f := S) (Finset.mem_range.2 hk)
  have hj' : S j ≠ ⊥ := fun h => hk' (le_bot_iff.1 (h ▸ hle))
  have h1 : Ideal.exp (S j - peak n S) = 1 := by
    rw [e', EReal.sub_self (ht j (Finset.mem_range.1 hj)) hj', exp_zero]
  have h2 : Ideal.exp (S j - peak n S) ≤ mass n S :=
    Finset.single_le_sum (f := fun i => Ideal.exp (S i - peak n S)) (fun i _ => exp_nonneg _) hj
  rw [h1] at h2
  intro h
  rw [h] at h2
  exact absurd h2 (by norm_num)

/-! ## Masked keys weigh nothing -/

theorem bot_less (x : EReal) : (⊥ : EReal) - x = ⊥ := by rw [sub_eq_add_neg, EReal.bot_add]

theorem attn_extend {n N : ℕ} (hn : n ≤ N) {S v : ℕ → EReal} (hS : ∀ j, n ≤ j → S j = ⊥) (ht : ∀ j < n, S j ≠ ⊤) (hb : ∃ j < n, S j ≠ ⊥) :
    attn N S v = attn n S v := by
  have hsub : Finset.range n ⊆ Finset.range N := Finset.range_subset_range.2 hn
  have hout : ∀ j, j ∉ Finset.range n → S j = ⊥ := fun j hj => hS j (not_lt.1 fun h => hj (Finset.mem_range.2 h))
  have hp : peak N S = peak n S := by
    refine le_antisymm (Finset.sup_le fun j _ => ?_) (Finset.sup_mono hsub)
    by_cases hj : j ∈ Finset.range n
    · exact Finset.le_sup (f := S) hj
    · rw [hout j hj]; exact bot_le
  have hm : mass N S = mass n S := by
    unfold mass
    rw [hp]
    refine (Finset.sum_subset hsub fun j _ hj => ?_).symm
    rw [hout j hj, bot_less]
    rfl
  have hw : ∀ j, weight N S j = weight n S j := fun j => by unfold weight; rw [hp, hm]
  unfold attn
  simp only [hw]
  refine (Finset.sum_subset hsub fun j _ hj => ?_).symm
  have h0 : weight n S j = 0 := by
    unfold weight
    rw [hout j hj, bot_less]
    exact Ideal.zero_div (mass_ne_zero ht hb)
  rw [h0, zero_mul]

/-! ## From numbered columns to numbers -/

theorem sup_fin {n : ℕ} (S : ℕ → EReal) : (Finset.univ : Finset (Fin n)).fold max ⊥ (fun j => S j.val) = peak n S := by
  change (Finset.univ : Finset (Fin n)).sup (fun j => S j.val) = _
  refine le_antisymm (Finset.sup_le fun j _ => Finset.le_sup (f := S) (Finset.mem_range.2 j.isLt)) (Finset.sup_le fun j hj => ?_)
  exact Finset.le_sup (f := fun i : Fin n => S i.val) (Finset.mem_univ ⟨j, Finset.mem_range.1 hj⟩)

theorem sum_blocks (f : ℕ → EReal) (a b : ℕ) : ∑ j ∈ Finset.range (a + b), f j = ∑ j ∈ Finset.range a, f j + ∑ l : Fin b, f (a + l.val) := by
  rw [Finset.sum_range_add, Finset.sum_range (fun x => f (a + x))]

/-! ## Real numbers -/

/-- Neither infinity. -/
def IsReal (x : EReal) : Prop := x ≠ ⊤ ∧ x ≠ ⊥

theorem isReal_coe (r : ℝ) : IsReal (r : EReal) := ⟨EReal.coe_ne_top r, EReal.coe_ne_bot r⟩
theorem IsReal.exists {x : EReal} (h : IsReal x) : ∃ r : ℝ, x = r := by
  lift x to ℝ using h
  exact ⟨x, rfl⟩
theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _
theorem IsReal.add {x y : EReal} (hx : IsReal x) (hy : IsReal y) : IsReal (x + y) := by
  obtain ⟨a, rfl⟩ := hx.exists
  obtain ⟨b, rfl⟩ := hy.exists
  rw [← EReal.coe_add]
  exact isReal_coe _
theorem IsReal.sum {ι : Type*} (s : Finset ι) {f : ι → EReal} (h : ∀ i ∈ s, IsReal (f i)) : IsReal (∑ i ∈ s, f i) :=
  Finset.sum_induction f IsReal (fun _ _ => IsReal.add) (isReal_coe 0) h

end Cert.Attn
-- ==== Proof.Formula.lean ====
/-
# What both programs compute

The result as a formula over the first `n` keys of a row, at numbered rows and columns; and the printed division of a row
or column number by 64, rounded down, which both programs' masks take.
-/
module

public import proofs.«01_k».proof.Proof.Softmax
public import Idealize.ShloMosaic.Lib.Pointwise
public import Idealize.ShloMosaic.Lib.Affine

@[expose] public section

noncomputable section

namespace Cert.Attn

open Idealize.ShloMosaic

/-! ## The formula -/

/-- A rectangle at a numbered row and column. -/
def at2 {n k : ℕ} [NeZero n] [NeZero k] (v : (⟨2, ![n, k]⟩ : Shape).Idx → EReal) (a b : ℕ) : EReal := v (ix2 (Fin.ofNat n a) (Fin.ofNat k b))

theorem at2_mk {n k : ℕ} [NeZero n] [NeZero k] (v : (⟨2, ![n, k]⟩ : Shape).Idx → EReal) {a b : ℕ} (ha : a < n) (hb : b < k) :
    v (ix2 ⟨a, ha⟩ ⟨b, hb⟩) = at2 v a b := by
  unfold at2
  rw [show Fin.ofNat n a = ⟨a, ha⟩ from Fin.ext (Nat.mod_eq_of_lt ha), show Fin.ofNat k b = ⟨b, hb⟩ from Fin.ext (Nat.mod_eq_of_lt hb)]

/-- The literal that scales the scores. -/
def scale : EReal := Ideal.ofBits FTy.f32 0x3DB504F3#32

variable (X : (⟨3, ![1, 2048, 1024]⟩ : Shape).Idx → EReal) (W WO : (⟨2, ![1024, 1024]⟩ : Shape).Idx → EReal) (K V : ℕ → ℕ → EReal)

/-- Row `i` of the queries, at column `c`; -/
def query (i c : ℕ) : EReal := ∑ k : Fin 1024, X (ix3 0 (Fin.ofNat 2048 i) k) * W (ix2 k (Fin.ofNat 1024 c))
/-- its product with key `j` in head `t`, scaled; -/
def product (i t j : ℕ) : EReal := (∑ d : Fin 128, query X W i (128 * t + d.val) * K j (128 * t + d.val)) * scale
/-- the key's score: `⊥` behind the mask, which lets a row see the keys up to the end of its own block of 64. -/
def score (i t j : ℕ) : EReal := if j / 64 ≤ i / 64 then product X W K i t j else ⊥
/-- The result's row `i` at column `l`, of the first `n` keys. -/
def result (n i : ℕ) (l : Fin 1024) : EReal :=
  ∑ c : Fin 1024, attn n (score X W K i (c.val / 128)) (fun j => V j c.val) * WO (ix2 c l)

theorem score_of_le {i t j : ℕ} (h : j / 64 ≤ i / 64) : score X W K i t j = product X W K i t j := if_pos h
theorem score_of_lt {i t j : ℕ} (h : ¬ j / 64 ≤ i / 64) : score X W K i t j = ⊥ := if_neg h

theorem query_mk {i c : ℕ} (hi : i < 2048) (hc : c < 1024) : (∑ k : Fin 1024, X (ix3 0 ⟨i, hi⟩ k) * W (ix2 k ⟨c, hc⟩)) = query X W i c := by
  unfold query
  rw [show Fin.ofNat 2048 i = ⟨i, hi⟩ from Fin.ext (Nat.mod_eq_of_lt hi), show Fin.ofNat 1024 c = ⟨c, hc⟩ from Fin.ext (Nat.mod_eq_of_lt hc)]

theorem neg_inf : Ideal.ofBits FTy.f32 0xFF800000#32 = ⊥ := by simp [Ideal.ofBits, Ideal.ieee]

/-! ## A number divided by 64 -/

theorem two_pow_31 : (2 : ℕ) ^ 31 = 2147483648 := by norm_num

theorem toNat_word {n : ℕ} (h : n < 2 ^ 31) : (BitVec.ofNat 32 n).toNat = n := by
  rw [BitVec.toNat_ofNat]
  exact Nat.mod_eq_of_lt (by omega)
theorem toInt_word {n : ℕ} (h : n < 2 ^ 31) : (BitVec.ofNat 32 n).toInt = n := by
  rw [BitVec.toInt_eq_toNat_of_lt (by rw [toNat_word h]; omega), toNat_word h]
theorem msb_word {n : ℕ} (h : n < 2 ^ 31) : (BitVec.ofNat 32 n).msb = false := by
  rw [BitVec.msb_eq_false_iff_two_mul_lt, toNat_word h]; omega

theorem div64 (u : ArithUnit) {n : ℕ} (h : n < 2 ^ 31) : IntOp.divsi u (BitVec.ofNat 32 n) 64#32 = BitVec.ofNat 32 (n / 64) := by
  unfold IntOp.divsi
  rw [if_neg (IntOp.not_corner_of_pos (by decide)), BitVec.sdiv_eq, msb_word h, show (64#32 : BitVec 32).msb = false from by decide]
  apply BitVec.eq_of_toNat_eq
  show (BitVec.ofNat 32 n / 64#32).toNat = _
  rw [BitVec.toNat_udiv, toNat_word h, show (64#32 : BitVec 32).toNat = 64 from rfl]
  exact (toNat_word (by omega)).symm
theorem rem64_zero (u : ArithUnit) : IntOp.remsi u (BitVec.ofNat 32 0) 64#32 = 0#32 :=
  (IntOp.remsi_eq_zero_iff u (x := BitVec.ofNat 32 0) (by decide) 64 (by decide) (by decide)).2 (by decide)

theorem cmp_sgt {n : ℕ} (h : n < 2 ^ 31) (h0 : 0 < n) : IntOp.cmpi .sgt (BitVec.ofNat 32 n) 0#32 = 1#1 :=
  IntOp.cmpi_sgt.2 (by rw [toInt_word h]; simpa using h0)
theorem bit_zero {b : BitVec 1} (h : ¬ b = 1#1) : b = 0#1 := by revert b; decide
theorem cmp_slt {n : ℕ} (h : n < 2 ^ 31) : IntOp.cmpi .slt (BitVec.ofNat 32 n) 0#32 = 0#1 :=
  bit_zero fun e => by
    have := IntOp.cmpi_slt.1 e
    rw [toInt_word h] at this
    simp only [BitVec.toInt_zero] at this
    omega
theorem cmp_sle {a b : ℕ} (ha : a < 2 ^ 31) (hb : b < 2 ^ 31) : IntOp.cmpi .sle (BitVec.ofNat 32 a) (BitVec.ofNat 32 b) = 1#1 ↔ a ≤ b := by
  rw [IntOp.cmpi_sle, toInt_word ha, toInt_word hb]; exact Int.ofNat_le

/-- A division's printed correction: the quotient less one where the signs differ and a remainder is left. With a number that
    is not negative the two don't meet, whatever tells the signs apart (`c`). -/
theorem floor_select (u : ArithUnit) {n : ℕ} (h : n < 2 ^ 31) {c : BitVec 1} (hc : 0 < n → c = 0#1) :
    Scalar.select (IntOp.andi c (IntOp.cmpi .ne (IntOp.remsi u (BitVec.ofNat 32 n) 64#32) 0#32))
      (IntOp.subi (IntOp.divsi u (BitVec.ofNat 32 n) 64#32) 1#32) (IntOp.divsi u (BitVec.ofNat 32 n) 64#32) = BitVec.ofNat 32 (n / 64) := by
  have hz : IntOp.andi c (IntOp.cmpi .ne (IntOp.remsi u (BitVec.ofNat 32 n) 64#32) 0#32) ≠ 1#1 := by
    rw [Ne, IntOp.andi_eq_one]
    rintro ⟨h1, h2⟩
    rcases Nat.eq_zero_or_pos n with rfl | hn
    · exact IntOp.cmpi_ne.1 h2 (rem64_zero u)
    · rw [hc hn] at h1
      exact absurd h1 (by decide)
  exact (if_neg hz).trans (div64 u h)

end Cert.Attn
-- ==== Proof.KernelValue.lean ====
/-
# The kernel's result, by the formula

A stage's 512 rows read the first `512 (s + 1)` keys: four blocks of scores at most, whose weights are taken over all of them
and whose products with the values are added block by block.
-/
module

public import proofs.«01_k».proof.Proof.Stage
public import proofs.«01_k».proof.Proof.Formula

@[expose] public section

noncomputable section

namespace Cert.Attn

open Cert.KernelIdeal Cert.KernelIdeal.Gen
open Idealize.ShloMosaic

/-! ## What is read -/

theorem read_q (Q : S512x1024.Idx → EReal) (t : Fin 8) (r : Fin 512) (d : Fin 128) :
    headQ (F := Ideal) Q t (ix2 r d) = Q (ix2 r ⟨128 * t.val + d.val, by omega⟩) := by
  unfold headQ
  rw [View.readAt_apply]
  refine congrArg Q (funext fun a => Fin.ext ?_)
  match a with
  | ⟨0, _⟩ => show 0 + 1 * r.val = r.val; omega
  | ⟨1, _⟩ => show 128 * t.val + 1 * d.val = 128 * t.val + d.val; omega
theorem read_k (B : S2048x1024.Idx → EReal) (k : Fin 4) (t : Fin 8) (r : Fin 512) (d : Fin 128) :
    headK (F := Ideal) B k t (ix2 r d) = at2 B (512 * k.val + r.val) (128 * t.val + d.val) := by
  rw [← at2_mk B (a := 512 * k.val + r.val) (b := 128 * t.val + d.val) (by omega) (by omega)]
  unfold headK
  rw [View.readAt_apply]
  refine congrArg B (funext fun a => Fin.ext ?_)
  match a with
  | ⟨0, _⟩ => show 512 * k.val + 1 * r.val = 512 * k.val + r.val; omega
  | ⟨1, _⟩ => show 128 * t.val + 1 * d.val = 128 * t.val + d.val; omega
theorem read_v (B : S2048x1024.Idx → EReal) (k : Fin 4) (t : Fin 8) (r : Fin 512) (d : Fin 128) :
    headV (F := Ideal) B k t (ix2 r d) = at2 B (512 * k.val + r.val) (128 * t.val + d.val) := by
  rw [← at2_mk B (a := 512 * k.val + r.val) (b := 128 * t.val + d.val) (by omega) (by omega)]
  unfold headV
  rw [View.readAt_apply]
  refine congrArg B (funext fun a => Fin.ext ?_)
  match a with
  | ⟨0, _⟩ => show 512 * k.val + 1 * r.val = 512 * k.val + r.val; omega
  | ⟨1, _⟩ => show 128 * t.val + 1 * d.val = 128 * t.val + d.val; omega
theorem read_rows (X : S1x2048x1024.Idx → EReal) (s : Fin 4) (r : Fin 512) (c : Fin 1024) :
    rowsOf (F := Ideal) s X (ix3 0 r c) = X (ix3 0 ⟨512 * s.val + r.val, by omega⟩ c) := by
  unfold rowsOf
  rw [View.readAt_apply]
  refine congrArg X (funext fun a => Fin.ext ?_)
  match a with
  | ⟨0, _⟩ => rfl
  | ⟨1, _⟩ => show 512 * s.val + 1 * r.val = 512 * s.val + r.val; omega
  | ⟨2, _⟩ => show 0 + 1 * c.val = c.val; omega

/-! ## The payloads at an index -/

theorem qPay_at (s : Fin 4) (x : Vec Ideal S1x512x1024 .f32) (w : Vec Ideal S1024x1024 .f32) (r : Fin 512) (l : Fin 1024) :
    qPay s x w (ix2 r l) = ∑ k : Fin 1024, x (ix3 0 r k) * w (ix2 k l) :=
  match s with
  | 0 => by unfold qPay; unfold_payloads; pointwise
  | 1 => by unfold qPay; unfold_payloads; pointwise
  | 2 => by unfold qPay; unfold_payloads; pointwise
  | 3 => by unfold qPay; unfold_payloads; pointwise
theorem oPay_at (s : Fin 4) (c : Vec Ideal S512x1024 .f32) (w : Vec Ideal S1024x1024 .f32) (r : Fin 512) (l : Fin 1024) :
    oPay s c w (ix3 0 r l) = ∑ k : Fin 1024, c (ix2 r k) * w (ix2 k l) :=
  match s with
  | 0 => by unfold oPay; unfold_payloads; pointwise
  | 1 => by unfold oPay; unfold_payloads; pointwise
  | 2 => by unfold oPay; unfold_payloads; pointwise
  | 3 => by unfold oPay; unfold_payloads; pointwise
theorem rawSc_at (x y : Vec Ideal S512x128 .f32) (r l : Fin 512) :
    rawSc x y (ix2 r l) = (∑ d : Fin 128, x (ix2 r d) * y (ix2 l d)) * scale := by
  unfold scale
  pointwise [rawSc]
theorem avPay_at (p : Vec Ideal S512x512 .f32) (v : Vec Ideal S512x128 .f32) (r : Fin 512) (l : Fin 128) :
    avPay p v (ix2 r l) = ∑ j : Fin 512, p (ix2 r j) * v (ix2 j l) := by
  pointwise [avPay]

theorem floor64_at (v : IVec S512x512 32) (i : S512x512.Idx) {n : ℕ} (h : n < 2 ^ 31) (hv : v i = BitVec.ofNat 32 n) :
    floor64 v i = BitVec.ofNat 32 (n / 64) := by
  have e := floor_select .vector h (c := IntOp.cmpi .ne
    (IntOp.subi (BitVec.setWidth 32 (IntOp.cmpi .sgt (BitVec.ofNat 32 n) 0#32)) (BitVec.setWidth 32 (IntOp.cmpi .slt (BitVec.ofNat 32 n) 0#32)))
    (Scalar.subi (Scalar.extui (Scalar.cmpi .sgt 64#32 0#32)) (Scalar.extui (Scalar.cmpi .slt 64#32 0#32))))
    (fun hn => by rw [cmp_sgt h hn, cmp_slt h]; decide)
  rw [← hv] at e
  exact e.trans rfl
theorem sees_at (r l : Fin 512) : sees (ix2 r l) = 1#1 ↔ l.val / 64 ≤ r.val / 64 := by
  have h1 : l.val < 2 ^ 31 := lt_trans l.isLt (by norm_num)
  have h2 : r.val < 2 ^ 31 := lt_trans r.isLt (by norm_num)
  have e : sees (ix2 r l) = IntOp.cmpi .sle (BitVec.ofNat 32 (l.val / 64)) (BitVec.ofNat 32 (r.val / 64)) := by
    unfold sees
    show IntOp.cmpi .sle (floor64 _ _) (floor64 _ _) = _
    rw [floor64_at _ (ix2 r l) h1 (by pointwise), floor64_at _ (ix2 r l) h2 (by pointwise)]
  rw [e, cmp_sle (by omega) (by omega)]

/-- The mask's name is `⊥`. -/
theorem mask_bot : (Named.named κ "mask" 0xCE6E6B28#32 : Ideal .f32) = (⊥ : EReal) := by
  rfl

theorem scPay_at (s k : Fin 4) (hk : k ≤ s) (x y : Vec Ideal S512x128 .f32) (r l : Fin 512) :
    scPay s k x y (ix2 r l) = if (512 * k.val + l.val) / 64 ≤ (512 * s.val + r.val) / 64 then (∑ d : Fin 128, x (ix2 r d) * y (ix2 l d)) * scale else ⊥ := by
  have hks : k.val ≤ s.val := hk
  unfold scPay
  by_cases h : k = s
  · rw [if_pos h]
    subst h
    have e : (512 * k.val + l.val) / 64 ≤ (512 * k.val + r.val) / 64 ↔ sees (ix2 r l) = 1#1 := by rw [sees_at]; omega
    rw [if_congr e rfl rfl, ← rawSc_at]
    pointwise
    rw [mask_bot]
    rfl
  · rw [if_neg h]
    have hlt : k.val < s.val := lt_of_le_of_ne hks fun e => h (Fin.ext e)
    rw [if_pos (by omega), ← rawSc_at]
    pointwise

/-- A row's weights as they are computed, over as many columns as stage `s` has. -/
def rowWeight (s : Fin 4) (v : Vec Ideal (wSh s) .f32) (r : Fin 512) (l : Fin (512 * (s.val + 1))) : EReal :=
  Ideal.div
    (Ideal.exp (v (ix2 r l) - (Finset.univ : Finset (Fin (512 * (s.val + 1)))).fold max (Ideal.ofBits FTy.f32 0xFF800000#32) (fun k => v (ix2 r k))))
    (∑ j : Fin (512 * (s.val + 1)), Ideal.exp (v (ix2 r j) - (Finset.univ : Finset (Fin (512 * (s.val + 1)))).fold max (Ideal.ofBits FTy.f32 0xFF800000#32) (fun k => v (ix2 r k))))

theorem sm0_at (v : Vec Ideal (wSh 0) .f32) (r : Fin 512) (l : Fin (512 * ((0 : Fin 4).val + 1))) :
    smPay 0 v (ix2 r l) = rowWeight 0 v r l := by
  pointwise [smPay, smE, spread, wSh]
  rw [Shape.Reduces.fold_fiber_r2_a1 (n0 := 512) (n1 := 512)]
  rfl
theorem sm1_at (v : Vec Ideal (wSh 1) .f32) (r : Fin 512) (l : Fin (512 * ((1 : Fin 4).val + 1))) :
    smPay 1 v (ix2 r l) = rowWeight 1 v r l := by
  pointwise [smPay, smE, spread, wSh]
  rw [Shape.Reduces.fold_fiber_r2_a1 (n0 := 512) (n1 := 1024)]
  rfl
theorem sm2_at (v : Vec Ideal (wSh 2) .f32) (r : Fin 512) (l : Fin (512 * ((2 : Fin 4).val + 1))) :
    smPay 2 v (ix2 r l) = rowWeight 2 v r l := by
  pointwise [smPay, smE, spread, wSh]
  rw [Shape.Reduces.fold_fiber_r2_a1 (n0 := 512) (n1 := 1536)]
  rfl
theorem sm3_at (v : Vec Ideal (wSh 3) .f32) (r : Fin 512) (l : Fin (512 * ((3 : Fin 4).val + 1))) :
    smPay 3 v (ix2 r l) = rowWeight 3 v r l := by
  pointwise [smPay, smE, spread, wSh]
  rw [Shape.Reduces.fold_fiber_r2_a1 (n0 := 512) (n1 := 2048)]
  rfl
theorem sm_at (s : Fin 4) (v : Vec Ideal (wSh s) .f32) (r : Fin 512) (l : Fin (512 * (s.val + 1))) :
    smPay s v (ix2 r l) = rowWeight s v r l :=
  match s with
  | 0 => sm0_at v r l
  | 1 => sm1_at v r l
  | 2 => sm2_at v r l
  | 3 => sm3_at v r l

theorem smPay_at (s : Fin 4) (v : Vec Ideal (wSh s) .f32) (S : ℕ → EReal) (r : Fin 512)
    (hS : ∀ j : Fin (512 * (s.val + 1)), v (ix2 r j) = S j.val) (l : Fin (512 * (s.val + 1))) :
    smPay s v (ix2 r l) = weight (512 * (s.val + 1)) S l.val := by
  have hp : (Finset.univ : Finset (Fin (512 * (s.val + 1)))).fold max (Ideal.ofBits FTy.f32 0xFF800000#32) (fun k => v (ix2 r k)) = peak (512 * (s.val + 1)) S := by
    rw [neg_inf, ← sup_fin]
    exact congrArg (fun f => Finset.fold max ⊥ f Finset.univ) (funext hS)
  rw [sm_at, rowWeight, hp]
  unfold weight mass
  rw [Finset.sum_range]
  simp only [hS]

/-! ## A head's columns -/

section
variable (X : S1x2048x1024.Idx → EReal) (W WO : S1024x1024.Idx → EReal) (K V : S2048x1024.Idx → EReal) (s : Fin 4) (t : Fin 8) (r : Fin 512)

theorem query_at (c : Fin 1024) : qPay (F := Ideal) s (rowsOf s X) W (ix2 r c) = query X W (512 * s.val + r.val) c.val := by
  rw [qPay_at, ← query_mk X W (by omega) c.isLt]
  exact Finset.sum_congr rfl fun k _ => by rw [read_rows]

theorem scoreOf_at (k : Fin 4) (hk : k ≤ s) (l : Fin 512) :
    scoreOf (F := Ideal) s t (qPay (F := Ideal) s (rowsOf s X) W) K k (ix2 r l) = score X W (at2 K) (512 * s.val + r.val) t.val (512 * k.val + l.val) := by
  unfold scoreOf score product
  rw [scPay_at s k hk]
  refine if_congr Iff.rfl (congrArg (· * scale) (Finset.sum_congr rfl fun d _ => ?_)) rfl
  rw [read_q, read_k, query_at]

theorem wideOf_at (j : Fin (512 * (s.val + 1))) :
    wideOf (F := Ideal) s t (qPay (F := Ideal) s (rowsOf s X) W) K (ix2 r j) = score X W (at2 K) (512 * s.val + r.val) t.val j.val := by
  have hj := j.isLt
  have hs := s.isLt
  refine (scoreOf_at X W K s t r ⟨j.val / 512, by omega⟩ (show j.val / 512 ≤ s.val by omega) ⟨j.val % 512, Nat.mod_lt _ (by decide)⟩).trans ?_
  exact congrArg (score X W (at2 K) (512 * s.val + r.val) t.val) (Nat.div_add_mod j.val 512)

theorem wBlk_at (k : Fin 4) (hk : k ≤ s) (l : Fin 512) :
    wBlk (F := Ideal) s t (qPay (F := Ideal) s (rowsOf s X) W) K k (ix2 r l)
      = weight (512 * (s.val + 1)) (score X W (at2 K) (512 * s.val + r.val) t.val) (512 * k.val + l.val) := by
  have hks : k.val ≤ s.val := hk
  refine (smPay_at s _ _ r (wideOf_at X W K s t r) ⟨(512 * k.val + l.val) % (512 * (s.val + 1)), Nat.mod_lt _ (by omega)⟩).trans ?_
  exact congrArg (weight _ _) (Nat.mod_eq_of_lt (by omega))

/-- A block's part of a head's sum. -/
theorem av_at (k : Fin 4) (hk : k ≤ s) (d : Fin 128) :
    avPay (F := Ideal) (wBlk s t (qPay (F := Ideal) s (rowsOf s X) W) K k) (headV V k t) (ix2 r d)
      = ∑ l : Fin 512, weight (512 * (s.val + 1)) (score X W (at2 K) (512 * s.val + r.val) t.val) (512 * k.val + l.val)
          * at2 V (512 * k.val + l.val) (128 * t.val + d.val) := by
  rw [avPay_at]
  exact Finset.sum_congr rfl fun l _ => by rw [wBlk_at X W K s t r k hk, read_v]

end

theorem sum_next (f : ℕ → EReal) (n : ℕ) :
    ∑ j ∈ Finset.range (512 * (n + 1)), f j = ∑ j ∈ Finset.range (512 * n), f j + ∑ l : Fin 512, f (512 * n + l.val) :=
  sum_blocks f (512 * n) 512

theorem acc_at (p : Vec Ideal S512x512 .f32) (v : Vec Ideal S512x128 .f32) (l : List (Vec Ideal S512x512 .f32 × Vec Ideal S512x128 .f32)) (i : S512x128.Idx) :
    accPay p v l i = l.foldl (fun a x => a + avPay x.1 x.2 i) (avPay p v i) := by
  have h : ∀ (l : List (Vec Ideal S512x512 .f32 × Vec Ideal S512x128 .f32)) (z : FVec Ideal S512x128 .f32),
      (l.foldl (fun a x => addf a (avPay x.1 x.2)) z) i = l.foldl (fun a x => a + avPay x.1 x.2 i) (z i) := by
    intro l
    induction l with
    | nil => intro z; rfl
    | cons x l ih => intro z; exact ih _
  unfold accPay
  rw [shapeCast_self]
  exact h l _

theorem headOf_at (X : S1x2048x1024.Idx → EReal) (W : S1024x1024.Idx → EReal) (K V : S2048x1024.Idx → EReal) (s : Fin 4) (t : Fin 8) (r : Fin 512) (d : Fin 128) :
    headOf (F := Ideal) s t (qPay (F := Ideal) s (rowsOf s X) W) K V (ix2 r d)
      = attn (512 * (s.val + 1)) (score X W (at2 K) (512 * s.val + r.val) t.val) (fun j => at2 V j (128 * t.val + d.val)) := by
  have hav := fun k hk => av_at X W K V s t r k hk d
  unfold headOf
  rw [acc_at]
  match s, hav with
  | 0, hav =>
    show avPay _ _ _ = ∑ j ∈ Finset.range (512 * (0 + 1)), _
    rw [hav 0 (by decide), sum_next, Nat.mul_zero, Finset.sum_range_zero, zero_add]
    rfl
  | 1, hav =>
    show avPay _ _ _ + avPay _ _ _ = ∑ j ∈ Finset.range (512 * (0 + 1 + 1)), _
    rw [hav 0 (by decide), hav 1 (by decide), sum_next, sum_next, Nat.mul_zero, Finset.sum_range_zero, zero_add]
    rfl
  | 2, hav =>
    show avPay _ _ _ + avPay _ _ _ + avPay _ _ _ = ∑ j ∈ Finset.range (512 * (0 + 1 + 1 + 1)), _
    rw [hav 0 (by decide), hav 1 (by decide), hav 2 (by decide), sum_next, sum_next, sum_next, Nat.mul_zero, Finset.sum_range_zero, zero_add]
    rfl
  | 3, hav =>
    show avPay _ _ _ + avPay _ _ _ + avPay _ _ _ + avPay _ _ _ = ∑ j ∈ Finset.range (512 * (0 + 1 + 1 + 1 + 1)), _
    rw [hav 0 (by decide), hav 1 (by decide), hav 2 (by decide), hav 3 (by decide), sum_next, sum_next, sum_next, sum_next, Nat.mul_zero, Finset.sum_range_zero, zero_add]
    rfl

/-! ## The result -/

theorem ctxOf_at (X : S1x2048x1024.Idx → EReal) (W : S1024x1024.Idx → EReal) (K V : S2048x1024.Idx → EReal) (s : Fin 4) (r : Fin 512) (c : Fin 1024) :
    ctxOf (F := Ideal) s (qPay (F := Ideal) s (rowsOf s X) W) K V (ix2 r c)
      = attn (512 * (s.val + 1)) (score X W (at2 K) (512 * s.val + r.val) (c.val / 128)) (fun j => at2 V j c.val) := by
  refine (headOf_at X W K V s ⟨c.val / 128, by omega⟩ r ⟨c.val % 128, Nat.mod_lt _ (by decide)⟩).trans ?_
  show attn _ _ (fun j => at2 V j (128 * (c.val / 128) + c.val % 128)) = _
  rw [Nat.div_add_mod]

theorem outOf_at (X : S1x2048x1024.Idx → EReal) (W WO : S1024x1024.Idx → EReal) (K V : S2048x1024.Idx → EReal) (i : Fin 2048) (l : Fin 1024) :
    outOf (F := Ideal) X W WO K V (ix3 0 i l) = result X W WO (at2 K) (at2 V) (512 * (i.val / 512 + 1)) i.val l := by
  refine (oPay_at ⟨i.val / 512, by omega⟩ _ WO ⟨i.val % 512, Nat.mod_lt _ (by decide)⟩ l).trans ?_
  unfold result
  refine Finset.sum_congr rfl fun c _ => congrArg (· * WO (ix2 c l)) ?_
  refine (ctxOf_at X W K V ⟨i.val / 512, by omega⟩ ⟨i.val % 512, Nat.mod_lt _ (by decide)⟩ c).trans ?_
  show attn _ (score X W (at2 K) (512 * (i.val / 512) + i.val % 512) _) _ = _
  rw [Nat.div_add_mod]

end Cert.Attn
-- ==== Proof.RefValue.lean ====
/-
# The reference's result, by the formula

The reference reads all 16384 keys for every row. Its parts, named; each read at an index.
-/
module

public import proofs.«01_k».proof.Proof.Formula
public import proofs.«01_k».proof.Proof.Gen.ReferenceIdeal.Run

@[expose] public section

noncomputable section

namespace Cert.Attn

open Cert.ReferenceIdeal Cert.ReferenceIdeal.Gen
open Idealize.ShloMosaic Idealize.ShloMosaic.TcCoe

/-! ## The parts -/

/-- The number of the block of 64 a key lies in; -/
def keyBlock : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32)))) (broadcastInDim S16384 ![] bcast_S_S16384 (constantI S_ 32 0#32))))
    (subi (Host.divsi (iotaInDim S16384 32 0) (broadcastInDim S16384 ![] bcast_S_S16384 (id (constantI S_ 32 64#32)))) (broadcastInDim S16384 ![] bcast_S_S16384 (constantI S_ 32 1#32)))
    (Host.divsi (iotaInDim S16384 32 0) (broadcastInDim S16384 ![] bcast_S_S16384 (id (constantI S_ 32 64#32))))
/-- a row's; -/
def rowBlock : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))
/-- which keys a row sees; -/
def visible : IVec S2048x16384 1 :=
  cmpi .sle (broadcastInDim S2048x16384 ![0, 1] bcast_S1x16384_S2048x16384_0_1 (broadcastInDim S1x16384 ![1] bcast_S16384_S1x16384_1 keyBlock))
    (broadcastInDim S2048x16384 ![0, 1] bcast_S2048x1_S2048x16384_0_1 (broadcastInDim S2048x1 ![0] bcast_S2048_S2048x1_0 rowBlock))
/-- whether it sees any. -/
def anySeen : IVec S2048 1 := Host.reduce IntOp.ori visible (constantI S_ 1 0#1) reducesTo_S2048x16384_S2048_d1 h_S_

section
variable {F : FTy → Type} [FloatOps F] (x : FVec F S1x2048x1024 .f32) (w wo : FVec F S1024x1024 .f32) (k v : FVec F S16384x1024 .f32)

/-- The scores; -/
def rScores : FVec F S1x8x2048x16384 .f32 :=
  select (broadcastInDim S1x8x2048x16384 ![0, 1, 2, 3] bcast_S1x1x2048x16384_S1x8x2048x16384_0_1_2_3 (broadcastInDim S1x1x2048x16384 ![2, 3] bcast_S2048x16384_S1x1x2048x16384_2_3 visible))
    (mulf (Host.dotGeneral dot_S1x2048x8x128_S1x16384x8x128_S1x8x2048x16384_3_3_1_1_02_02 none
        (shapeCast _ (Host.dotGeneral dot_S1x2048x1024_S1024x1024_S1x2048x1024_2_0_01_1_n_n none x w) shapeCasts_S1x2048x1024_S1x2048x8x128)
        (shapeCast _ k shapeCasts_S16384x1024_S1x16384x8x128))
      (broadcastInDim S1x8x2048x16384 ![] bcast_S_S1x8x2048x16384 (constant S_ .f32 0x3DB504F3#32)))
    (broadcastInDim S1x8x2048x16384 ![] bcast_S_S1x8x2048x16384 (id (constant S_ .f32 0xFF800000#32)))
/-- of given scores, the exponentials; -/
def rExps (S : FVec F S1x8x2048x16384 .f32) : FVec F S1x8x2048x16384 .f32 :=
  Host.exp (subf S (broadcastInDim S1x8x2048x16384 ![0, 1, 2, 3] bcast_S1x8x2048x1_S1x8x2048x16384_0_1_2_3
    (broadcastInDim S1x8x2048x1 ![0, 1, 2] bcast_S1x8x2048_S1x8x2048x1_0_1_2
      (Host.reduce FloatOps.maximumf S (constant S_ .f32 0xFF800000#32) reducesTo_S1x8x2048x16384_S1x8x2048_d3 h_S_))))
/-- of given exponentials, the weights, where a row that sees no key (`b`) has none; -/
def rWeights (b : IVec S2048 1) (E : FVec F S1x8x2048x16384 .f32) : FVec F S1x8x2048x16384 .f32 :=
  select (broadcastInDim S1x8x2048x16384 ![0, 1, 2, 3] bcast_S1x1x2048x1_S1x8x2048x16384_0_1_2_3 (broadcastInDim S1x1x2048x1 ![2] bcast_S2048_S1x1x2048x1_2 b))
    (Host.divf E (broadcastInDim S1x8x2048x16384 ![0, 1, 2, 3] bcast_S1x8x2048x1_S1x8x2048x16384_0_1_2_3
      (select (broadcastInDim S1x8x2048x1 ![0, 1, 2, 3] bcast_S1x1x2048x1_S1x8x2048x1_0_1_2_3 (broadcastInDim S1x1x2048x1 ![2] bcast_S2048_S1x1x2048x1_2 b))
        (broadcastInDim S1x8x2048x1 ![0, 1, 2] bcast_S1x8x2048_S1x8x2048x1_0_1_2 (Host.reduceAdd E (constant S_ .f32 0x00000000#32) reducesTo_S1x8x2048x16384_S1x8x2048_d3 h_S_))
        (broadcastInDim S1x8x2048x1 ![] bcast_S_S1x8x2048x1 (id (constant S_ .f32 0x3F800000#32))))))
    (broadcastInDim S1x8x2048x16384 ![] bcast_S_S1x8x2048x16384 (id (constant S_ .f32 0x00000000#32)))
/-- of given weights, the result. -/
def rOut (P : FVec F S1x8x2048x16384 .f32) : FVec F S1x2048x1024 .f32 :=
  Host.dotGeneral dot_S1x2048x1024_S1024x1024_S1x2048x1024_2_0_01_1_n_n none
    (shapeCast _ (transpose S1x2048x8x128 [0, 3, 1, 2]
      (Host.dotGeneral dot_S1x16384x8x128_S1x8x2048x16384_S1x8x128x2048_1_3_3_2_02_01 none (shapeCast _ v shapeCasts_S16384x1024_S1x16384x8x128) P)
      transposes_S1x8x128x2048_S1x2048x8x128_0_3_1_2) shapeCasts_S1x2048x8x128_S1x2048x1024) wo
end

theorem parts {F : FTy → Type} [FloatOps F] (m : (ℓ : Loc nD τ sig) → Buf (Elt F) ℓ) (c : Dev nD) :
    Value.res_main_v35 m c = rOut (m ((c.tc : Thread nD τ).loc main_arg4)) (m ((c.tc : Thread nD τ).loc main_arg3))
      (rWeights anySeen (rExps (rScores (m ((c.tc : Thread nD τ).loc main_arg0)) (m ((c.tc : Thread nD τ).loc main_arg1)) (m ((c.tc : Thread nD τ).loc main_arg2))))) := rfl

/-! ## The mask -/

theorem sign_differs {n : ℕ} (h : n < 2 ^ 31) (h0 : 0 < n) (z : BitVec 32) (hz : z = BitVec.ofNat 32 n) :
    IntOp.cmpi .ne (if z = 0 then 0 else if z.msb then -1 else 1) (if (64#32 : BitVec 32) = 0 then 0 else if (64#32 : BitVec 32).msb then -1 else 1 : BitVec 32) = 0#1 := by
  have hz0 : z ≠ 0 := fun e => by
    have := congrArg BitVec.toNat (hz.symm.trans e)
    rw [toNat_word h] at this
    simp at this
    omega
  rw [if_neg hz0, hz, msb_word h]
  decide

theorem keyBlock_at (j : Fin 16384) : keyBlock (ix1 j) = BitVec.ofNat 32 (j.val / 64) := by
  have h : j.val < 2 ^ 31 := lt_trans j.isLt (by norm_num)
  exact floor_select .host h (fun h0 => sign_differs h h0 (iotaInDim S16384 32 0 (ix1 j)) (by pointwise))
theorem rowBlock_at (i : Fin 2048) : rowBlock (ix1 i) = BitVec.ofNat 32 (i.val / 64) := by
  have h : i.val < 2 ^ 31 := lt_trans i.isLt (by norm_num)
  exact floor_select .host h (fun h0 => sign_differs h h0 (iotaInDim S2048 32 0 (ix1 i)) (by pointwise))

theorem visible_at (i : Fin 2048) (j : Fin 16384) : visible (ix2 i j) = 1#1 ↔ j.val / 64 ≤ i.val / 64 := by
  have e : visible (ix2 i j) = IntOp.cmpi .sle (keyBlock (ix1 j)) (rowBlock (ix1 i)) := by pointwise [visible]
  rw [e, keyBlock_at, rowBlock_at, cmp_sle (by omega) (by omega)]

theorem anySeen_at (i : Fin 2048) : anySeen (ix1 i) = 1#1 := by
  unfold anySeen
  pointwise
  rw [← Finset.insert_erase (Finset.mem_univ (0 : Fin 16384)), Finset.fold_insert (Finset.notMem_erase _ _), IntOp.ori_eq_one]
  exact .inl ((visible_at i 0).2 (by simp))

/-! ## The scores and the weights -/

theorem rScores_at (x : FVec Ideal S1x2048x1024 .f32) (w : FVec Ideal S1024x1024 .f32) (k : FVec Ideal S16384x1024 .f32) (t : Fin 8) (i : Fin 2048) (j : Fin 16384) :
    rScores x w k (ix4 0 t i j) = score x w (at2 k) i.val t.val j.val := by
  pointwise [rScores]
  have hk : ∀ d : Fin 128, k (ix2 j ⟨t.val * 128 + d.val, by omega⟩) = at2 k j.val (128 * t.val + d.val) := fun d =>
    (at2_mk k j.isLt (by omega)).trans (congrArg (at2 k j.val) (by omega))
  have hq : ∀ d : Fin 128, (∑ a : Fin 1024, x (ix3 0 i a) * w (ix2 a ⟨t.val * 128 + d.val, by omega⟩)) = query x w i.val (128 * t.val + d.val) := fun d =>
    (query_mk x w i.isLt (by omega)).trans (congrArg (query x w i.val) (by omega))
  simp only [hk, hq]
  unfold score
  exact if_congr (visible_at i j) rfl neg_inf

theorem rExps_at (S : FVec Ideal S1x8x2048x16384 .f32) (t : Fin 8) (i : Fin 2048) (j : Fin 16384) :
    rExps S (ix4 0 t i j) = Ideal.exp (S (ix4 0 t i j) - (Finset.univ : Finset (Fin 16384)).fold max (Ideal.ofBits FTy.f32 0xFF800000#32) (fun l => S (ix4 0 t i l))) := by
  pointwise [rExps]

theorem rWeights_at (b : IVec S2048 1) (E : FVec Ideal S1x8x2048x16384 .f32) (t : Fin 8) (i : Fin 2048) (hb : b (ix1 i) = 1#1) (j : Fin 16384) :
    rWeights b E (ix4 0 t i j) = Ideal.div (E (ix4 0 t i j)) (∑ l : Fin 16384, E (ix4 0 t i l)) := by
  pointwise [rWeights]
  rw [hb]
  exact (if_pos rfl).trans (congrArg (Ideal.div _) (if_pos rfl))

theorem rOut_at (wo : FVec Ideal S1024x1024 .f32) (v : FVec Ideal S16384x1024 .f32) (P : FVec Ideal S1x8x2048x16384 .f32) (i : Fin 2048) (l : Fin 1024) :
    rOut wo v P (ix3 0 i l) = ∑ c : Fin 1024, (∑ j : Fin 16384, P (ix4 0 ⟨c.val / 128, by omega⟩ i j) * v (ix2 j c)) * wo (ix2 c l) := by
  pointwise [rOut]
  simp only [mul_comm (v _)]

/-! ## The result -/

theorem ref_at (x : FVec Ideal S1x2048x1024 .f32) (w wo : FVec Ideal S1024x1024 .f32) (k v : FVec Ideal S16384x1024 .f32) (i : Fin 2048) (l : Fin 1024) :
    rOut wo v (rWeights anySeen (rExps (rScores x w k))) (ix3 0 i l) = result x w wo (at2 k) (at2 v) 16384 i.val l := by
  have hp : ∀ t : Fin 8, (Finset.univ : Finset (Fin 16384)).fold max (Ideal.ofBits FTy.f32 0xFF800000#32) (fun j => rScores x w k (ix4 0 t i j))
      = peak 16384 (score x w (at2 k) i.val t.val) := fun t => by
    rw [neg_inf, ← sup_fin]
    exact congrArg (fun f => Finset.fold max ⊥ f Finset.univ) (funext fun j => rScores_at x w k t i j)
  have he : ∀ (t : Fin 8) (j : Fin 16384), rExps (rScores x w k) (ix4 0 t i j)
      = Ideal.exp (score x w (at2 k) i.val t.val j.val - peak 16384 (score x w (at2 k) i.val t.val)) := fun t j => by
    rw [rExps_at, hp, rScores_at]
  have hw : ∀ (t : Fin 8) (j : Fin 16384), rWeights anySeen (rExps (rScores x w k)) (ix4 0 t i j)
      = weight 16384 (score x w (at2 k) i.val t.val) j.val := fun t j => by
    rw [rWeights_at anySeen _ t i (anySeen_at i) j]
    unfold weight mass
    rw [Finset.sum_range]
    simp only [he]
  rw [rOut_at]
  unfold result attn
  refine Finset.sum_congr rfl fun c _ => congrArg (· * wo (ix2 c l)) ?_
  rw [Finset.sum_range]
  refine Finset.sum_congr rfl fun j _ => ?_
  rw [hw]
  exact congrArg (weight _ _ _ * ·) (at2_mk v j.isLt c.isLt)

end Cert.Attn
-- ==== Proof.Finite.lean ====
/-
# The precondition, and how many keys are read

Queries, query weights and keys are taken finite: every score a row sees is then a real number, so the row's sum of
exponentials is not zero and the keys behind the mask weigh nothing. So a row may be read over 16384 keys, as the
reference does, or over the first few blocks of them, as the kernel does.
-/
module

public import proofs.«01_k».proof.Proof.Formula
public import proofs.«01_k».proof.Pre_finite_KernelIdeal
public import proofs.«01_k».proof.Pre_finite_ReferenceIdeal

@[expose] public section

noncomputable section

namespace Cert.Attn

open Idealize.ShloMosaic

/-! ## What the precondition says -/

instance pre_kernel : Cert.Pre_finite_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S2048x1024 := by decide
  reducesTo_S2048x1024_S_d0_1 := by decide
instance pre_reference : Cert.Pre_finite_ReferenceIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S16384x1024 := by decide
  reducesTo_S16384x1024_S_d0_1 := by decide

theorem pos_inf : Ideal.ofBits FTy.f32 0x7F800000#32 = ⊤ := by simp [Ideal.ofBits, Ideal.ieee]

theorem all_of_fold {ι : Type*} [Fintype ι] [DecidableEq ι] (f : ι → BitVec 1) (h : (Finset.univ : Finset ι).fold IntOp.andi 1#1 f = 1#1) (i : ι) :
    f i = 1#1 := by
  rw [← Finset.insert_erase (Finset.mem_univ i), Finset.fold_insert (Finset.notMem_erase _ _), IntOp.andi_eq_one] at h
  exact h.1

theorem isReal_of_bit {x : Ideal .f32} (h : BitVec.ofBool (decide (FloatOps.absf x < Ideal.ofBits FTy.f32 0x7F800000#32)) = 1#1) : IsReal x := by
  have h1 : decide (FloatOps.absf x < Ideal.ofBits FTy.f32 0x7F800000#32) = true := by
    revert h
    generalize decide (FloatOps.absf x < Ideal.ofBits FTy.f32 0x7F800000#32) = b
    revert b
    decide
  have h2 : max (x : EReal) (-x) < ⊤ := pos_inf ▸ of_decide_eq_true h1
  refine ⟨fun e => ?_, fun e => ?_⟩
  · rw [e] at h2
    exact absurd (lt_of_le_of_lt (le_max_left _ _) h2) (lt_irrefl _)
  · rw [e, EReal.neg_bot] at h2
    exact absurd (lt_of_le_of_lt (le_max_right _ _) h2) (lt_irrefl _)

theorem finite_of_pre (X : FVec Ideal Cert.Pre_finite_KernelIdeal.S1x2048x1024 .f32) (W : FVec Ideal Cert.Pre_finite_KernelIdeal.S1024x1024 .f32)
    (K V : FVec Ideal Cert.Pre_finite_KernelIdeal.S2048x1024 .f32) (WO : FVec Ideal Cert.Pre_finite_KernelIdeal.S1024x1024 .f32)
    (h : Cert.Pre_finite_KernelIdeal.fn X W K V WO = fun _ => 1#1) :
    (∀ i j, IsReal (X (ix3 0 i j))) ∧ (∀ i j, IsReal (W (ix2 i j))) ∧ ∀ i j, IsReal (K (ix2 i j)) := by
  replace h : Cert.Pre_finite_KernelIdeal.fn X W K V WO ix0 = 1#1 := congrFun h ix0
  unfold Cert.Pre_finite_KernelIdeal.fn at h
  pointwise at h
  rw [IntOp.andi_eq_one, IntOp.andi_eq_one] at h
  exact ⟨fun i j => isReal_of_bit (all_of_fold _ h.1.1 (0, i, j)), fun i j => isReal_of_bit (all_of_fold _ h.1.2 (i, j)),
    fun i j => isReal_of_bit (all_of_fold _ h.2 (i, j))⟩

/-! ## A row over more keys -/

theorem scale_real : IsReal scale := by
  unfold scale
  simp only [Ideal.ofBits, Ideal.ieee]
  norm_num
  exact isReal_coe _

section
variable (X : (⟨3, ![1, 2048, 1024]⟩ : Shape).Idx → EReal) (W WO : (⟨2, ![1024, 1024]⟩ : Shape).Idx → EReal) (K V K' V' : ℕ → ℕ → EReal)

theorem product_real (hX : ∀ i j, IsReal (X (ix3 0 i j))) (hW : ∀ i j, IsReal (W (ix2 i j))) {n : ℕ} (hK : ∀ j < n, ∀ c, IsReal (K j c)) (i t j : ℕ) (hj : j < n) :
    IsReal (product X W K i t j) :=
  (IsReal.sum _ fun d _ => (IsReal.sum _ fun k _ => (hX _ k).mul (hW k _)).mul (hK j hj _)).mul scale_real

theorem result_extend {n N i : ℕ} (hn : n ≤ N) (h0 : 0 < n) (hi : ∀ j, n ≤ j → ¬ j / 64 ≤ i / 64)
    (hX : ∀ i j, IsReal (X (ix3 0 i j))) (hW : ∀ i j, IsReal (W (ix2 i j))) (hK : ∀ j < n, ∀ c, IsReal (K j c))
    (eK : ∀ j < n, ∀ c < 1024, K' j c = K j c) (eV : ∀ j < n, ∀ c < 1024, V' j c = V j c) (l : Fin 1024) :
    result X W WO K' V' N i l = result X W WO K V n i l := by
  unfold result
  refine Finset.sum_congr rfl fun c _ => congrArg (· * WO (ix2 c l)) ?_
  have hc := c.isLt
  have eS : ∀ j < n, score X W K' i (c.val / 128) j = score X W K i (c.val / 128) j := fun j hj => by
    unfold score product
    refine if_congr Iff.rfl (congrArg (· * scale) (Finset.sum_congr rfl fun d _ => ?_)) rfl
    rw [eK j hj _ (by omega)]
  have ht : ∀ j < n, score X W K' i (c.val / 128) j ≠ ⊤ := fun j hj => by
    rw [eS j hj]
    by_cases h : j / 64 ≤ i / 64
    · rw [score_of_le X W K h]; exact (product_real X W K hX hW hK i _ j hj).1
    · rw [score_of_lt X W K h]; exact bot_ne_top
  have hb : score X W K' i (c.val / 128) 0 ≠ ⊥ := by
    rw [eS 0 h0, score_of_le X W K (by omega)]
    exact (product_real X W K hX hW hK i _ 0 h0).2
  rw [attn_extend hn (fun j hj => score_of_lt X W K' (hi j hj)) ht ⟨0, h0, hb⟩]
  exact attn_congr eS fun j hj => eV j hj _ hc
end

end Cert.Attn
-- ==== Proof.Algebraic.lean ====
/-
# The kernel computes the reference

Every device's result is the reference's: the rows it holds of the keys and values are device 0's, which are the first 2048
of the whole arrays, and no row sees a later one.
-/
module

public import proofs.«01_k».proof.Proof.Frames
public import proofs.«01_k».proof.Proof.KernelValue
public import proofs.«01_k».proof.Proof.RefValue
public import proofs.«01_k».proof.Proof.Finite

@[expose] public section

noncomputable section

namespace Cert.Attn

open Idealize.ShloMosaic Idealize.SL.Sem

/-- Device 0's block of a whole array: its first rows. -/
theorem at2_block (v : (⟨2, ![16384, 1024]⟩ : Shape).Idx → EReal) (a b : ℕ) (ha : a < 2048) (hb : b < 1024) :
    at2 (Layout.block ⟨2, ![2048, 1024]⟩ ⟨2, ![16384, 1024]⟩ 0 8 0 v) a b = at2 v a b := by
  rw [← at2_mk _ ha hb, ← at2_mk v (a := a) (by omega) hb, Layout.block_apply]
  refine congrArg v (funext fun d => Fin.ext ?_)
  match d with
  | ⟨0, _⟩ => show 0 * 2048 + a = a; omega
  | ⟨1, _⟩ => rfl

theorem values_eq (X : (⟨3, ![1, 2048, 1024]⟩ : Shape).Idx → EReal) (W WO : (⟨2, ![1024, 1024]⟩ : Shape).Idx → EReal)
    (K V : (⟨2, ![16384, 1024]⟩ : Shape).Idx → EReal) (K0 V0 : (⟨2, ![2048, 1024]⟩ : Shape).Idx → EReal)
    (hK0 : K0 = Layout.block ⟨2, ![2048, 1024]⟩ ⟨2, ![16384, 1024]⟩ 0 8 0 K) (hV0 : V0 = Layout.block ⟨2, ![2048, 1024]⟩ ⟨2, ![16384, 1024]⟩ 0 8 0 V)
    (hX : ∀ i j, IsReal (X (ix3 0 i j))) (hW : ∀ i j, IsReal (W (ix2 i j))) (hK : ∀ i j, IsReal (K0 (ix2 i j))) :
    outOf (F := Ideal) X W WO K0 V0 = rOut (F := Ideal) WO V (rWeights anySeen (rExps (rScores X W K))) := by
  funext p
  rw [eq_ix3 p]
  have h0 : p 0 = (0 : Fin 1) := Fin.ext (by have h : (p 0).val < 1 := (p 0).isLt; exact Nat.lt_one_iff.1 h)
  have hi : (p 1).val < 2048 := (p 1).isLt
  rw [h0]
  refine (outOf_at X W WO K0 V0 (p 1) (p 2)).trans (Eq.trans ?_ (ref_at X W WO K V (p 1) (p 2)).symm)
  refine (result_extend X W WO (at2 K0) (at2 V0) (at2 K) (at2 V) (by omega) (by omega) (fun j hj => by omega) hX hW (fun j _ c => hK _ _) ?_ ?_ (p 2)).symm
  · intro j hj c hc
    rw [hK0]; exact (at2_block K j c (by omega) hc).symm
  · intro j hj c hc
    rw [hV0]; exact (at2_block V j c (by omega) hc).symm

theorem quiescent_kernelIdeal_finite : Cert.quiescent_KernelIdeal_pre_finite_KernelIdeal (hKernelIdeal := Cert.KernelIdeal.Gen.facts) (hPre_finite_KernelIdeal := pre_kernel) :=
  fun m ρ _ => quiescent_kernelIdeal m ρ trivial
theorem quiescent_referenceIdeal_finite : Cert.quiescent_ReferenceIdeal_pre_finite_ReferenceIdeal (hReferenceIdeal := Cert.ReferenceIdeal.Gen.facts) (hPre_finite_ReferenceIdeal := pre_reference) :=
  fun m ρ _ => quiescent_referenceIdeal m ρ trivial

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_kernel) := by
  intro m ρ m' ρ' hpre hargs
  refine ⟨Cert.ReferenceIdeal.Value.res_main_v35 (F := Ideal) m' 0, ?_, ?_⟩
  · refine (θ_run Cert.KernelIdeal.defs _ _).mono (fun r h c => ?_) (run_main (F := Ideal) m ρ)
    refine ⟨((h.1 c).1).trans ?_, (h.1 c).2⟩
    obtain ⟨fX, fW, -⟩ := finite_of_pre _ _ _ _ _ (hpre c)
    obtain ⟨-, -, fK⟩ := finite_of_pre _ _ _ _ _ (hpre 0)
    obtain ⟨aX, aW, -, -, aWO⟩ := hargs c
    obtain ⟨-, -, aK, aV, -⟩ := hargs 0
    refine (values_eq _ _ _ _ _ _ _ aK aV fX fW fK).trans ?_
    rw [parts, aX, aW, show WOof m c = _ from aWO]
  · exact (θ_run Cert.ReferenceIdeal.defs _ _).mono (fun r h => h 0) (Cert.ReferenceIdeal.Value.run (F := Ideal) m' ρ')

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Attn.pre_kernel, Cert.Attn.pre_reference,
  Cert.Attn.quiescent_kernel, Cert.Attn.quiescent_kernelIdeal, Cert.Attn.quiescent_kernelIdeal_finite,
  Cert.Attn.quiescent_referenceIdeal, Cert.Attn.quiescent_referenceIdeal_finite, Cert.Attn.preserves, Cert.Attn.algebraic⟩

end Cert.Proof

end
